-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)) (v2 : (c : Dev Cert.KernelIdeal.nD) → Buf (Elt Ideal) ((c.tc : Thread Cert.KernelIdeal.nD Cert.KernelIdeal.τ).loc Cert.KernelIdeal.main_v61_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61_0) = v0 c
          ∧ r.2.mem ((c.tc : Thread Cert.KernelIdeal.nD Cert.KernelIdeal.τ).loc Cert.KernelIdeal.main_v61_1) = v1 c
          ∧ r.2.mem ((c.tc : Thread Cert.KernelIdeal.nD Cert.KernelIdeal.τ).loc Cert.KernelIdeal.main_v61_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v232) = v0 c
          ∧ r.2.mem ((c.tc : Thread Cert.ReferenceIdeal.nD Cert.ReferenceIdeal.τ).loc Cert.ReferenceIdeal.main_v235) = v1 c
          ∧ r.2.mem ((c.tc : Thread Cert.ReferenceIdeal.nD Cert.ReferenceIdeal.τ).loc Cert.ReferenceIdeal.main_v238) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x320x320x3 : Shape := ⟨4, ![16, 320, 320, 3]⟩
abbrev S16x2 : Shape := ⟨2, ![16, 2]⟩
abbrev S16x800x2 : Shape := ⟨3, ![16, 800, 2]⟩
abbrev S16x800x4 : Shape := ⟨3, ![16, 800, 4]⟩
abbrev S16x800x237 : Shape := ⟨3, ![16, 800, 237]⟩
abbrev S16x200x2 : Shape := ⟨3, ![16, 200, 2]⟩
abbrev S16x200x4 : Shape := ⟨3, ![16, 200, 4]⟩
abbrev S16x200x237 : Shape := ⟨3, ![16, 200, 237]⟩
abbrev S2x237 : Shape := ⟨2, ![2, 237]⟩
abbrev S204x1 : Shape := ⟨2, ![204, 1]⟩
abbrev S204x199 : Shape := ⟨2, ![204, 199]⟩
abbrev S204x29 : Shape := ⟨2, ![204, 29]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S_ : Shape := ⟨0, ![]⟩
abbrev S400x1x2 : Shape := ⟨3, ![400, 1, 2]⟩
abbrev S400x2x2 : Shape := ⟨3, ![400, 2, 2]⟩
abbrev S800x2 : Shape := ⟨2, ![800, 2]⟩
abbrev S800x1 : Shape := ⟨2, ![800, 1]⟩
abbrev S800 : Shape := ⟨1, ![800]⟩
abbrev S1x800 : Shape := ⟨2, ![1, 800]⟩
abbrev S10 : Shape := ⟨1, ![10]⟩
abbrev S10x10 : Shape := ⟨2, ![10, 10]⟩
abbrev S10x10x1 : Shape := ⟨3, ![10, 10, 1]⟩
abbrev S10x10x2 : Shape := ⟨3, ![10, 10, 2]⟩
abbrev S100x2 : Shape := ⟨2, ![100, 2]⟩
abbrev S100x1x2 : Shape := ⟨3, ![100, 1, 2]⟩
abbrev S100x2x2 : Shape := ⟨3, ![100, 2, 2]⟩
abbrev S200x2 : Shape := ⟨2, ![200, 2]⟩
abbrev S200x1 : Shape := ⟨2, ![200, 1]⟩
abbrev S200 : Shape := ⟨1, ![200]⟩
abbrev S1x200 : Shape := ⟨2, ![1, 200]⟩
abbrev S68x3 : Shape := ⟨2, ![68, 3]⟩
abbrev S3x68 : Shape := ⟨2, ![3, 68]⟩
abbrev S68x199 : Shape := ⟨2, ![68, 199]⟩
abbrev S68x29 : Shape := ⟨2, ![68, 29]⟩
abbrev S2x16 : Shape := ⟨2, ![2, 16]⟩
abbrev S2x16x800 : Shape := ⟨3, ![2, 16, 800]⟩
abbrev S32x800 : Shape := ⟨2, ![32, 800]⟩
abbrev S2x16x200 : Shape := ⟨3, ![2, 16, 200]⟩
abbrev S32x200 : Shape := ⟨2, ![32, 200]⟩
abbrev S4x16x800 : Shape := ⟨3, ![4, 16, 800]⟩
abbrev S64x800 : Shape := ⟨2, ![64, 800]⟩
abbrev S4x16x200 : Shape := ⟨3, ![4, 16, 200]⟩
abbrev S64x200 : Shape := ⟨2, ![64, 200]⟩
abbrev S16x100x6 : Shape := ⟨3, ![16, 100, 6]⟩
abbrev S1600x68 : Shape := ⟨2, ![1600, 68]⟩
abbrev S16x1 : Shape := ⟨2, ![16, 1]⟩
abbrev S1x16 : Shape := ⟨2, ![1, 16]⟩
abbrev S16x800 : Shape := ⟨2, ![16, 800]⟩
abbrev S16x200 : Shape := ⟨2, ![16, 200]⟩
abbrev S32x600 : Shape := ⟨2, ![32, 600]⟩
abbrev S64x100 : Shape := ⟨2, ![64, 100]⟩
abbrev S64 : Shape := ⟨1, ![64]⟩
abbrev S64x1 : Shape := ⟨2, ![64, 1]⟩
abbrev S32x100 : Shape := ⟨2, ![32, 100]⟩
abbrev S1x100 : Shape := ⟨2, ![1, 100]⟩
abbrev S800x200 : Shape := ⟨2, ![800, 200]⟩
abbrev S200x200 : Shape := ⟨2, ![200, 200]⟩
abbrev S4x800 : Shape := ⟨2, ![4, 800]⟩
abbrev S4x200 : Shape := ⟨2, ![4, 200]⟩
abbrev S4x100 : Shape := ⟨2, ![4, 100]⟩
abbrev S1x4x200 : Shape := ⟨3, ![1, 4, 200]⟩
abbrev S16x4x200 : Shape := ⟨3, ![16, 4, 200]⟩
abbrev S16x1x200 : Shape := ⟨3, ![16, 1, 200]⟩
abbrev S32 : Shape := ⟨1, ![32]⟩
abbrev S32x1 : Shape := ⟨2, ![32, 1]⟩
abbrev S16x100 : Shape := ⟨2, ![16, 100]⟩
abbrev S200x16 : Shape := ⟨2, ![200, 16]⟩
abbrev S200x100 : Shape := ⟨2, ![200, 100]⟩
abbrev S7x200 : Shape := ⟨2, ![7, 200]⟩
abbrev S7x100 : Shape := ⟨2, ![7, 100]⟩
abbrev S1x7x100 : Shape := ⟨3, ![1, 7, 100]⟩
abbrev S16x7x100 : Shape := ⟨3, ![16, 7, 100]⟩
abbrev S16x1x100 : Shape := ⟨3, ![16, 1, 100]⟩
abbrev S16x100x1 : Shape := ⟨3, ![16, 100, 1]⟩
abbrev S800x100 : Shape := ⟨2, ![800, 100]⟩
abbrev S1x800x237 : Shape := ⟨3, ![1, 800, 237]⟩
abbrev S800x237 : Shape := ⟨2, ![800, 237]⟩
abbrev S100x237 : Shape := ⟨2, ![100, 237]⟩
abbrev S1x200x237 : Shape := ⟨3, ![1, 200, 237]⟩
abbrev S200x237 : Shape := ⟨2, ![200, 237]⟩
abbrev S1600x237 : Shape := ⟨2, ![1600, 237]⟩
abbrev S1x237 : Shape := ⟨2, ![1, 237]⟩
abbrev S1600x9 : Shape := ⟨2, ![1600, 9]⟩
abbrev S1600x199 : Shape := ⟨2, ![1600, 199]⟩
abbrev S1600x29 : Shape := ⟨2, ![1600, 29]⟩
abbrev S1x68 : Shape := ⟨2, ![1, 68]⟩
abbrev S1600x1 : Shape := ⟨2, ![1600, 1]⟩
abbrev S1600x16 : Shape := ⟨2, ![1600, 16]⟩
abbrev S1600 : Shape := ⟨1, ![1600]⟩

abbrev nBuf : Space → Nat
  | .hbm => 78
  | .vmem => 19
  | .smem => 0
  | _ => 0

abbrev bufTy : (tb : Table) → Fin (tcTables nBuf tb) → BufTy
  | .hbm, ⟨0, _⟩ => ⟨S16x320x320x3, .f32⟩
  | .hbm, ⟨1, _⟩ => ⟨S16x2, .f32⟩
  | .hbm, ⟨2, _⟩ => ⟨S16x800x2, .f32⟩
  | .hbm, ⟨3, _⟩ => ⟨S16x800x4, .f32⟩
  | .hbm, ⟨4, _⟩ => ⟨S16x800x237, .f32⟩
  | .hbm, ⟨5, _⟩ => ⟨S16x200x2, .f32⟩
  | .hbm, ⟨6, _⟩ => ⟨S16x200x4, .f32⟩
  | .hbm, ⟨7, _⟩ => ⟨S16x200x237, .f32⟩
  | .hbm, ⟨8, _⟩ => ⟨S2x237, .f32⟩
  | .hbm, ⟨9, _⟩ => ⟨S204x1, .f32⟩
  | .hbm, ⟨10, _⟩ => ⟨S204x199, .f32⟩
  | .hbm, ⟨11, _⟩ => ⟨S204x29, .f32⟩
  | .hbm, ⟨12, _⟩ => ⟨S20, .i32⟩
  | .hbm, ⟨13, _⟩ => ⟨S20, .i32⟩
  | .hbm, ⟨14, _⟩ => ⟨S20x20, .i32⟩
  | .hbm, ⟨15, _⟩ => ⟨S20x20, .i32⟩
  | .hbm, ⟨16, _⟩ => ⟨S20x20x1, .i32⟩
  | .hbm, ⟨17, _⟩ => ⟨S20x20x1, .i32⟩
  | .hbm, ⟨18, _⟩ => ⟨S20x20x2, .i32⟩
  | .hbm, ⟨19, _⟩ => ⟨S400x2, .i32⟩
  | .hbm, ⟨20, _⟩ => ⟨S_, .i32⟩
  | .hbm, ⟨21, _⟩ => ⟨S400x2, .i32⟩
  | .hbm, ⟨22, _⟩ => ⟨S400x2, .i32⟩
  | .hbm, ⟨23, _⟩ => ⟨S400x1x2, .i32⟩
  | .hbm, ⟨24, _⟩ => ⟨S400x1x2, .i32⟩
  | .hbm, ⟨25, _⟩ => ⟨S400x2x2, .i32⟩
  | .hbm, ⟨26, _⟩ => ⟨S800x2, .i32⟩
  | .hbm, ⟨27, _⟩ => ⟨S800x2, .f32⟩
  | .hbm, ⟨28, _⟩ => ⟨S800x1, .f32⟩
  | .hbm, ⟨29, _⟩ => ⟨S800, .f32⟩
  | .hbm, ⟨30, _⟩ => ⟨S1x800, .f32⟩
  | .hbm, ⟨31, _⟩ => ⟨S800x1, .f32⟩
  | .hbm, ⟨32, _⟩ => ⟨S800, .f32⟩
  | .hbm, ⟨33, _⟩ => ⟨S1x800, .f32⟩
  | .hbm, ⟨34, _⟩ => ⟨S10, .i32⟩
  | .hbm, ⟨35, _⟩ => ⟨S10, .i32⟩
  | .hbm, ⟨36, _⟩ => ⟨S10x10, .i32⟩
  | .hbm, ⟨37, _⟩ => ⟨S10x10, .i32⟩
  | .hbm, ⟨38, _⟩ => ⟨S10x10x1, .i32⟩
  | .hbm, ⟨39, _⟩ => ⟨S10x10x1, .i32⟩
  | .hbm, ⟨40, _⟩ => ⟨S10x10x2, .i32⟩
  | .hbm, ⟨41, _⟩ => ⟨S100x2, .i32⟩
  | .hbm, ⟨42, _⟩ => ⟨S_, .i32⟩
  | .hbm, ⟨43, _⟩ => ⟨S100x2, .i32⟩
  | .hbm, ⟨44, _⟩ => ⟨S100x2, .i32⟩
  | .hbm, ⟨45, _⟩ => ⟨S100x1x2, .i32⟩
  | .hbm, ⟨46, _⟩ => ⟨S100x1x2, .i32⟩
  | .hbm, ⟨47, _⟩ => ⟨S100x2x2, .i32⟩
  | .hbm, ⟨48, _⟩ => ⟨S200x2, .i32⟩
  | .hbm, ⟨49, _⟩ => ⟨S200x2, .f32⟩
  | .hbm, ⟨50, _⟩ => ⟨S200x1, .f32⟩
  | .hbm, ⟨51, _⟩ => ⟨S200, .f32⟩
  | .hbm, ⟨52, _⟩ => ⟨S1x200, .f32⟩
  | .hbm, ⟨53, _⟩ => ⟨S200x1, .f32⟩
  | .hbm, ⟨54, _⟩ => ⟨S200, .f32⟩
  | .hbm, ⟨55, _⟩ => ⟨S1x200, .f32⟩
  | .hbm, ⟨56, _⟩ => ⟨S68x3, .f32⟩
  | .hbm, ⟨57, _⟩ => ⟨S3x68, .f32⟩
  | .hbm, ⟨58, _⟩ => ⟨S68x199, .f32⟩
  | .hbm, ⟨59, _⟩ => ⟨S68x199, .f32⟩
  | .hbm, ⟨60, _⟩ => ⟨S68x199, .f32⟩
  | .hbm, ⟨61, _⟩ => ⟨S204x199, .f32⟩
  | .hbm, ⟨62, _⟩ => ⟨S68x29, .f32⟩
  | .hbm, ⟨63, _⟩ => ⟨S68x29, .f32⟩
  | .hbm, ⟨64, _⟩ => ⟨S68x29, .f32⟩
  | .hbm, ⟨65, _⟩ => ⟨S204x29, .f32⟩
  | .hbm, ⟨66, _⟩ => ⟨S2x16, .f32⟩
  | .hbm, ⟨67, _⟩ => ⟨S2x16x800, .f32⟩
  | .hbm, ⟨68, _⟩ => ⟨S32x800, .f32⟩
  | .hbm, ⟨69, _⟩ => ⟨S2x16x200, .f32⟩
  | .hbm, ⟨70, _⟩ => ⟨S32x200, .f32⟩
  | .hbm, ⟨71, _⟩ => ⟨S4x16x800, .f32⟩
  | .hbm, ⟨72, _⟩ => ⟨S64x800, .f32⟩
  | .hbm, ⟨73, _⟩ => ⟨S4x16x200, .f32⟩
  | .hbm, ⟨74, _⟩ => ⟨S64x200, .f32⟩
  | .hbm, ⟨75, _⟩ => ⟨S16x100x6, .f32⟩
  | .hbm, ⟨76, _⟩ => ⟨S1600x68, .f32⟩
  | .hbm, ⟨77, _⟩ => ⟨S1600x68, .f32⟩
  | .local _ .vmem, ⟨0, _⟩ => ⟨S16x2, .f32⟩
  | .local _ .vmem, ⟨1, _⟩ => ⟨S2x16, .f32⟩
  | .local _ .vmem, ⟨2, _⟩ => ⟨S32x800, .f32⟩
  | .local _ .vmem, ⟨3, _⟩ => ⟨S64x800, .f32⟩
  | .local _ .vmem, ⟨4, _⟩ => ⟨S16x800x237, .f32⟩
  | .local _ .vmem, ⟨5, _⟩ => ⟨S32x200, .f32⟩
  | .local _ .vmem, ⟨6, _⟩ => ⟨S64x200, .f32⟩
  | .local _ .vmem, ⟨7, _⟩ => ⟨S16x200x237, .f32⟩
  | .local _ .vmem, ⟨8, _⟩ => ⟨S2x237, .f32⟩
  | .local _ .vmem, ⟨9, _⟩ => ⟨S3x68, .f32⟩
  | .local _ .vmem, ⟨10, _⟩ => ⟨S204x199, .f32⟩
  | .local _ .vmem, ⟨11, _⟩ => ⟨S204x29, .f32⟩
  | .local _ .vmem, ⟨12, _⟩ => ⟨S1x800, .f32⟩
  | .local _ .vmem, ⟨13, _⟩ => ⟨S1x800, .f32⟩
  | .local _ .vmem, ⟨14, _⟩ => ⟨S1x200, .f32⟩
  | .local _ .vmem, ⟨15, _⟩ => ⟨S1x200, .f32⟩
  | .local _ .vmem, ⟨16, _⟩ => ⟨S16x100x6, .f32⟩
  | .local _ .vmem, ⟨17, _⟩ => ⟨S1600x68, .f32⟩
  | .local _ .vmem, ⟨18, _⟩ => ⟨S1600x68, .f32⟩
  | _, _ => ⟨S16x320x320x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_0 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61_0 : Ref sig .tc := ⟨.hbm, 75, rfl⟩
abbrev main_v61_1 : Ref sig .tc := ⟨.hbm, 76, rfl⟩
abbrev main_v61_2 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c100_i32 : BitVec 32 := 100#32
  let v93 : BitVec 32 := Scalar.addi c0_i32 c100_i32
  let c1_i32 : BitVec 32 := 1#32
  ⟨c0_i32, v93, c1_i32⟩
@[reducible] def k0_t2_loop : Scf.Loop 32 :=
  let c0_i32_67 : BitVec 32 := 0#32
  let c100_i32_68 : BitVec 32 := 100#32
  let v742 : BitVec 32 := Scalar.addi c0_i32_67 c100_i32_68
  let c1_i32_69 : BitVec 32 := 1#32
  ⟨c0_i32_67, v742, c1_i32_69⟩
abbrev stage0_0 : Fin 1 → Memref sig .tc .vmem S16x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x800 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x800 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x800x237 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x200x237 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x237 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x68 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S204x199 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S204x29 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x800 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x800 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x200 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x200 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S16x100x6 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1600x68 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1600x68 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== ReferenceIdeal.lean ====
abbrev S16x320x320x3 : Shape := ⟨4, ![16, 320, 320, 3]⟩
abbrev S16x2 : Shape := ⟨2, ![16, 2]⟩
abbrev S16x800x2 : Shape := ⟨3, ![16, 800, 2]⟩
abbrev S16x800x4 : Shape := ⟨3, ![16, 800, 4]⟩
abbrev S16x800x237 : Shape := ⟨3, ![16, 800, 237]⟩
abbrev S16x200x2 : Shape := ⟨3, ![16, 200, 2]⟩
abbrev S16x200x4 : Shape := ⟨3, ![16, 200, 4]⟩
abbrev S16x200x237 : Shape := ⟨3, ![16, 200, 237]⟩
abbrev S2x237 : Shape := ⟨2, ![2, 237]⟩
abbrev S204x1 : Shape := ⟨2, ![204, 1]⟩
abbrev S204x199 : Shape := ⟨2, ![204, 199]⟩
abbrev S204x29 : Shape := ⟨2, ![204, 29]⟩
abbrev S_ : Shape := ⟨0, ![]⟩
abbrev S20 : Shape := ⟨1, ![20]⟩
abbrev S20x20 : Shape := ⟨2, ![20, 20]⟩
abbrev S20x20x1 : Shape := ⟨3, ![20, 20, 1]⟩
abbrev S20x20x2 : Shape := ⟨3, ![20, 20, 2]⟩
abbrev S400x2 : Shape := ⟨2, ![400, 2]⟩
abbrev S400x1x2 : Shape := ⟨3, ![400, 1, 2]⟩
abbrev S400x2x2 : Shape := ⟨3, ![400, 2, 2]⟩
abbrev S800x2 : Shape := ⟨2, ![800, 2]⟩
abbrev S800x1 : Shape := ⟨2, ![800, 1]⟩
abbrev S800 : Shape := ⟨1, ![800]⟩
abbrev S1x800 : Shape := ⟨2, ![1, 800]⟩
abbrev S16x800x1 : Shape := ⟨3, ![16, 800, 1]⟩
abbrev S16x800 : Shape := ⟨2, ![16, 800]⟩
abbrev S1x237 : Shape := ⟨2, ![1, 237]⟩
abbrev S237 : Shape := ⟨1, ![237]⟩
abbrev S1x1x237 : Shape := ⟨3, ![1, 1, 237]⟩
abbrev S16x800x9 : Shape := ⟨3, ![16, 800, 9]⟩
abbrev S16x800x3x3 : Shape := ⟨4, ![16, 800, 3, 3]⟩
abbrev S16x800x199 : Shape := ⟨3, ![16, 800, 199]⟩
abbrev S16x800x29 : Shape := ⟨3, ![16, 800, 29]⟩
abbrev S204 : Shape := ⟨1, ![204]⟩
abbrev S1x1x204 : Shape := ⟨3, ![1, 1, 204]⟩
abbrev S199x204 : Shape := ⟨2, ![199, 204]⟩
abbrev S16x800x204 : Shape := ⟨3, ![16, 800, 204]⟩
abbrev S29x204 : Shape := ⟨2, ![29, 204]⟩
abbrev S16x800x68x3 : Shape := ⟨4, ![16, 800, 68, 3]⟩
abbrev S16x800x68x2 : Shape := ⟨4, ![16, 800, 68, 2]⟩
abbrev S16x2x800 : Shape := ⟨3, ![16, 2, 800]⟩
abbrev S16x2x100 : Shape := ⟨3, ![16, 2, 100]⟩
abbrev S16x1x800x4 : Shape := ⟨4, ![16, 1, 800, 4]⟩
abbrev S16x2x800x4 : Shape := ⟨4, ![16, 2, 800, 4]⟩
abbrev S16x1x800x68x2 : Shape := ⟨5, ![16, 1, 800, 68, 2]⟩
abbrev S16x2x800x68x2 : Shape := ⟨5, ![16, 2, 800, 68, 2]⟩
abbrev S16x2x100x1 : Shape := ⟨4, ![16, 2, 100, 1]⟩
abbrev S16x2x100x4 : Shape := ⟨4, ![16, 2, 100, 4]⟩
abbrev S16x2x100x68x2 : Shape := ⟨5, ![16, 2, 100, 68, 2]⟩
abbrev S10 : Shape := ⟨1, ![10]⟩
abbrev S10x10 : Shape := ⟨2, ![10, 10]⟩
abbrev S10x10x1 : Shape := ⟨3, ![10, 10, 1]⟩
abbrev S10x10x2 : Shape := ⟨3, ![10, 10, 2]⟩
abbrev S100x2 : Shape := ⟨2, ![100, 2]⟩
abbrev S100x1x2 : Shape := ⟨3, ![100, 1, 2]⟩
abbrev S100x2x2 : Shape := ⟨3, ![100, 2, 2]⟩
abbrev S200x2 : Shape := ⟨2, ![200, 2]⟩
abbrev S200x1 : Shape := ⟨2, ![200, 1]⟩
abbrev S200 : Shape := ⟨1, ![200]⟩
abbrev S1x200 : Shape := ⟨2, ![1, 200]⟩
abbrev S16x200x1 : Shape := ⟨3, ![16, 200, 1]⟩
abbrev S16x200 : Shape := ⟨2, ![16, 200]⟩
abbrev S16x200x9 : Shape := ⟨3, ![16, 200, 9]⟩
abbrev S16x200x3x3 : Shape := ⟨4, ![16, 200, 3, 3]⟩
abbrev S16x200x199 : Shape := ⟨3, ![16, 200, 199]⟩
abbrev S16x200x29 : Shape := ⟨3, ![16, 200, 29]⟩
abbrev S16x200x204 : Shape := ⟨3, ![16, 200, 204]⟩
abbrev S16x200x68x3 : Shape := ⟨4, ![16, 200, 68, 3]⟩
abbrev S16x200x68x2 : Shape := ⟨4, ![16, 200, 68, 2]⟩
abbrev S16x2x200 : Shape := ⟨3, ![16, 2, 200]⟩
abbrev S16x1x200x4 : Shape := ⟨4, ![16, 1, 200, 4]⟩
abbrev S16x2x200x4 : Shape := ⟨4, ![16, 2, 200, 4]⟩
abbrev S16x1x200x68x2 : Shape := ⟨5, ![16, 1, 200, 68, 2]⟩
abbrev S16x2x200x68x2 : Shape := ⟨5, ![16, 2, 200, 68, 2]⟩
abbrev S16x1 : Shape := ⟨2, ![16, 1]⟩
abbrev S16 : Shape := ⟨1, ![16]⟩
abbrev S16x4 : Shape := ⟨2, ![16, 4]⟩
abbrev S16x1x1x4 : Shape := ⟨4, ![16, 1, 1, 4]⟩
abbrev S16x1x1x1x2 : Shape := ⟨5, ![16, 1, 1, 1, 2]⟩
abbrev S100x16x2 : Shape := ⟨3, ![100, 16, 2]⟩
abbrev S100x16x2x4 : Shape := ⟨4, ![100, 16, 2, 4]⟩
abbrev S100x16x2x68x2 : Shape := ⟨5, ![100, 16, 2, 68, 2]⟩
abbrev S16x2x1 : Shape := ⟨3, ![16, 2, 1]⟩
abbrev S16x2x1x1 : Shape := ⟨4, ![16, 2, 1, 1]⟩
abbrev S16x2x1x4 : Shape := ⟨4, ![16, 2, 1, 4]⟩
abbrev S16x2x4 : Shape := ⟨3, ![16, 2, 4]⟩
abbrev S16x2x1x68x2 : Shape := ⟨5, ![16, 2, 1, 68, 2]⟩
abbrev S16x2x68x2 : Shape := ⟨4, ![16, 2, 68, 2]⟩
abbrev S16x2x200x1 : Shape := ⟨4, ![16, 2, 200, 1]⟩
abbrev S1x16x2 : Shape := ⟨3, ![1, 16, 2]⟩
abbrev S1x16x2x4 : Shape := ⟨4, ![1, 16, 2, 4]⟩
abbrev S1x16x2x68x2 : Shape := ⟨5, ![1, 16, 2, 68, 2]⟩
abbrev S2 : Shape := ⟨1, ![2]⟩
abbrev S1x2x1 : Shape := ⟨3, ![1, 2, 1]⟩
abbrev S16x100 : Shape := ⟨2, ![16, 100]⟩
abbrev S16x100x1 : Shape := ⟨3, ![16, 100, 1]⟩
abbrev S16x100x4 : Shape := ⟨3, ![16, 100, 4]⟩
abbrev S16x100x68x2 : Shape := ⟨4, ![16, 100, 68, 2]⟩
abbrev S16x100x5 : Shape := ⟨3, ![16, 100, 5]⟩
abbrev S16x100x6 : Shape := ⟨3, ![16, 100, 6]⟩
abbrev S16x100x68x1 : Shape := ⟨4, ![16, 100, 68, 1]⟩
abbrev S16x100x68 : Shape := ⟨3, ![16, 100, 68]⟩
abbrev S1600x68 : Shape := ⟨2, ![1600, 68]⟩

abbrev nBuf : Space → Nat
  | .hbm => 396
  | .vmem => 0
  | .smem => 0
  | _ => 0

abbrev hbmTy0_0 (i : Nat) : BufTy := match i % 128 with
  | 0 => ⟨S16x320x320x3, .f32⟩
  | 1 => ⟨S16x2, .f32⟩
  | 2 => ⟨S16x800x2, .f32⟩
  | 3 => ⟨S16x800x4, .f32⟩
  | 4 => ⟨S16x800x237, .f32⟩
  | 5 => ⟨S16x200x2, .f32⟩
  | 6 => ⟨S16x200x4, .f32⟩
  | 7 => ⟨S16x200x237, .f32⟩
  | 8 => ⟨S2x237, .f32⟩
  | 9 => ⟨S204x1, .f32⟩
  | 10 => ⟨S204x199, .f32⟩
  | 11 => ⟨S204x29, .f32⟩
  | 12 => ⟨S16x800x2, .f32⟩
  | 13 => ⟨S16x800x2, .f32⟩
  | 14 => ⟨S_, .f32⟩
  | 15 => ⟨S16x800x2, .f32⟩
  | 16 => ⟨S16x800x2, .f32⟩
  | 17 => ⟨S_, .f32⟩
  | 18 => ⟨S16x800x2, .f32⟩
  | 19 => ⟨S16x800x2, .f32⟩
  | 20 => ⟨S20, .i32⟩
  | 21 => ⟨S20, .i32⟩
  | 22 => ⟨S20x20, .i32⟩
  | 23 => ⟨S20x20, .i32⟩
  | 24 => ⟨S20x20x1, .i32⟩
  | 25 => ⟨S20x20x1, .i32⟩
  | 26 => ⟨S20x20x2, .i32⟩
  | 27 => ⟨S400x2, .i32⟩
  | 28 => ⟨S_, .i32⟩
  | 29 => ⟨S400x2, .i32⟩
  | 30 => ⟨S400x2, .i32⟩
  | 31 => ⟨S400x1x2, .i32⟩
  | 32 => ⟨S400x1x2, .i32⟩
  | 33 => ⟨S400x2x2, .i32⟩
  | 34 => ⟨S800x2, .i32⟩
  | 35 => ⟨S800x2, .f32⟩
  | 36 => ⟨S_, .f32⟩
  | 37 => ⟨S16x800x4, .f32⟩
  | 38 => ⟨S16x800x4, .f32⟩
  | 39 => ⟨S800x1, .f32⟩
  | 40 => ⟨S800, .f32⟩
  | 41 => ⟨S1x800, .f32⟩
  | 42 => ⟨S16x800x1, .f32⟩
  | 43 => ⟨S16x800, .f32⟩
  | 44 => ⟨S16x800, .f32⟩
  | 45 => ⟨S16x800, .f32⟩
  | 46 => ⟨S800x1, .f32⟩
  | 47 => ⟨S800, .f32⟩
  | 48 => ⟨S1x800, .f32⟩
  | 49 => ⟨S16x800x1, .f32⟩
  | 50 => ⟨S16x800, .f32⟩
  | 51 => ⟨S16x800, .f32⟩
  | 52 => ⟨S16x800, .f32⟩
  | 53 => ⟨S800x1, .f32⟩
  | 54 => ⟨S800, .f32⟩
  | 55 => ⟨S1x800, .f32⟩
  | 56 => ⟨S16x800x1, .f32⟩
  | 57 => ⟨S16x800, .f32⟩
  | 58 => ⟨S16x800, .f32⟩
  | 59 => ⟨S16x800, .f32⟩
  | 60 => ⟨S800x1, .f32⟩
  | 61 => ⟨S800, .f32⟩
  | 62 => ⟨S1x800, .f32⟩
  | 63 => ⟨S16x800x1, .f32⟩
  | 64 => ⟨S16x800, .f32⟩
  | 65 => ⟨S16x800, .f32⟩
  | 66 => ⟨S16x800, .f32⟩
  | 67 => ⟨S16x800x1, .f32⟩
  | 68 => ⟨S16x800x1, .f32⟩
  | 69 => ⟨S16x800x2, .f32⟩
  | 70 => ⟨S16x800x1, .f32⟩
  | 71 => ⟨S16x800x1, .f32⟩
  | 72 => ⟨S16x800x2, .f32⟩
  | 73 => ⟨S16x800x4, .f32⟩
  | 74 => ⟨S1x237, .f32⟩
  | 75 => ⟨S237, .f32⟩
  | 76 => ⟨S1x1x237, .f32⟩
  | 77 => ⟨S16x800x237, .f32⟩
  | 78 => ⟨S16x800x237, .f32⟩
  | 79 => ⟨S1x237, .f32⟩
  | 80 => ⟨S237, .f32⟩
  | 81 => ⟨S1x1x237, .f32⟩
  | 82 => ⟨S16x800x237, .f32⟩
  | 83 => ⟨S16x800x237, .f32⟩
  | 84 => ⟨S16x800x9, .f32⟩
  | 85 => ⟨S16x800x3x3, .f32⟩
  | 86 => ⟨S16x800x199, .f32⟩
  | 87 => ⟨S16x800x29, .f32⟩
  | 88 => ⟨S204, .f32⟩
  | 89 => ⟨S1x1x204, .f32⟩
  | 90 => ⟨S199x204, .f32⟩
  | 91 => ⟨S16x800x204, .f32⟩
  | 92 => ⟨S16x800x204, .f32⟩
  | 93 => ⟨S16x800x204, .f32⟩
  | 94 => ⟨S29x204, .f32⟩
  | 95 => ⟨S16x800x204, .f32⟩
  | 96 => ⟨S16x800x204, .f32⟩
  | 97 => ⟨S16x800x68x3, .f32⟩
  | 98 => ⟨S16x800x68x3, .f32⟩
  | 99 => ⟨S16x800x68x2, .f32⟩
  | 100 => ⟨S16x2x800, .f32⟩
  | 101 => ⟨S16x2x100, .f32⟩
  | 102 => ⟨S16x2x100, .i32⟩
  | 103 => ⟨S16x1x800x4, .f32⟩
  | 104 => ⟨S16x2x800x4, .f32⟩
  | 105 => ⟨S16x1x800x68x2, .f32⟩
  | 106 => ⟨S16x2x800x68x2, .f32⟩
  | 107 => ⟨S16x2x100x1, .i32⟩
  | 108 => ⟨S16x2x100x4, .f32⟩
  | 109 => ⟨S16x2x100x1, .i32⟩
  | 110 => ⟨S16x2x100x68x2, .f32⟩
  | 111 => ⟨S16x200x2, .f32⟩
  | 112 => ⟨S16x200x2, .f32⟩
  | 113 => ⟨S_, .f32⟩
  | 114 => ⟨S16x200x2, .f32⟩
  | 115 => ⟨S16x200x2, .f32⟩
  | 116 => ⟨S_, .f32⟩
  | 117 => ⟨S16x200x2, .f32⟩
  | 118 => ⟨S16x200x2, .f32⟩
  | 119 => ⟨S10, .i32⟩
  | 120 => ⟨S10, .i32⟩
  | 121 => ⟨S10x10, .i32⟩
  | 122 => ⟨S10x10, .i32⟩
  | 123 => ⟨S10x10x1, .i32⟩
  | 124 => ⟨S10x10x1, .i32⟩
  | 125 => ⟨S10x10x2, .i32⟩
  | 126 => ⟨S100x2, .i32⟩
  | 127 => ⟨S_, .i32⟩
  | _ => ⟨S16x320x320x3, .f32⟩

abbrev hbmTy0_1 (i : Nat) : BufTy := match i % 128 with
  | 0 => ⟨S100x2, .i32⟩
  | 1 => ⟨S100x2, .i32⟩
  | 2 => ⟨S100x1x2, .i32⟩
  | 3 => ⟨S100x1x2, .i32⟩
  | 4 => ⟨S100x2x2, .i32⟩
  | 5 => ⟨S200x2, .i32⟩
  | 6 => ⟨S200x2, .f32⟩
  | 7 => ⟨S_, .f32⟩
  | 8 => ⟨S16x200x4, .f32⟩
  | 9 => ⟨S16x200x4, .f32⟩
  | 10 => ⟨S200x1, .f32⟩
  | 11 => ⟨S200, .f32⟩
  | 12 => ⟨S1x200, .f32⟩
  | 13 => ⟨S16x200x1, .f32⟩
  | 14 => ⟨S16x200, .f32⟩
  | 15 => ⟨S16x200, .f32⟩
  | 16 => ⟨S16x200, .f32⟩
  | 17 => ⟨S200x1, .f32⟩
  | 18 => ⟨S200, .f32⟩
  | 19 => ⟨S1x200, .f32⟩
  | 20 => ⟨S16x200x1, .f32⟩
  | 21 => ⟨S16x200, .f32⟩
  | 22 => ⟨S16x200, .f32⟩
  | 23 => ⟨S16x200, .f32⟩
  | 24 => ⟨S200x1, .f32⟩
  | 25 => ⟨S200, .f32⟩
  | 26 => ⟨S1x200, .f32⟩
  | 27 => ⟨S16x200x1, .f32⟩
  | 28 => ⟨S16x200, .f32⟩
  | 29 => ⟨S16x200, .f32⟩
  | 30 => ⟨S16x200, .f32⟩
  | 31 => ⟨S200x1, .f32⟩
  | 32 => ⟨S200, .f32⟩
  | 33 => ⟨S1x200, .f32⟩
  | 34 => ⟨S16x200x1, .f32⟩
  | 35 => ⟨S16x200, .f32⟩
  | 36 => ⟨S16x200, .f32⟩
  | 37 => ⟨S16x200, .f32⟩
  | 38 => ⟨S16x200x1, .f32⟩
  | 39 => ⟨S16x200x1, .f32⟩
  | 40 => ⟨S16x200x2, .f32⟩
  | 41 => ⟨S16x200x1, .f32⟩
  | 42 => ⟨S16x200x1, .f32⟩
  | 43 => ⟨S16x200x2, .f32⟩
  | 44 => ⟨S16x200x4, .f32⟩
  | 45 => ⟨S1x237, .f32⟩
  | 46 => ⟨S237, .f32⟩
  | 47 => ⟨S1x1x237, .f32⟩
  | 48 => ⟨S16x200x237, .f32⟩
  | 49 => ⟨S16x200x237, .f32⟩
  | 50 => ⟨S1x237, .f32⟩
  | 51 => ⟨S237, .f32⟩
  | 52 => ⟨S1x1x237, .f32⟩
  | 53 => ⟨S16x200x237, .f32⟩
  | 54 => ⟨S16x200x237, .f32⟩
  | 55 => ⟨S16x200x9, .f32⟩
  | 56 => ⟨S16x200x3x3, .f32⟩
  | 57 => ⟨S16x200x199, .f32⟩
  | 58 => ⟨S16x200x29, .f32⟩
  | 59 => ⟨S204, .f32⟩
  | 60 => ⟨S1x1x204, .f32⟩
  | 61 => ⟨S199x204, .f32⟩
  | 62 => ⟨S16x200x204, .f32⟩
  | 63 => ⟨S16x200x204, .f32⟩
  | 64 => ⟨S16x200x204, .f32⟩
  | 65 => ⟨S29x204, .f32⟩
  | 66 => ⟨S16x200x204, .f32⟩
  | 67 => ⟨S16x200x204, .f32⟩
  | 68 => ⟨S16x200x68x3, .f32⟩
  | 69 => ⟨S16x200x68x3, .f32⟩
  | 70 => ⟨S16x200x68x2, .f32⟩
  | 71 => ⟨S16x2x200, .f32⟩
  | 72 => ⟨S16x2x100, .f32⟩
  | 73 => ⟨S16x2x100, .i32⟩
  | 74 => ⟨S16x1x200x4, .f32⟩
  | 75 => ⟨S16x2x200x4, .f32⟩
  | 76 => ⟨S16x1x200x68x2, .f32⟩
  | 77 => ⟨S16x2x200x68x2, .f32⟩
  | 78 => ⟨S16x2x100x1, .i32⟩
  | 79 => ⟨S16x2x100x4, .f32⟩
  | 80 => ⟨S16x2x100x1, .i32⟩
  | 81 => ⟨S16x2x100x68x2, .f32⟩
  | 82 => ⟨S16x2x200, .f32⟩
  | 83 => ⟨S16x2x200x4, .f32⟩
  | 84 => ⟨S16x2x200x68x2, .f32⟩
  | 85 => ⟨S_, .f32⟩
  | 86 => ⟨S16x2, .f32⟩
  | 87 => ⟨S16x2, .f32⟩
  | 88 => ⟨S16x1, .f32⟩
  | 89 => ⟨S16, .f32⟩
  | 90 => ⟨S16x1, .f32⟩
  | 91 => ⟨S16, .f32⟩
  | 92 => ⟨S16x1, .f32⟩
  | 93 => ⟨S16x1, .f32⟩
  | 94 => ⟨S16x2, .f32⟩
  | 95 => ⟨S16x4, .f32⟩
  | 96 => ⟨S16x1x1x4, .f32⟩
  | 97 => ⟨S16x2x200x4, .f32⟩
  | 98 => ⟨S16x2x200x4, .f32⟩
  | 99 => ⟨S16x1x1x1x2, .f32⟩
  | 100 => ⟨S16x2x200x68x2, .f32⟩
  | 101 => ⟨S16x2x200x68x2, .f32⟩
  | 102 => ⟨S_, .f32⟩
  | 103 => ⟨S16x2x200, .f32⟩
  | 104 => ⟨S16x2x200, .i1⟩
  | 105 => ⟨S_, .f32⟩
  | 106 => ⟨S_, .f32⟩
  | 107 => ⟨S16x2x200, .f32⟩
  | 108 => ⟨S16x2x200, .f32⟩
  | 109 => ⟨S_, .f32⟩
  | 110 => ⟨S100x16x2, .f32⟩
  | 111 => ⟨S_, .f32⟩
  | 112 => ⟨S100x16x2x4, .f32⟩
  | 113 => ⟨S_, .f32⟩
  | 114 => ⟨S100x16x2x68x2, .f32⟩
  | 115 => ⟨S_, .i32⟩
  | 116 => ⟨S16x2x200x4, .f32⟩
  | 117 => ⟨S16x2x200x68x2, .f32⟩
  | 118 => ⟨S_, .i32⟩
  | 119 => ⟨S16x2x200, .f32⟩
  | 120 => ⟨S100x16x2, .f32⟩
  | 121 => ⟨S100x16x2x4, .f32⟩
  | 122 => ⟨S100x16x2x68x2, .f32⟩
  | 123 => ⟨S_, .i32⟩
  | 124 => ⟨S_, .i1⟩
  | 125 => ⟨S16x2x1, .f32⟩
  | 126 => ⟨S16x2x1, .i32⟩
  | 127 => ⟨S16x2x1x1, .i32⟩
  | _ => ⟨S16x320x320x3, .f32⟩

abbrev hbmTy0_2 (i : Nat) : BufTy := match i % 128 with
  | 0 => ⟨S16x2x1x4, .f32⟩
  | 1 => ⟨S16x2x4, .f32⟩
  | 2 => ⟨S16x2x1x1, .i32⟩
  | 3 => ⟨S16x2x1x68x2, .f32⟩
  | 4 => ⟨S16x2x68x2, .f32⟩
  | 5 => ⟨S16x2x1x4, .f32⟩
  | 6 => ⟨S16x2x1x1, .f32⟩
  | 7 => ⟨S16x2x1, .f32⟩
  | 8 => ⟨S16x2x200x1, .f32⟩
  | 9 => ⟨S16x2x200, .f32⟩
  | 10 => ⟨S16x2x200, .f32⟩
  | 11 => ⟨S16x2x200, .f32⟩
  | 12 => ⟨S16x2x1x1, .f32⟩
  | 13 => ⟨S16x2x1, .f32⟩
  | 14 => ⟨S16x2x200x1, .f32⟩
  | 15 => ⟨S16x2x200, .f32⟩
  | 16 => ⟨S16x2x200, .f32⟩
  | 17 => ⟨S16x2x200, .f32⟩
  | 18 => ⟨S16x2x1x1, .f32⟩
  | 19 => ⟨S16x2x1, .f32⟩
  | 20 => ⟨S16x2x200x1, .f32⟩
  | 21 => ⟨S16x2x200, .f32⟩
  | 22 => ⟨S16x2x200, .f32⟩
  | 23 => ⟨S16x2x200, .f32⟩
  | 24 => ⟨S16x2x1x1, .f32⟩
  | 25 => ⟨S16x2x1, .f32⟩
  | 26 => ⟨S16x2x200x1, .f32⟩
  | 27 => ⟨S16x2x200, .f32⟩
  | 28 => ⟨S16x2x200, .f32⟩
  | 29 => ⟨S16x2x200, .f32⟩
  | 30 => ⟨S16x2x200, .f32⟩
  | 31 => ⟨S_, .f32⟩
  | 32 => ⟨S_, .f32⟩
  | 33 => ⟨S16x2x200, .f32⟩
  | 34 => ⟨S16x2x200, .f32⟩
  | 35 => ⟨S16x2x200, .f32⟩
  | 36 => ⟨S_, .f32⟩
  | 37 => ⟨S_, .f32⟩
  | 38 => ⟨S16x2x200, .f32⟩
  | 39 => ⟨S16x2x200, .f32⟩
  | 40 => ⟨S16x2x200, .f32⟩
  | 41 => ⟨S16x2x1x1, .f32⟩
  | 42 => ⟨S16x2x1, .f32⟩
  | 43 => ⟨S16x2x1x1, .f32⟩
  | 44 => ⟨S16x2x1, .f32⟩
  | 45 => ⟨S16x2x1, .f32⟩
  | 46 => ⟨S_, .f32⟩
  | 47 => ⟨S_, .f32⟩
  | 48 => ⟨S16x2x1, .f32⟩
  | 49 => ⟨S16x2x1, .f32⟩
  | 50 => ⟨S16x2x1x1, .f32⟩
  | 51 => ⟨S16x2x1, .f32⟩
  | 52 => ⟨S16x2x1x1, .f32⟩
  | 53 => ⟨S16x2x1, .f32⟩
  | 54 => ⟨S16x2x1, .f32⟩
  | 55 => ⟨S_, .f32⟩
  | 56 => ⟨S_, .f32⟩
  | 57 => ⟨S16x2x1, .f32⟩
  | 58 => ⟨S16x2x1, .f32⟩
  | 59 => ⟨S16x2x1, .f32⟩
  | 60 => ⟨S16x2x200x1, .f32⟩
  | 61 => ⟨S16x2x200, .f32⟩
  | 62 => ⟨S16x2x200x1, .f32⟩
  | 63 => ⟨S16x2x200, .f32⟩
  | 64 => ⟨S16x2x200, .f32⟩
  | 65 => ⟨S_, .f32⟩
  | 66 => ⟨S_, .f32⟩
  | 67 => ⟨S16x2x200, .f32⟩
  | 68 => ⟨S16x2x200, .f32⟩
  | 69 => ⟨S16x2x200x1, .f32⟩
  | 70 => ⟨S16x2x200, .f32⟩
  | 71 => ⟨S16x2x200x1, .f32⟩
  | 72 => ⟨S16x2x200, .f32⟩
  | 73 => ⟨S16x2x200, .f32⟩
  | 74 => ⟨S_, .f32⟩
  | 75 => ⟨S_, .f32⟩
  | 76 => ⟨S16x2x200, .f32⟩
  | 77 => ⟨S16x2x200, .f32⟩
  | 78 => ⟨S16x2x200, .f32⟩
  | 79 => ⟨S16x2x200, .f32⟩
  | 80 => ⟨S16x2x200, .f32⟩
  | 81 => ⟨S16x2x200, .f32⟩
  | 82 => ⟨S_, .f32⟩
  | 83 => ⟨S16x2x200, .f32⟩
  | 84 => ⟨S16x2x200, .f32⟩
  | 85 => ⟨S16x2x200, .f32⟩
  | 86 => ⟨S_, .f32⟩
  | 87 => ⟨S16x2x200, .f32⟩
  | 88 => ⟨S16x2x200, .i1⟩
  | 89 => ⟨S_, .f32⟩
  | 90 => ⟨S_, .f32⟩
  | 91 => ⟨S16x2x200, .f32⟩
  | 92 => ⟨S16x2x200, .f32⟩
  | 93 => ⟨S16x2, .f32⟩
  | 94 => ⟨S1x16x2, .f32⟩
  | 95 => ⟨S_, .i32⟩
  | 96 => ⟨S_, .i32⟩
  | 97 => ⟨S100x16x2, .f32⟩
  | 98 => ⟨S1x16x2x4, .f32⟩
  | 99 => ⟨S_, .i32⟩
  | 100 => ⟨S_, .i32⟩
  | 101 => ⟨S_, .i32⟩
  | 102 => ⟨S100x16x2x4, .f32⟩
  | 103 => ⟨S1x16x2x68x2, .f32⟩
  | 104 => ⟨S_, .i32⟩
  | 105 => ⟨S_, .i32⟩
  | 106 => ⟨S_, .i32⟩
  | 107 => ⟨S_, .i32⟩
  | 108 => ⟨S100x16x2x68x2, .f32⟩
  | 109 => ⟨S_, .i32⟩
  | 110 => ⟨S_, .i32⟩
  | 111 => ⟨S16x2x100, .f32⟩
  | 112 => ⟨S16x2x100x4, .f32⟩
  | 113 => ⟨S16x2x100x68x2, .f32⟩
  | 114 => ⟨S16x200, .f32⟩
  | 115 => ⟨S16x200x4, .f32⟩
  | 116 => ⟨S16x200x68x2, .f32⟩
  | 117 => ⟨S2, .i32⟩
  | 118 => ⟨S1x2x1, .i32⟩
  | 119 => ⟨S16x2x100, .i32⟩
  | 120 => ⟨S16x200, .i32⟩
  | 121 => ⟨S16x100, .f32⟩
  | 122 => ⟨S16x100, .i32⟩
  | 123 => ⟨S16x100x1, .i32⟩
  | 124 => ⟨S16x100x4, .f32⟩
  | 125 => ⟨S16x100x1, .i32⟩
  | 126 => ⟨S16x100x68x2, .f32⟩
  | 127 => ⟨S16x100x1, .i32⟩
  | _ => ⟨S16x320x320x3, .f32⟩

abbrev hbmTy0_3 (i : Nat) : BufTy := match i % 128 with
  | 0 => ⟨S16x100, .i32⟩
  | 1 => ⟨S16x100, .f32⟩
  | 2 => ⟨S16x100x1, .f32⟩
  | 3 => ⟨S16x100x5, .f32⟩
  | 4 => ⟨S16x100x1, .f32⟩
  | 5 => ⟨S16x100x6, .f32⟩
  | 6 => ⟨S16x100x68x1, .f32⟩
  | 7 => ⟨S16x100x68, .f32⟩
  | 8 => ⟨S1600x68, .f32⟩
  | 9 => ⟨S16x100x68x1, .f32⟩
  | 10 => ⟨S16x100x68, .f32⟩
  | 11 => ⟨S1600x68, .f32⟩
  | _ => ⟨S16x320x320x3, .f32⟩

abbrev hbmTy (i : Nat) : BufTy := match i / 128 with
  | 0 => hbmTy0_0 i
  | 1 => hbmTy0_1 i
  | 2 => hbmTy0_2 i
  | 3 => hbmTy0_3 i
  | _ => ⟨S16x320x320x3, .f32⟩

abbrev bufTy : (tb : Table) → Fin (tcTables nBuf tb) → BufTy
  | .hbm, ⟨i, _⟩ => hbmTy i
  | _, _ => ⟨S16x320x320x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_1 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_values : Ref sig .tc := ⟨.hbm, 101, rfl⟩
abbrev main_indices : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_2 : Ref sig .tc := ⟨.hbm, 113, rfl⟩
abbrev main_v95 : Ref sig .tc := ⟨.hbm, 114, rfl⟩
abbrev main_v96 : Ref sig .tc := ⟨.hbm, 115, rfl⟩
abbrev main_cst_3 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_c_4 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_cst_5 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_v169 : Ref sig .tc := ⟨.hbm, 191, rfl⟩
abbrev main_v170 : Ref sig .tc := ⟨.hbm, 192, rfl⟩
abbrev main_v171 : Ref sig .tc := ⟨.hbm, 193, rfl⟩
abbrev main_v172 : Ref sig .tc := ⟨.hbm, 194, rfl⟩
abbrev main_v173 : Ref sig .tc := ⟨.hbm, 195, rfl⟩
abbrev main_v174 : Ref sig .tc := ⟨.hbm, 196, rfl⟩
abbrev main_v175 : Ref sig .tc := ⟨.hbm, 197, rfl⟩
abbrev main_v176 : Ref sig .tc := ⟨.hbm, 198, rfl⟩
abbrev main_v177 : Ref sig .tc := ⟨.hbm, 199, rfl⟩
abbrev main_values_6 : Ref sig .tc := ⟨.hbm, 200, rfl⟩
abbrev main_indices_7 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_cst_8 : Ref sig .tc := ⟨.hbm, 213, rfl⟩
abbrev main_v189 : Ref sig .tc := ⟨.hbm, 214, rfl⟩
abbrev main_v190 : Ref sig .tc := ⟨.hbm, 215, rfl⟩
abbrev main_v191 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_cst_9 : Ref sig .tc := ⟨.hbm, 230, rfl⟩
abbrev main_v205 : Ref sig .tc := ⟨.hbm, 231, rfl⟩
abbrev main_v206 : Ref sig .tc := ⟨.hbm, 232, rfl⟩
abbrev main_cst_10 : Ref sig .tc := ⟨.hbm, 233, rfl⟩
abbrev main_call0_v0 : Ref sig .tc := ⟨.hbm, 234, rfl⟩
abbrev main_call0_v1 : Ref sig .tc := ⟨.hbm, 235, rfl⟩
abbrev main_v207 : Ref sig .tc := ⟨.hbm, 236, rfl⟩
abbrev main_cst_11 : Ref sig .tc := ⟨.hbm, 237, rfl⟩
abbrev main_v208 : Ref sig .tc := ⟨.hbm, 238, rfl⟩
abbrev main_cst_12 : Ref sig .tc := ⟨.hbm, 239, rfl⟩
abbrev main_v209 : Ref sig .tc := ⟨.hbm, 240, rfl⟩
abbrev main_cst_13 : Ref sig .tc := ⟨.hbm, 241, rfl⟩
abbrev main_v210 : Ref sig .tc := ⟨.hbm, 242, rfl⟩
abbrev main_c_14 : Ref sig .tc := ⟨.hbm, 243, rfl⟩
abbrev main_v211_0 : Ref sig .tc := ⟨.hbm, 244, rfl⟩
abbrev main_v211_1 : Ref sig .tc := ⟨.hbm, 245, rfl⟩
abbrev main_v211_2 : Ref sig .tc := ⟨.hbm, 246, rfl⟩
abbrev main_v211_3 : Ref sig .tc := ⟨.hbm, 247, rfl⟩
abbrev main_v211_4 : Ref sig .tc := ⟨.hbm, 248, rfl⟩
abbrev main_v211_5 : Ref sig .tc := ⟨.hbm, 249, rfl⟩
abbrev main_v211_6 : Ref sig .tc := ⟨.hbm, 250, rfl⟩
abbrev main_while0c_c_23 : Ref sig .tc := ⟨.hbm, 251, rfl⟩
abbrev main_while0c_v239 : Ref sig .tc := ⟨.hbm, 252, rfl⟩
abbrev main_while0b_values_23 : Ref sig .tc := ⟨.hbm, 253, rfl⟩
abbrev main_while0b_indices_24 : Ref sig .tc := ⟨.hbm, 254, rfl⟩
abbrev main_while0b_v239 : Ref sig .tc := ⟨.hbm, 255, rfl⟩
abbrev main_while0b_v240 : Ref sig .tc := ⟨.hbm, 256, rfl⟩
abbrev main_while0b_v241 : Ref sig .tc := ⟨.hbm, 257, rfl⟩
abbrev main_while0b_v242 : Ref sig .tc := ⟨.hbm, 258, rfl⟩
abbrev main_while0b_v243 : Ref sig .tc := ⟨.hbm, 259, rfl⟩
abbrev main_while0b_v244 : Ref sig .tc := ⟨.hbm, 260, rfl⟩
abbrev main_while0b_v245 : Ref sig .tc := ⟨.hbm, 261, rfl⟩
abbrev main_while0b_v246 : Ref sig .tc := ⟨.hbm, 262, rfl⟩
abbrev main_while0b_v247 : Ref sig .tc := ⟨.hbm, 263, rfl⟩
abbrev main_while0b_v248 : Ref sig .tc := ⟨.hbm, 264, rfl⟩
abbrev main_while0b_v249 : Ref sig .tc := ⟨.hbm, 265, rfl⟩
abbrev main_while0b_v250 : Ref sig .tc := ⟨.hbm, 266, rfl⟩
abbrev main_while0b_v251 : Ref sig .tc := ⟨.hbm, 267, rfl⟩
abbrev main_while0b_v252 : Ref sig .tc := ⟨.hbm, 268, rfl⟩
abbrev main_while0b_v253 : Ref sig .tc := ⟨.hbm, 269, rfl⟩
abbrev main_while0b_v254 : Ref sig .tc := ⟨.hbm, 270, rfl⟩
abbrev main_while0b_v255 : Ref sig .tc := ⟨.hbm, 271, rfl⟩
abbrev main_while0b_v256 : Ref sig .tc := ⟨.hbm, 272, rfl⟩
abbrev main_while0b_v257 : Ref sig .tc := ⟨.hbm, 273, rfl⟩
abbrev main_while0b_v258 : Ref sig .tc := ⟨.hbm, 274, rfl⟩
abbrev main_while0b_v259 : Ref sig .tc := ⟨.hbm, 275, rfl⟩
abbrev main_while0b_v260 : Ref sig .tc := ⟨.hbm, 276, rfl⟩
abbrev main_while0b_v261 : Ref sig .tc := ⟨.hbm, 277, rfl⟩
abbrev main_while0b_v262 : Ref sig .tc := ⟨.hbm, 278, rfl⟩
abbrev main_while0b_v263 : Ref sig .tc := ⟨.hbm, 279, rfl⟩
abbrev main_while0b_v264 : Ref sig .tc := ⟨.hbm, 280, rfl⟩
abbrev main_while0b_v265 : Ref sig .tc := ⟨.hbm, 281, rfl⟩
abbrev main_while0b_v266 : Ref sig .tc := ⟨.hbm, 282, rfl⟩
abbrev main_while0b_v267 : Ref sig .tc := ⟨.hbm, 283, rfl⟩
abbrev main_while0b_v268 : Ref sig .tc := ⟨.hbm, 284, rfl⟩
abbrev main_while0b_v269 : Ref sig .tc := ⟨.hbm, 285, rfl⟩
abbrev main_while0b_v270 : Ref sig .tc := ⟨.hbm, 286, rfl⟩
abbrev main_while0b_cst_25 : Ref sig .tc := ⟨.hbm, 287, rfl⟩
abbrev main_while0b_call1_v0 : Ref sig .tc := ⟨.hbm, 288, rfl⟩
abbrev main_while0b_call1_v1 : Ref sig .tc := ⟨.hbm, 289, rfl⟩
abbrev main_while0b_v271 : Ref sig .tc := ⟨.hbm, 290, rfl⟩
abbrev main_while0b_v272 : Ref sig .tc := ⟨.hbm, 291, rfl⟩
abbrev main_while0b_cst_26 : Ref sig .tc := ⟨.hbm, 292, rfl⟩
abbrev main_while0b_call2_v0 : Ref sig .tc := ⟨.hbm, 293, rfl⟩
abbrev main_while0b_call2_v1 : Ref sig .tc := ⟨.hbm, 294, rfl⟩
abbrev main_while0b_v273 : Ref sig .tc := ⟨.hbm, 295, rfl⟩
abbrev main_while0b_v274 : Ref sig .tc := ⟨.hbm, 296, rfl⟩
abbrev main_while0b_v275 : Ref sig .tc := ⟨.hbm, 297, rfl⟩
abbrev main_while0b_v276 : Ref sig .tc := ⟨.hbm, 298, rfl⟩
abbrev main_while0b_v277 : Ref sig .tc := ⟨.hbm, 299, rfl⟩
abbrev main_while0b_v278 : Ref sig .tc := ⟨.hbm, 300, rfl⟩
abbrev main_while0b_v279 : Ref sig .tc := ⟨.hbm, 301, rfl⟩
abbrev main_while0b_cst_27 : Ref sig .tc := ⟨.hbm, 302, rfl⟩
abbrev main_while0b_call3_v0 : Ref sig .tc := ⟨.hbm, 303, rfl⟩
abbrev main_while0b_call3_v1 : Ref sig .tc := ⟨.hbm, 304, rfl⟩
abbrev main_while0b_v280 : Ref sig .tc := ⟨.hbm, 305, rfl⟩
abbrev main_while0b_v281 : Ref sig .tc := ⟨.hbm, 306, rfl⟩
abbrev main_while0b_v282 : Ref sig .tc := ⟨.hbm, 307, rfl⟩
abbrev main_while0b_v283 : Ref sig .tc := ⟨.hbm, 308, rfl⟩
abbrev main_while0b_v284 : Ref sig .tc := ⟨.hbm, 309, rfl⟩
abbrev main_while0b_v285 : Ref sig .tc := ⟨.hbm, 310, rfl⟩
abbrev main_while0b_cst_28 : Ref sig .tc := ⟨.hbm, 311, rfl⟩
abbrev main_while0b_call4_v0 : Ref sig .tc := ⟨.hbm, 312, rfl⟩
abbrev main_while0b_call4_v1 : Ref sig .tc := ⟨.hbm, 313, rfl⟩
abbrev main_while0b_v286 : Ref sig .tc := ⟨.hbm, 314, rfl⟩
abbrev main_while0b_v287 : Ref sig .tc := ⟨.hbm, 315, rfl⟩
abbrev main_while0b_v288 : Ref sig .tc := ⟨.hbm, 316, rfl⟩
abbrev main_while0b_v289 : Ref sig .tc := ⟨.hbm, 317, rfl⟩
abbrev main_while0b_v290 : Ref sig .tc := ⟨.hbm, 318, rfl⟩
abbrev main_while0b_v291 : Ref sig .tc := ⟨.hbm, 319, rfl⟩
abbrev main_while0b_v292 : Ref sig .tc := ⟨.hbm, 320, rfl⟩
abbrev main_while0b_cst_29 : Ref sig .tc := ⟨.hbm, 321, rfl⟩
abbrev main_while0b_call5_v0 : Ref sig .tc := ⟨.hbm, 322, rfl⟩
abbrev main_while0b_call5_v1 : Ref sig .tc := ⟨.hbm, 323, rfl⟩
abbrev main_while0b_v293 : Ref sig .tc := ⟨.hbm, 324, rfl⟩
abbrev main_while0b_v294 : Ref sig .tc := ⟨.hbm, 325, rfl⟩
abbrev main_while0b_v295 : Ref sig .tc := ⟨.hbm, 326, rfl⟩
abbrev main_while0b_v296 : Ref sig .tc := ⟨.hbm, 327, rfl⟩
abbrev main_while0b_v297 : Ref sig .tc := ⟨.hbm, 328, rfl⟩
abbrev main_while0b_v298 : Ref sig .tc := ⟨.hbm, 329, rfl⟩
abbrev main_while0b_cst_30 : Ref sig .tc := ⟨.hbm, 330, rfl⟩
abbrev main_while0b_call6_v0 : Ref sig .tc := ⟨.hbm, 331, rfl⟩
abbrev main_while0b_call6_v1 : Ref sig .tc := ⟨.hbm, 332, rfl⟩
abbrev main_while0b_v299 : Ref sig .tc := ⟨.hbm, 333, rfl⟩
abbrev main_while0b_v300 : Ref sig .tc := ⟨.hbm, 334, rfl⟩
abbrev main_while0b_v301 : Ref sig .tc := ⟨.hbm, 335, rfl⟩
abbrev main_while0b_v302 : Ref sig .tc := ⟨.hbm, 336, rfl⟩
abbrev main_while0b_v303 : Ref sig .tc := ⟨.hbm, 337, rfl⟩
abbrev main_while0b_cst_31 : Ref sig .tc := ⟨.hbm, 338, rfl⟩
abbrev main_while0b_v304 : Ref sig .tc := ⟨.hbm, 339, rfl⟩
abbrev main_while0b_v305 : Ref sig .tc := ⟨.hbm, 340, rfl⟩
abbrev main_while0b_v306 : Ref sig .tc := ⟨.hbm, 341, rfl⟩
abbrev main_while0b_cst_32 : Ref sig .tc := ⟨.hbm, 342, rfl⟩
abbrev main_while0b_v307 : Ref sig .tc := ⟨.hbm, 343, rfl⟩
abbrev main_while0b_v308 : Ref sig .tc := ⟨.hbm, 344, rfl⟩
abbrev main_while0b_cst_33 : Ref sig .tc := ⟨.hbm, 345, rfl⟩
abbrev main_while0b_call7_v0 : Ref sig .tc := ⟨.hbm, 346, rfl⟩
abbrev main_while0b_call7_v1 : Ref sig .tc := ⟨.hbm, 347, rfl⟩
abbrev main_while0b_v309 : Ref sig .tc := ⟨.hbm, 348, rfl⟩
abbrev main_while0b_v310 : Ref sig .tc := ⟨.hbm, 349, rfl⟩
abbrev main_while0b_call8_v0 : Ref sig .tc := ⟨.hbm, 350, rfl⟩
abbrev main_while0b_call8_c : Ref sig .tc := ⟨.hbm, 351, rfl⟩
abbrev main_while0b_call8_c_0 : Ref sig .tc := ⟨.hbm, 352, rfl⟩
abbrev main_while0b_v311 : Ref sig .tc := ⟨.hbm, 353, rfl⟩
abbrev main_while0b_call9_v0 : Ref sig .tc := ⟨.hbm, 354, rfl⟩
abbrev main_while0b_call9_c : Ref sig .tc := ⟨.hbm, 355, rfl⟩
abbrev main_while0b_call9_c_0 : Ref sig .tc := ⟨.hbm, 356, rfl⟩
abbrev main_while0b_call9_c_1 : Ref sig .tc := ⟨.hbm, 357, rfl⟩
abbrev main_while0b_v312 : Ref sig .tc := ⟨.hbm, 358, rfl⟩
abbrev main_while0b_call10_v0 : Ref sig .tc := ⟨.hbm, 359, rfl⟩
abbrev main_while0b_call10_c : Ref sig .tc := ⟨.hbm, 360, rfl⟩
abbrev main_while0b_call10_c_0 : Ref sig .tc := ⟨.hbm, 361, rfl⟩
abbrev main_while0b_call10_c_1 : Ref sig .tc := ⟨.hbm, 362, rfl⟩
abbrev main_while0b_call10_c_2 : Ref sig .tc := ⟨.hbm, 363, rfl⟩
abbrev main_while0b_v313 : Ref sig .tc := ⟨.hbm, 364, rfl⟩
abbrev main_while0b_c_34 : Ref sig .tc := ⟨.hbm, 365, rfl⟩
abbrev main_while0b_v314 : Ref sig .tc := ⟨.hbm, 366, rfl⟩
abbrev main_v212 : Ref sig .tc := ⟨.hbm, 367, rfl⟩
abbrev main_v213 : Ref sig .tc := ⟨.hbm, 368, rfl⟩
abbrev main_v214 : Ref sig .tc := ⟨.hbm, 369, rfl⟩
abbrev main_v215 : Ref sig .tc := ⟨.hbm, 370, rfl⟩
abbrev main_v216 : Ref sig .tc := ⟨.hbm, 371, rfl⟩
abbrev main_v217 : Ref sig .tc := ⟨.hbm, 372, rfl⟩
abbrev main_v218 : Ref sig .tc := ⟨.hbm, 373, rfl⟩
abbrev main_v219 : Ref sig .tc := ⟨.hbm, 374, rfl⟩
abbrev main_v220 : Ref sig .tc := ⟨.hbm, 375, rfl⟩
abbrev main_v221 : Ref sig .tc := ⟨.hbm, 376, rfl⟩
abbrev main_values_15 : Ref sig .tc := ⟨.hbm, 377, rfl⟩
abbrev main_indices_16 : Ref sig .tc := ⟨.hbm, 378, rfl⟩
abbrev main_v222 : Ref sig .tc := ⟨.hbm, 379, rfl⟩
abbrev main_v223 : Ref sig .tc := ⟨.hbm, 380, rfl⟩
abbrev main_v224 : Ref sig .tc := ⟨.hbm, 381, rfl⟩
abbrev main_v225 : Ref sig .tc := ⟨.hbm, 382, rfl⟩
abbrev main_v226 : Ref sig .tc := ⟨.hbm, 383, rfl⟩
abbrev main_v227 : Ref sig .tc := ⟨.hbm, 384, rfl⟩
abbrev main_v228 : Ref sig .tc := ⟨.hbm, 385, rfl⟩
abbrev main_v229 : Ref sig .tc := ⟨.hbm, 386, rfl⟩
abbrev main_v230 : Ref sig .tc := ⟨.hbm, 387, rfl⟩
abbrev main_v231 : Ref sig .tc := ⟨.hbm, 388, rfl⟩
abbrev main_v232 : Ref sig .tc := ⟨.hbm, 389, rfl⟩
abbrev main_v233 : Ref sig .tc := ⟨.hbm, 390, rfl⟩
abbrev main_v234 : Ref sig .tc := ⟨.hbm, 391, rfl⟩
abbrev main_v235 : Ref sig .tc := ⟨.hbm, 392, rfl⟩
abbrev main_v236 : Ref sig .tc := ⟨.hbm, 393, rfl⟩
abbrev main_v237 : Ref sig .tc := ⟨.hbm, 394, rfl⟩
abbrev main_v238 : Ref sig .tc := ⟨.hbm, 395, rfl⟩

abbrev nD : Nat := 1
abbrev τ : Topo := Topo.v7x

variable {F : FTy → Type} [FloatOps F]

abbrev main_while0_count : Scf.Loop 32 := ⟨0#32, 100#32, 1#32⟩
-- ==== Proof.KILaunch.lean ====
module

public import proofs.«01_k».proof.Proof.Gen.KernelIdeal
public import Idealize.ShloMosaic.Lib.Pipeline.Kit
public import Idealize.ShloMosaic.Lib.Pipeline.Regions

@[expose] public section

-- the launch kit's decided enumerations over 19 windows recurse past the default depth
set_option maxRecDepth 2944

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## The staging cells -/

/-- Each custom_call's staging semaphores, listed window by window and slot by slot. -/
abbrev semTab : Fin 1 → List (DmaSem sig) :=
  fun | 0 => Pipeline.specSems spec0 | ⟨_ + 1, h⟩ => absurd h (Nat.not_lt.2 (Nat.le_add_left _ _))
/-- Within each custom_call, no two staging buffers complete on one DMA semaphore. -/
theorem semsDistinct : ∀ p : Fin 1, (semTab p).Nodup := by decide
/-- No two custom_calls' staging buffers share a DMA semaphore. -/
theorem semsDisjoint : ∀ p p' : Fin 1, p ≠ p' → (semTab p).Forall (· ∉ semTab p') := by decide
/-- The program's staging cells are pairwise distinct. -/
theorem cellOf_inj : Function.Injective (Pipeline.cellOf (nD := nD) (τ := τ) cfgs) :=
  Pipeline.cellOf_injective_of_table cfgs semTab (fun | 0 => rfl | ⟨_ + 1, h⟩ => absurd h (Nat.not_lt.2 (Nat.le_add_left _ _))) semsDistinct semsDisjoint

/-! ## custom_call 0 (pipeline 0 of @main) -/

/-- The layout the launch needs: the windows' arrays unscoped, distinct buffers, the staging buffers scoped and
    distinct, the staging semaphores scoped. -/
theorem winFacts0 : Pipeline.WinFacts spec0 := by decide
/-- No window's block is empty. -/
theorem block_pos0 : ∀ w : Fin 19, 0 < (spec0 w).block.numel := by decide
/-- The windows' arrays and the staging memrefs are whole buffers. -/
theorem arr_whole0 : ∀ w : Fin 19, (spec0 w).arr.IsWhole := fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | 7 => Memref.isWhole_whole _ | 8 => Memref.isWhole_whole _ | 9 => Memref.isWhole_whole _ | 10 => Memref.isWhole_whole _ | 11 => Memref.isWhole_whole _ | 12 => Memref.isWhole_whole _ | 13 => Memref.isWhole_whole _ | 14 => Memref.isWhole_whole _ | 15 => Memref.isWhole_whole _ | 16 => Memref.isWhole_whole _ | 17 => Memref.isWhole_whole _ | 18 => Memref.isWhole_whole _ | ⟨_ + 19, h⟩ => absurd h (Nat.not_lt.2 (Nat.le_add_left _ _))
theorem stage_whole0 : ∀ (w : Fin 19) (s : Fin (spec0 w).nbuf), ((spec0 w).stage s).IsWhole := fun | 0 => fun _ => Memref.isWhole_whole _ | 1 => fun _ => Memref.isWhole_whole _ | 2 => fun _ => Memref.isWhole_whole _ | 3 => fun _ => Memref.isWhole_whole _ | 4 => fun _ => Memref.isWhole_whole _ | 5 => fun _ => Memref.isWhole_whole _ | 6 => fun _ => Memref.isWhole_whole _ | 7 => fun _ => Memref.isWhole_whole _ | 8 => fun _ => Memref.isWhole_whole _ | 9 => fun _ => Memref.isWhole_whole _ | 10 => fun _ => Memref.isWhole_whole _ | 11 => fun _ => Memref.isWhole_whole _ | 12 => fun _ => Memref.isWhole_whole _ | 13 => fun _ => Memref.isWhole_whole _ | 14 => fun _ => Memref.isWhole_whole _ | 15 => fun _ => Memref.isWhole_whole _ | 16 => fun _ => Memref.isWhole_whole _ | 17 => fun _ => Memref.isWhole_whole _ | 18 => fun _ => Memref.isWhole_whole _ | ⟨_ + 19, h⟩ => absurd h (Nat.not_lt.2 (Nat.le_add_left _ _))
/-- The five, bundled: what the kit-form launch theorems (Lib/Pipeline/Kit.lean `θ_run_region*_kit`) take. -/
theorem launch0 : Pipeline.LaunchFacts (nD := nD) (τ := τ) cfgs 0 := ⟨cellOf_inj, winFacts0, block_pos0, arr_whole0, stage_whole0⟩

/-- No grid: one point. -/
theorem N_0 : grid0.N = 1 := by decide
/-- The point. -/
def t0_0 : Fin grid0.N := ⟨0, by rw [N_0]; decide⟩
theorem fin_N0 (t : Fin grid0.N) : t = t0_0 := by
  obtain ⟨t, ht⟩ := t; have := N_0; simp only [t0_0, Fin.mk.injEq]; omega

/-- The windows conjoined one by one. -/
theorem bigSep_W0 {M : Type} [URA M] (Φ : Fin 19 → sProp M) : bigSep Finset.univ Φ = iprop(Φ (0 : Fin 19) ∗ Φ (1 : Fin 19) ∗ Φ (2 : Fin 19) ∗ Φ (3 : Fin 19) ∗ Φ (4 : Fin 19) ∗ Φ (5 : Fin 19) ∗ Φ (6 : Fin 19) ∗ Φ (7 : Fin 19) ∗ Φ (8 : Fin 19) ∗ Φ (9 : Fin 19) ∗ Φ (10 : Fin 19) ∗ Φ (11 : Fin 19) ∗ Φ (12 : Fin 19) ∗ Φ (13 : Fin 19) ∗ Φ (14 : Fin 19) ∗ Φ (15 : Fin 19) ∗ Φ (16 : Fin 19) ∗ Φ (17 : Fin 19) ∗ Φ (18 : Fin 19)) :=
  bigSep_univ_eq_bigSepL [(0 : Fin 19), (1 : Fin 19), (2 : Fin 19), (3 : Fin 19), (4 : Fin 19), (5 : Fin 19), (6 : Fin 19), (7 : Fin 19), (8 : Fin 19), (9 : Fin 19), (10 : Fin 19), (11 : Fin 19), (12 : Fin 19), (13 : Fin 19), (14 : Fin 19), (15 : Fin 19), (16 : Fin 19), (17 : Fin 19), (18 : Fin 19)] (by decide) (by decide) Φ
/-- The core's scoped buffers that are no staging buffer of custom_call 0, each whole at some contents:
    none. -/
theorem scopedRest0_eq {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = (BI.emp : sProp (MT nD τ sig Ix Val Name U Lvl)) :=
  Pipeline.scopedRest_eq_of_list spec0 c [] (by decide) (by decide)
-- the unscoped rest of custom_call 0 is 59 buffers: not enumerated (routed whole, as `Pipeline.unscopedRest`)

/-! ## @main as segments and as a chain of items (Lib/Pipeline/Regions.lean `θ_run_regions_kit`, `Pipeline.chain`) -/

/-- 63 host operations of @main, in order. -/
abbrev hostOps0 : List (HloOp τ sig (Elt F)) :=
  ( StableHlo.nullary main_v0 (iotaInDim S20 32 0)
  :: StableHlo.nullary main_v1 (iotaInDim S20 32 0)
  :: StableHlo.unary main_v1 main_v2 (broadcastInDim S20x20 ![0] bcast_S20_S20x20_0 : (⟨S20, .i32⟩ : BufTy).Contents (Elt F) → (⟨S20x20, .i32⟩ : BufTy).Contents (Elt F))
  :: StableHlo.unary main_v0 main_v3 (broadcastInDim S20x20 ![1] bcast_S20_S20x20_1 : (⟨S20, .i32⟩ : BufTy).Contents (Elt F) → (⟨S20x20, .i32⟩ : BufTy).Contents (Elt F))
  :: StableHlo.unary main_v3 main_v4 (broadcastInDim S20x20x1 ![0, 1] bcast_S20x20_S20x20x1_0_1 : (⟨S20x20, .i32⟩ : BufTy).Contents (Elt F) → (⟨S20x20x1, .i32⟩ : BufTy).Contents (Elt F))
  :: StableHlo.unary main_v2 main_v5 (broadcastInDim S20x20x1 ![0, 1] bcast_S20x20_S20x20x1_0_1 : (⟨S20x20, .i32⟩ : BufTy).Contents (Elt F) → (⟨S20x20x1, .i32⟩ : BufTy).Contents (Elt F))
  :: StableHlo.binary main_v4 main_v5 main_v6 ((fun a b => concatenate S20x20x2 2 [⟨S20x20x1, a⟩, ⟨S20x20x1, b⟩] concatenates_S20x20x1_S20x20x1_S20x20x2_d2) : (⟨S20x20x1, .i32⟩ : BufTy).Contents (Elt F) → (⟨S20x20x1, .i32⟩ : BufTy).Contents (Elt F) → (⟨S20x20x2, .i32⟩ : BufTy).Contents (Elt F))
  :: StableHlo.reshape main_v6 main_v7 (rfl : (.i32 : EltTy) = .i32) shapeCasts_S20x20x2_S400x2
  :: StableHlo.nullary main_c (constantI S_ 32 16#32)
  :: StableHlo.unary main_c main_v8 (broadcastInDim S400x2 ![] bcast_S_S400x2 : (⟨S_, .i32⟩ : BufTy).Contents (Elt F) → (⟨S400x2, .i32⟩ : BufTy).Contents (Elt F))
  :: StableHlo.binary main_v7 main_v8 main_v9 (muli : (⟨S400x2, .i32⟩ : BufTy).Contents (Elt F) → (⟨S400x2, .i32⟩ : BufTy).Contents (Elt F) → (⟨S400x2, .i32⟩ : BufTy).Contents (Elt F))
  :: StableHlo.unary main_v9 main_v10 (broadcastInDim S400x1x2 ![0, 2] bcast_S400x2_S400x1x2_0_2 : (⟨S400x2, .i32⟩ : BufTy).Contents (Elt F) → (⟨S400x1x2, .i32⟩ : BufTy).Contents (Elt F))
  :: StableHlo.unary main_v9 main_v11 (broadcastInDim S400x1x2 ![0, 2] bcast_S400x2_S400x1x2_0_2 : (⟨S400x2, .i32⟩ : BufTy).Contents (Elt F) → (⟨S400x1x2, .i32⟩ : BufTy).Contents (Elt F))
  :: StableHlo.binary main_v10 main_v11 main_v12 ((fun a b => concatenate S400x2x2 1 [⟨S400x1x2, a⟩, ⟨S400x1x2, b⟩] concatenates_S400x1x2_S400x1x2_S400x2x2_d1) : (⟨S400x1x2, .i32⟩ : BufTy).Contents (Elt F) → (⟨S400x1x2, .i32⟩ : BufTy).Contents (Elt F) → (⟨S400x2x2, .i32⟩ : BufTy).Contents (Elt F))
  :: StableHlo.reshape main_v12 main_v13 (rfl : (.i32 : EltTy) = .i32) shapeCasts_S400x2x2_S800x2
  :: StableHlo.unary main_v13 main_v14 (sitofp .f32 : (⟨S800x2, .i32⟩ : BufTy).Contents (Elt F) → (⟨S800x2, .f32⟩ : BufTy).Contents (Elt F))
  :: StableHlo.unary main_v14 main_v15 ((extractStridedSlice S800x1 ![0, 0] · slices_S800x2_S800x1_0_0) : (⟨S800x2, .f32⟩ : BufTy).Contents (Elt F) → (⟨S800x1, .f32⟩ : BufTy).Contents (Elt F))
  :: StableHlo.reshape main_v15 main_v16 (rfl : (.f32 : EltTy) = .f32) shapeCasts_S800x1_S800
  :: StableHlo.reshape main_v16 main_v17 (rfl : (.f32 : EltTy) = .f32) shapeCasts_S800_S1x800
  :: StableHlo.unary main_v14 main_v18 ((extractStridedSlice S800x1 ![0, 1] · slices_S800x2_S800x1_0_1) : (⟨S800x2, .f32⟩ : BufTy).Contents (Elt F) → (⟨S800x1, .f32⟩ : BufTy).Contents (Elt F))
  :: StableHlo.reshape main_v18 main_v19 (rfl : (.f32 : EltTy) = .f32) shapeCasts_S800x1_S800
  :: StableHlo.reshape main_v19 main_v20 (rfl : (.f32 : EltTy) = .f32) shapeCasts_S800_S1x800
  :: StableHlo.nullary main_v21 (iotaInDim S10 32 0)
  :: StableHlo.nullary main_v22 (iotaInDim S10 32 0)
  :: StableHlo.unary main_v22 main_v23 (broadcastInDim S10x10 ![0] bcast_S10_S10x10_0 : (⟨S10, .i32⟩ : BufTy).Contents (Elt F) → (⟨S10x10, .i32⟩ : BufTy).Contents (Elt F))
  :: StableHlo.unary main_v21 main_v24 (broadcastInDim S10x10 ![1] bcast_S10_S10x10_1 : (⟨S10, .i32⟩ : BufTy).Contents (Elt F) → (⟨S10x10, .i32⟩ : BufTy).Contents (Elt F))
  :: StableHlo.unary main_v24 main_v25 (broadcastInDim S10x10x1 ![0, 1] bcast_S10x10_S10x10x1_0_1 : (⟨S10x10, .i32⟩ : BufTy).Contents (Elt F) → (⟨S10x10x1, .i32⟩ : BufTy).Contents (Elt F))
  :: StableHlo.unary main_v23 main_v26 (broadcastInDim S10x10x1 ![0, 1] bcast_S10x10_S10x10x1_0_1 : (⟨S10x10, .i32⟩ : BufTy).Contents (Elt F) → (⟨S10x10x1, .i32⟩ : BufTy).Contents (Elt F))
  :: StableHlo.binary main_v25 main_v26 main_v27 ((fun a b => concatenate S10x10x2 2 [⟨S10x10x1, a⟩, ⟨S10x10x1, b⟩] concatenates_S10x10x1_S10x10x1_S10x10x2_d2) : (⟨S10x10x1, .i32⟩ : BufTy).Contents (Elt F) → (⟨S10x10x1, .i32⟩ : BufTy).Contents (Elt F) → (⟨S10x10x2, .i32⟩ : BufTy).Contents (Elt F))
  :: StableHlo.reshape main_v27 main_v28 (rfl : (.i32 : EltTy) = .i32) shapeCasts_S10x10x2_S100x2
  :: StableHlo.nullary main_c_0 (constantI S_ 32 32#32)
  :: StableHlo.unary main_c_0 main_v29 (broadcastInDim S100x2 ![] bcast_S_S100x2 : (⟨S_, .i32⟩ : BufTy).Contents (Elt F) → (⟨S100x2, .i32⟩ : BufTy).Contents (Elt F))
  :: StableHlo.binary main_v28 main_v29 main_v30 (muli : (⟨S100x2, .i32⟩ : BufTy).Contents (Elt F) → (⟨S100x2, .i32⟩ : BufTy).Contents (Elt F) → (⟨S100x2, .i32⟩ : BufTy).Contents (Elt F))
  :: StableHlo.unary main_v30 main_v31 (broadcastInDim S100x1x2 ![0, 2] bcast_S100x2_S100x1x2_0_2 : (⟨S100x2, .i32⟩ : BufTy).Contents (Elt F) → (⟨S100x1x2, .i32⟩ : BufTy).Contents (Elt F))
  :: StableHlo.unary main_v30 main_v32 (broadcastInDim S100x1x2 ![0, 2] bcast_S100x2_S100x1x2_0_2 : (⟨S100x2, .i32⟩ : BufTy).Contents (Elt F) → (⟨S100x1x2, .i32⟩ : BufTy).Contents (Elt F))
  :: StableHlo.binary main_v31 main_v32 main_v33 ((fun a b => concatenate S100x2x2 1 [⟨S100x1x2, a⟩, ⟨S100x1x2, b⟩] concatenates_S100x1x2_S100x1x2_S100x2x2_d1) : (⟨S100x1x2, .i32⟩ : BufTy).Contents (Elt F) → (⟨S100x1x2, .i32⟩ : BufTy).Contents (Elt F) → (⟨S100x2x2, .i32⟩ : BufTy).Contents (Elt F))
  :: StableHlo.reshape main_v33 main_v34 (rfl : (.i32 : EltTy) = .i32) shapeCasts_S100x2x2_S200x2
  :: StableHlo.unary main_v34 main_v35 (sitofp .f32 : (⟨S200x2, .i32⟩ : BufTy).Contents (Elt F) → (⟨S200x2, .f32⟩ : BufTy).Contents (Elt F))
  :: StableHlo.unary main_v35 main_v36 ((extractStridedSlice S200x1 ![0, 0] · slices_S200x2_S200x1_0_0) : (⟨S200x2, .f32⟩ : BufTy).Contents (Elt F) → (⟨S200x1, .f32⟩ : BufTy).Contents (Elt F))
  :: StableHlo.reshape main_v36 main_v37 (rfl : (.f32 : EltTy) = .f32) shapeCasts_S200x1_S200
  :: StableHlo.reshape main_v37 main_v38 (rfl : (.f32 : EltTy) = .f32) shapeCasts_S200_S1x200
  :: StableHlo.unary main_v35 main_v39 ((extractStridedSlice S200x1 ![0, 1] · slices_S200x2_S200x1_0_1) : (⟨S200x2, .f32⟩ : BufTy).Contents (Elt F) → (⟨S200x1, .f32⟩ : BufTy).Contents (Elt F))
  :: StableHlo.reshape main_v39 main_v40 (rfl : (.f32 : EltTy) = .f32) shapeCasts_S200x1_S200
  :: StableHlo.reshape main_v40 main_v41 (rfl : (.f32 : EltTy) = .f32) shapeCasts_S200_S1x200
  :: StableHlo.reshape main_arg9 main_v42 (rfl : (.f32 : EltTy) = .f32) shapeCasts_S204x1_S68x3
  :: StableHlo.unary main_v42 main_v43 ((transpose S3x68 [1, 0] · transposes_S68x3_S3x68_1_0) : (⟨S68x3, .f32⟩ : BufTy).Contents (Elt F) → (⟨S3x68, .f32⟩ : BufTy).Contents (Elt F))
  :: StableHlo.unary main_arg10 main_v44 ((Host.slice S68x199 ![0, 0] ![3, 1] · slicesBy_S204x199_S68x199_0s3_0s1) : (⟨S204x199, .f32⟩ : BufTy).Contents (Elt F) → (⟨S68x199, .f32⟩ : BufTy).Contents (Elt F))
  :: StableHlo.unary main_arg10 main_v45 ((Host.slice S68x199 ![1, 0] ![3, 1] · slicesBy_S204x199_S68x199_1s3_0s1) : (⟨S204x199, .f32⟩ : BufTy).Contents (Elt F) → (⟨S68x199, .f32⟩ : BufTy).Contents (Elt F))
  :: StableHlo.unary main_arg10 main_v46 ((Host.slice S68x199 ![2, 0] ![3, 1] · slicesBy_S204x199_S68x199_2s3_0s1) : (⟨S204x199, .f32⟩ : BufTy).Contents (Elt F) → (⟨S68x199, .f32⟩ : BufTy).Contents (Elt F))
  :: StableHlo.nary ![main_v44, main_v45, main_v46] main_v47 (fun u => (concatenate S204x199 0 [⟨S68x199, (u 0 : (⟨S68x199, .f32⟩ : BufTy).Contents (Elt F))⟩, ⟨S68x199, (u 1 : (⟨S68x199, .f32⟩ : BufTy).Contents (Elt F))⟩, ⟨S68x199, (u 2 : (⟨S68x199, .f32⟩ : BufTy).Contents (Elt F))⟩] concatenates_S68x199_S68x199_S68x199_S204x199_d0 : (⟨S204x199, .f32⟩ : BufTy).Contents (Elt F)))
  :: StableHlo.unary main_arg11 main_v48 ((Host.slice S68x29 ![0, 0] ![3, 1] · slicesBy_S204x29_S68x29_0s3_0s1) : (⟨S204x29, .f32⟩ : BufTy).Contents (Elt F) → (⟨S68x29, .f32⟩ : BufTy).Contents (Elt F))
  :: StableHlo.unary main_arg11 main_v49 ((Host.slice S68x29 ![1, 0] ![3, 1] · slicesBy_S204x29_S68x29_1s3_0s1) : (⟨S204x29, .f32⟩ : BufTy).Contents (Elt F) → (⟨S68x29, .f32⟩ : BufTy).Contents (Elt F))
  :: StableHlo.unary main_arg11 main_v50 ((Host.slice S68x29 ![2, 0] ![3, 1] · slicesBy_S204x29_S68x29_2s3_0s1) : (⟨S204x29, .f32⟩ : BufTy).Contents (Elt F) → (⟨S68x29, .f32⟩ : BufTy).Contents (Elt F))
  :: StableHlo.nary ![main_v48, main_v49, main_v50] main_v51 (fun u => (concatenate S204x29 0 [⟨S68x29, (u 0 : (⟨S68x29, .f32⟩ : BufTy).Contents (Elt F))⟩, ⟨S68x29, (u 1 : (⟨S68x29, .f32⟩ : BufTy).Contents (Elt F))⟩, ⟨S68x29, (u 2 : (⟨S68x29, .f32⟩ : BufTy).Contents (Elt F))⟩] concatenates_S68x29_S68x29_S68x29_S204x29_d0 : (⟨S204x29, .f32⟩ : BufTy).Contents (Elt F)))
  :: StableHlo.unary main_arg1 main_v52 ((transpose S2x16 [1, 0] · transposes_S16x2_S2x16_1_0) : (⟨S16x2, .f32⟩ : BufTy).Contents (Elt F) → (⟨S2x16, .f32⟩ : BufTy).Contents (Elt F))
  :: StableHlo.unary main_arg2 main_v53 ((transpose S2x16x800 [2, 0, 1] · transposes_S16x800x2_S2x16x800_2_0_1) : (⟨S16x800x2, .f32⟩ : BufTy).Contents (Elt F) → (⟨S2x16x800, .f32⟩ : BufTy).Contents (Elt F))
  :: StableHlo.reshape main_v53 main_v54 (rfl : (.f32 : EltTy) = .f32) shapeCasts_S2x16x800_S32x800
  :: StableHlo.unary main_arg5 main_v55 ((transpose S2x16x200 [2, 0, 1] · transposes_S16x200x2_S2x16x200_2_0_1) : (⟨S16x200x2, .f32⟩ : BufTy).Contents (Elt F) → (⟨S2x16x200, .f32⟩ : BufTy).Contents (Elt F))
  :: StableHlo.reshape main_v55 main_v56 (rfl : (.f32 : EltTy) = .f32) shapeCasts_S2x16x200_S32x200
  :: StableHlo.unary main_arg3 main_v57 ((transpose S4x16x800 [2, 0, 1] · transposes_S16x800x4_S4x16x800_2_0_1) : (⟨S16x800x4, .f32⟩ : BufTy).Contents (Elt F) → (⟨S4x16x800, .f32⟩ : BufTy).Contents (Elt F))
  :: StableHlo.reshape main_v57 main_v58 (rfl : (.f32 : EltTy) = .f32) shapeCasts_S4x16x800_S64x800
  :: StableHlo.unary main_arg6 main_v59 ((transpose S4x16x200 [2, 0, 1] · transposes_S16x200x4_S4x16x200_2_0_1) : (⟨S16x200x4, .f32⟩ : BufTy).Contents (Elt F) → (⟨S4x16x200, .f32⟩ : BufTy).Contents (Elt F))
  :: StableHlo.reshape main_v59 main_v60 (rfl : (.f32 : EltTy) = .f32) shapeCasts_S4x16x200_S64x200
  :: [] )
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub ..⟩
/-- 60 host operations of @main, window 0 (statements 1 … 60), in order. -/
abbrev main_part0_ops0 : List (HloOp τ sig (Elt F)) :=
  ( StableHlo.nullary main_v0 (iotaInDim S20 32 0)
  :: StableHlo.nullary main_v1 (iotaInDim S20 32 0)
  :: StableHlo.unary main_v1 main_v2 (broadcastInDim S20x20 ![0] bcast_S20_S20x20_0 : (⟨S20, .i32⟩ : BufTy).Contents (Elt F) → (⟨S20x20, .i32⟩ : BufTy).Contents (Elt F))
  :: StableHlo.unary main_v0 main_v3 (broadcastInDim S20x20 ![1] bcast_S20_S20x20_1 : (⟨S20, .i32⟩ : BufTy).Contents (Elt F) → (⟨S20x20, .i32⟩ : BufTy).Contents (Elt F))
  :: StableHlo.unary main_v3 main_v4 (broadcastInDim S20x20x1 ![0, 1] bcast_S20x20_S20x20x1_0_1 : (⟨S20x20, .i32⟩ : BufTy).Contents (Elt F) → (⟨S20x20x1, .i32⟩ : BufTy).Contents (Elt F))
  :: StableHlo.unary main_v2 main_v5 (broadcastInDim S20x20x1 ![0, 1] bcast_S20x20_S20x20x1_0_1 : (⟨S20x20, .i32⟩ : BufTy).Contents (Elt F) → (⟨S20x20x1, .i32⟩ : BufTy).Contents (Elt F))
  :: StableHlo.binary main_v4 main_v5 main_v6 ((fun a b => concatenate S20x20x2 2 [⟨S20x20x1, a⟩, ⟨S20x20x1, b⟩] concatenates_S20x20x1_S20x20x1_S20x20x2_d2) : (⟨S20x20x1, .i32⟩ : BufTy).Contents (Elt F) → (⟨S20x20x1, .i32⟩ : BufTy).Contents (Elt F) → (⟨S20x20x2, .i32⟩ : BufTy).Contents (Elt F))
  :: StableHlo.reshape main_v6 main_v7 (rfl : (.i32 : EltTy) = .i32) shapeCasts_S20x20x2_S400x2
  :: StableHlo.nullary main_c (constantI S_ 32 16#32)
  :: StableHlo.unary main_c main_v8 (broadcastInDim S400x2 ![] bcast_S_S400x2 : (⟨S_, .i32⟩ : BufTy).Contents (Elt F) → (⟨S400x2, .i32⟩ : BufTy).Contents (Elt F))
  :: StableHlo.binary main_v7 main_v8 main_v9 (muli : (⟨S400x2, .i32⟩ : BufTy).Contents (Elt F) → (⟨S400x2, .i32⟩ : BufTy).Contents (Elt F) → (⟨S400x2, .i32⟩ : BufTy).Contents (Elt F))
  :: StableHlo.unary main_v9 main_v10 (broadcastInDim S400x1x2 ![0, 2] bcast_S400x2_S400x1x2_0_2 : (⟨S400x2, .i32⟩ : BufTy).Contents (Elt F) → (⟨S400x1x2, .i32⟩ : BufTy).Contents (Elt F))
  :: StableHlo.unary main_v9 main_v11 (broadcastInDim S400x1x2 ![0, 2] bcast_S400x2_S400x1x2_0_2 : (⟨S400x2, .i32⟩ : BufTy).Contents (Elt F) → (⟨S400x1x2, .i32⟩ : BufTy).Contents (Elt F))
  :: StableHlo.binary main_v10 main_v11 main_v12 ((fun a b => concatenate S400x2x2 1 [⟨S400x1x2, a⟩, ⟨S400x1x2, b⟩] concatenates_S400x1x2_S400x1x2_S400x2x2_d1) : (⟨S400x1x2, .i32⟩ : BufTy).Contents (Elt F) → (⟨S400x1x2, .i32⟩ : BufTy).Contents (Elt F) → (⟨S400x2x2, .i32⟩ : BufTy).Contents (Elt F))
  :: StableHlo.reshape main_v12 main_v13 (rfl : (.i32 : EltTy) = .i32) shapeCasts_S400x2x2_S800x2
  :: StableHlo.unary main_v13 main_v14 (sitofp .f32 : (⟨S800x2, .i32⟩ : BufTy).Contents (Elt F) → (⟨S800x2, .f32⟩ : BufTy).Contents (Elt F))
  :: StableHlo.unary main_v14 main_v15 ((extractStridedSlice S800x1 ![0, 0] · slices_S800x2_S800x1_0_0) : (⟨S800x2, .f32⟩ : BufTy).Contents (Elt F) → (⟨S800x1, .f32⟩ : BufTy).Contents (Elt F))
  :: StableHlo.reshape main_v15 main_v16 (rfl : (.f32 : EltTy) = .f32) shapeCasts_S800x1_S800
  :: StableHlo.reshape main_v16 main_v17 (rfl : (.f32 : EltTy) = .f32) shapeCasts_S800_S1x800
  :: StableHlo.unary main_v14 main_v18 ((extractStridedSlice S800x1 ![0, 1] · slices_S800x2_S800x1_0_1) : (⟨S800x2, .f32⟩ : BufTy).Contents (Elt F) → (⟨S800x1, .f32⟩ : BufTy).Contents (Elt F))
  :: StableHlo.reshape main_v18 main_v19 (rfl : (.f32 : EltTy) = .f32) shapeCasts_S800x1_S800
  :: StableHlo.reshape main_v19 main_v20 (rfl : (.f32 : EltTy) = .f32) shapeCasts_S800_S1x800
  :: StableHlo.nullary main_v21 (iotaInDim S10 32 0)
  :: StableHlo.nullary main_v22 (iotaInDim S10 32 0)
  :: StableHlo.unary main_v22 main_v23 (broadcastInDim S10x10 ![0] bcast_S10_S10x10_0 : (⟨S10, .i32⟩ : BufTy).Contents (Elt F) → (⟨S10x10, .i32⟩ : BufTy).Contents (Elt F))
  :: StableHlo.unary main_v21 main_v24 (broadcastInDim S10x10 ![1] bcast_S10_S10x10_1 : (⟨S10, .i32⟩ : BufTy).Contents (Elt F) → (⟨S10x10, .i32⟩ : BufTy).Contents (Elt F))
  :: StableHlo.unary main_v24 main_v25 (broadcastInDim S10x10x1 ![0, 1] bcast_S10x10_S10x10x1_0_1 : (⟨S10x10, .i32⟩ : BufTy).Contents (Elt F) → (⟨S10x10x1, .i32⟩ : BufTy).Contents (Elt F))
  :: StableHlo.unary main_v23 main_v26 (broadcastInDim S10x10x1 ![0, 1] bcast_S10x10_S10x10x1_0_1 : (⟨S10x10, .i32⟩ : BufTy).Contents (Elt F) → (⟨S10x10x1, .i32⟩ : BufTy).Contents (Elt F))
  :: StableHlo.binary main_v25 main_v26 main_v27 ((fun a b => concatenate S10x10x2 2 [⟨S10x10x1, a⟩, ⟨S10x10x1, b⟩] concatenates_S10x10x1_S10x10x1_S10x10x2_d2) : (⟨S10x10x1, .i32⟩ : BufTy).Contents (Elt F) → (⟨S10x10x1, .i32⟩ : BufTy).Contents (Elt F) → (⟨S10x10x2, .i32⟩ : BufTy).Contents (Elt F))
  :: StableHlo.reshape main_v27 main_v28 (rfl : (.i32 : EltTy) = .i32) shapeCasts_S10x10x2_S100x2
  :: StableHlo.nullary main_c_0 (constantI S_ 32 32#32)
  :: StableHlo.unary main_c_0 main_v29 (broadcastInDim S100x2 ![] bcast_S_S100x2 : (⟨S_, .i32⟩ : BufTy).Contents (Elt F) → (⟨S100x2, .i32⟩ : BufTy).Contents (Elt F))
  :: StableHlo.binary main_v28 main_v29 main_v30 (muli : (⟨S100x2, .i32⟩ : BufTy).Contents (Elt F) → (⟨S100x2, .i32⟩ : BufTy).Contents (Elt F) → (⟨S100x2, .i32⟩ : BufTy).Contents (Elt F))
  :: StableHlo.unary main_v30 main_v31 (broadcastInDim S100x1x2 ![0, 2] bcast_S100x2_S100x1x2_0_2 : (⟨S100x2, .i32⟩ : BufTy).Contents (Elt F) → (⟨S100x1x2, .i32⟩ : BufTy).Contents (Elt F))
  :: StableHlo.unary main_v30 main_v32 (broadcastInDim S100x1x2 ![0, 2] bcast_S100x2_S100x1x2_0_2 : (⟨S100x2, .i32⟩ : BufTy).Contents (Elt F) → (⟨S100x1x2, .i32⟩ : BufTy).Contents (Elt F))
  :: StableHlo.binary main_v31 main_v32 main_v33 ((fun a b => concatenate S100x2x2 1 [⟨S100x1x2, a⟩, ⟨S100x1x2, b⟩] concatenates_S100x1x2_S100x1x2_S100x2x2_d1) : (⟨S100x1x2, .i32⟩ : BufTy).Contents (Elt F) → (⟨S100x1x2, .i32⟩ : BufTy).Contents (Elt F) → (⟨S100x2x2, .i32⟩ : BufTy).Contents (Elt F))
  :: StableHlo.reshape main_v33 main_v34 (rfl : (.i32 : EltTy) = .i32) shapeCasts_S100x2x2_S200x2
  :: StableHlo.unary main_v34 main_v35 (sitofp .f32 : (⟨S200x2, .i32⟩ : BufTy).Contents (Elt F) → (⟨S200x2, .f32⟩ : BufTy).Contents (Elt F))
  :: StableHlo.unary main_v35 main_v36 ((extractStridedSlice S200x1 ![0, 0] · slices_S200x2_S200x1_0_0) : (⟨S200x2, .f32⟩ : BufTy).Contents (Elt F) → (⟨S200x1, .f32⟩ : BufTy).Contents (Elt F))
  :: StableHlo.reshape main_v36 main_v37 (rfl : (.f32 : EltTy) = .f32) shapeCasts_S200x1_S200
  :: StableHlo.reshape main_v37 main_v38 (rfl : (.f32 : EltTy) = .f32) shapeCasts_S200_S1x200
  :: StableHlo.unary main_v35 main_v39 ((extractStridedSlice S200x1 ![0, 1] · slices_S200x2_S200x1_0_1) : (⟨S200x2, .f32⟩ : BufTy).Contents (Elt F) → (⟨S200x1, .f32⟩ : BufTy).Contents (Elt F))
  :: StableHlo.reshape main_v39 main_v40 (rfl : (.f32 : EltTy) = .f32) shapeCasts_S200x1_S200
  :: StableHlo.reshape main_v40 main_v41 (rfl : (.f32 : EltTy) = .f32) shapeCasts_S200_S1x200
  :: StableHlo.reshape main_arg9 main_v42 (rfl : (.f32 : EltTy) = .f32) shapeCasts_S204x1_S68x3
  :: StableHlo.unary main_v42 main_v43 ((transpose S3x68 [1, 0] · transposes_S68x3_S3x68_1_0) : (⟨S68x3, .f32⟩ : BufTy).Contents (Elt F) → (⟨S3x68, .f32⟩ : BufTy).Contents (Elt F))
  :: StableHlo.unary main_arg10 main_v44 ((Host.slice S68x199 ![0, 0] ![3, 1] · slicesBy_S204x199_S68x199_0s3_0s1) : (⟨S204x199, .f32⟩ : BufTy).Contents (Elt F) → (⟨S68x199, .f32⟩ : BufTy).Contents (Elt F))
  :: StableHlo.unary main_arg10 main_v45 ((Host.slice S68x199 ![1, 0] ![3, 1] · slicesBy_S204x199_S68x199_1s3_0s1) : (⟨S204x199, .f32⟩ : BufTy).Contents (Elt F) → (⟨S68x199, .f32⟩ : BufTy).Contents (Elt F))
  :: StableHlo.unary main_arg10 main_v46 ((Host.slice S68x199 ![2, 0] ![3, 1] · slicesBy_S204x199_S68x199_2s3_0s1) : (⟨S204x199, .f32⟩ : BufTy).Contents (Elt F) → (⟨S68x199, .f32⟩ : BufTy).Contents (Elt F))
  :: StableHlo.nary ![main_v44, main_v45, main_v46] main_v47 (fun u => (concatenate S204x199 0 [⟨S68x199, (u 0 : (⟨S68x199, .f32⟩ : BufTy).Contents (Elt F))⟩, ⟨S68x199, (u 1 : (⟨S68x199, .f32⟩ : BufTy).Contents (Elt F))⟩, ⟨S68x199, (u 2 : (⟨S68x199, .f32⟩ : BufTy).Contents (Elt F))⟩] concatenates_S68x199_S68x199_S68x199_S204x199_d0 : (⟨S204x199, .f32⟩ : BufTy).Contents (Elt F)))
  :: StableHlo.unary main_arg11 main_v48 ((Host.slice S68x29 ![0, 0] ![3, 1] · slicesBy_S204x29_S68x29_0s3_0s1) : (⟨S204x29, .f32⟩ : BufTy).Contents (Elt F) → (⟨S68x29, .f32⟩ : BufTy).Contents (Elt F))
  :: StableHlo.unary main_arg11 main_v49 ((Host.slice S68x29 ![1, 0] ![3, 1] · slicesBy_S204x29_S68x29_1s3_0s1) : (⟨S204x29, .f32⟩ : BufTy).Contents (Elt F) → (⟨S68x29, .f32⟩ : BufTy).Contents (Elt F))
  :: StableHlo.unary main_arg11 main_v50 ((Host.slice S68x29 ![2, 0] ![3, 1] · slicesBy_S204x29_S68x29_2s3_0s1) : (⟨S204x29, .f32⟩ : BufTy).Contents (Elt F) → (⟨S68x29, .f32⟩ : BufTy).Contents (Elt F))
  :: StableHlo.nary ![main_v48, main_v49, main_v50] main_v51 (fun u => (concatenate S204x29 0 [⟨S68x29, (u 0 : (⟨S68x29, .f32⟩ : BufTy).Contents (Elt F))⟩, ⟨S68x29, (u 1 : (⟨S68x29, .f32⟩ : BufTy).Contents (Elt F))⟩, ⟨S68x29, (u 2 : (⟨S68x29, .f32⟩ : BufTy).Contents (Elt F))⟩] concatenates_S68x29_S68x29_S68x29_S204x29_d0 : (⟨S204x29, .f32⟩ : BufTy).Contents (Elt F)))
  :: StableHlo.unary main_arg1 main_v52 ((transpose S2x16 [1, 0] · transposes_S16x2_S2x16_1_0) : (⟨S16x2, .f32⟩ : BufTy).Contents (Elt F) → (⟨S2x16, .f32⟩ : BufTy).Contents (Elt F))
  :: StableHlo.unary main_arg2 main_v53 ((transpose S2x16x800 [2, 0, 1] · transposes_S16x800x2_S2x16x800_2_0_1) : (⟨S16x800x2, .f32⟩ : BufTy).Contents (Elt F) → (⟨S2x16x800, .f32⟩ : BufTy).Contents (Elt F))
  :: StableHlo.reshape main_v53 main_v54 (rfl : (.f32 : EltTy) = .f32) shapeCasts_S2x16x800_S32x800
  :: StableHlo.unary main_arg5 main_v55 ((transpose S2x16x200 [2, 0, 1] · transposes_S16x200x2_S2x16x200_2_0_1) : (⟨S16x200x2, .f32⟩ : BufTy).Contents (Elt F) → (⟨S2x16x200, .f32⟩ : BufTy).Contents (Elt F))
  :: StableHlo.reshape main_v55 main_v56 (rfl : (.f32 : EltTy) = .f32) shapeCasts_S2x16x200_S32x200
  :: StableHlo.unary main_arg3 main_v57 ((transpose S4x16x800 [2, 0, 1] · transposes_S16x800x4_S4x16x800_2_0_1) : (⟨S16x800x4, .f32⟩ : BufTy).Contents (Elt F) → (⟨S4x16x800, .f32⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.nullary_bufs_sub .., StableHlo.nullary_bufs_sub .., StableHlo.unary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.unary_bufs_sub .., StableHlo.unary_bufs_sub .., StableHlo.binary_bufs_sub .., StableHlo.reshape_bufs_sub .., StableHlo.unary_bufs_sub .., StableHlo.unary_bufs_sub .., StableHlo.reshape_bufs_sub .., StableHlo.reshape_bufs_sub .., StableHlo.unary_bufs_sub .., StableHlo.reshape_bufs_sub .., StableHlo.reshape_bufs_sub .., StableHlo.reshape_bufs_sub .., StableHlo.unary_bufs_sub .., StableHlo.unary_bufs_sub .., StableHlo.unary_bufs_sub .., StableHlo.unary_bufs_sub .., StableHlo.nary_bufs_sub .., StableHlo.unary_bufs_sub .., StableHlo.unary_bufs_sub .., StableHlo.unary_bufs_sub .., StableHlo.nary_bufs_sub .., StableHlo.unary_bufs_sub .., StableHlo.unary_bufs_sub .., StableHlo.reshape_bufs_sub .., StableHlo.unary_bufs_sub .., StableHlo.reshape_bufs_sub .., StableHlo.unary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (Pipeline.Sig Λ₀ (Fin 1) fun p => (pcfgs (F := F) p).Adm) .tc) PUnit) := by
  chain_rfl

/-- 3 host operations of @main, window 1 (statements 61 … 65), in order. -/
abbrev main_part1_ops0 : List (HloOp τ sig (Elt F)) :=
  [ StableHlo.reshape main_v57 main_v58 (rfl : (.f32 : EltTy) = .f32) shapeCasts_S4x16x800_S64x800,
    StableHlo.unary main_arg6 main_v59 ((transpose S4x16x200 [2, 0, 1] · transposes_S16x200x4_S4x16x200_2_0_1) : (⟨S16x200x4, .f32⟩ : BufTy).Contents (Elt F) → (⟨S4x16x200, .f32⟩ : BufTy).Contents (Elt F)),
    StableHlo.reshape main_v59 main_v60 (rfl : (.f32 : EltTy) = .f32) shapeCasts_S4x16x200_S64x200 ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.reshape_bufs_sub .., StableHlo.unary_bufs_sub .., StableHlo.reshape_bufs_sub ..⟩
/-- The last window of `main` (`main_part1`, statements 61 … 65) is the chain of ITS items, each item aligned with the window's
    statements, then `chain_rfl`. -/
theorem main_part1_chain (c : Dev nD) : main_part1 (F := F) c = (Pipeline.chain
  [ StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  rewrite [StableHlo.chain_seq_cons, Pipeline.chain_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (Pipeline.Sig Λ₀ (Fin 1) fun p => (pcfgs (F := F) p).Adm)) :=
  [ .ops [main_part0_ops0, main_part1_ops0],
    .prog (Prog.lift (.customCall (Pipeline.entry 0) ())) ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part1_ops0,
    Prog.lift (.customCall (Pipeline.entry 0) ()) ] : Prog (TpuEff nD τ sig (Elt F) (Pipeline.Sig Λ₀ (Fin 1) fun p => (pcfgs (F := F) p).Adm) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    Prog.lift (.customCall (Pipeline.entry 0) ()) ] : Prog (TpuEff nD τ sig (Elt F) (Pipeline.Sig Λ₀ (Fin 1) fun p => (pcfgs (F := F) p).Adm) .tc) PUnit) :=
  (main_chain_windows (F := F) c).trans <| (main_chain_cut (F := F) c).trans <|
    (StableHlo.chain_cut_eq_whole (main_groups (F := F) c)).trans (main_chain_whole (F := F) c)

end Cert.KernelIdeal.Gen

end
-- ==== Proof.KIFrame.lean ====
module

public import proofs.«01_k».proof.Proof.KILaunch
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1140000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 4).trans (((dats 0 c).arrAt_in 4 rfl _).trans ((hA c 4).trans (V_main_arg4 m c))),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩) h

end Cert.KernelIdeal.Gen

end
-- ==== Proof.KIStage.lean ====
/- The values the kernel body of `KernelIdeal` computes, named one by one over the contents of its sixteen input windows. -/
module

public import proofs.«01_k».proof.Proof.KIFrame
public import proofs.«01_k».proof.Proof.Gen.KernelIdeal.Skeleton

@[expose] public section

set_option maxRecDepth 16384

noncomputable section

namespace Cert.Proof.KI

open Cert.KernelIdeal Cert.KernelIdeal.Gen
open Idealize.ShloMosaic Idealize.SL.Sem

variable {F : FTy → Type} [FloatOps F]

/-- The contents of the sixteen input windows. -/
structure Ins (F : FTy → Type) where
  x0 : Vec F S16x2 .f32
  x1 : Vec F S2x16 .f32
  x2 : Vec F S32x800 .f32
  x3 : Vec F S64x800 .f32
  x4 : Vec F S16x800x237 .f32
  x5 : Vec F S32x200 .f32
  x6 : Vec F S64x200 .f32
  x7 : Vec F S16x200x237 .f32
  x8 : Vec F S2x237 .f32
  x9 : Vec F S3x68 .f32
  x10 : Vec F S204x199 .f32
  x11 : Vec F S204x29 .f32
  x12 : Vec F S1x800 .f32
  x13 : Vec F S1x800 .f32
  x14 : Vec F S1x200 .f32
  x15 : Vec F S1x200 .f32

/-- One trip of the selection loop: the scores left, the values and the indices recorded. -/
def trip1 (v88 : IVec S64x800 32) (k : Fin k0_t1_loop.trips) (s : FVec F S64x800 .f32 × FVec F S64x100 .f32 × FVec F S64x100 .f32) :
    FVec F S64x800 .f32 × FVec F S64x100 .f32 × FVec F S64x100 .f32 :=
  (k0_pay45 v88 s.1, k0_pay43 k s.1 s.2.1, k0_pay44 v88 k s.1 s.2.2)

/-- One trip of the suppression loop: the scores left and the six values recorded. -/
def trip2 (v102 : FVec F S32x200 .f32) (v678 : FVec F S4x200 .f32) (v695 : FVec F S16x4x200 .f32) (v696 : FVec F S1x4x200 .f32) (v697 : FVec F S1x4x200 .f32) (v698 : FVec F S1x4x200 .f32) (v699 : FVec F S1x4x200 .f32) (v700 : FVec F S1x4x200 .f32) (v701 : FVec F S1x4x200 .f32) (v702 : FVec F S1x4x200 .f32) (v703 : FVec F S1x4x200 .f32) (v704 : FVec F S1x4x200 .f32) (v705 : FVec F S1x4x200 .f32) (v706 : FVec F S1x4x200 .f32) (v707 : FVec F S1x4x200 .f32) (v708 : FVec F S1x4x200 .f32) (v709 : FVec F S1x4x200 .f32) (v710 : FVec F S1x4x200 .f32)
    (k : Fin k0_t2_loop.trips) (s : FVec F S32x200 .f32 × FVec F S32x100 .f32 × FVec F S32x100 .f32 × FVec F S32x100 .f32 × FVec F S32x100 .f32 × FVec F S32x100 .f32 × FVec F S32x100 .f32) :
    FVec F S32x200 .f32 × FVec F S32x100 .f32 × FVec F S32x100 .f32 × FVec F S32x100 .f32 × FVec F S32x100 .f32 × FVec F S32x100 .f32 × FVec F S32x100 .f32 :=
  (k0_pay171 v678 v695 v696 v697 v698 v699 v700 v701 v702 v703 v704 v705 v706 v707 v708 v709 v710 s.1
      (k0_pay10 (k0_pay157 v678 v695 v696 v697 v698 v699 v700 v701 v702 v703 v704 v705 v706 v707 v708 v709 v710) (k0_pay158 v678 v695 v696 v697 v698 v699 v700 v701 v702 v703 v704 v705 v706 v707 v708 v709 v710) (k0_pay159 v678 v695 v696 v697 v698 v699 v700 v701 v702 v703 v704 v705 v706 v707 v708 v709 v710) (k0_pay160 v678 v695 v696 v697 v698 v699 v700 v701 v702 v703 v704 v705 v706 v707 v708 v709 v710) (k0_pay162 (F := F)) s.1)
      (k0_pay11 (k0_pay157 v678 v695 v696 v697 v698 v699 v700 v701 v702 v703 v704 v705 v706 v707 v708 v709 v710) (k0_pay159 v678 v695 v696 v697 v698 v699 v700 v701 v702 v703 v704 v705 v706 v707 v708 v709 v710) (k0_pay162 (F := F)) s.1)
      (k0_pay12 (k0_pay158 v678 v695 v696 v697 v698 v699 v700 v701 v702 v703 v704 v705 v706 v707 v708 v709 v710) (k0_pay160 v678 v695 v696 v697 v698 v699 v700 v701 v702 v703 v704 v705 v706 v707 v708 v709 v710) (k0_pay162 (F := F)) s.1) (k0_pay13 (F := F)),
    k0_pay165 s.2.1 (Scf.iv 0#32 1#32 k) (k0_pay3 s.1),
    k0_pay166 s.2.2.1 (Scf.iv 0#32 1#32 k) (k0_pay5 (k0_pay157 v678 v695 v696 v697 v698 v699 v700 v701 v702 v703 v704 v705 v706 v707 v708 v709 v710) (k0_pay162 (F := F)) s.1),
    k0_pay167 s.2.2.2.1 (Scf.iv 0#32 1#32 k) (k0_pay6 (k0_pay158 v678 v695 v696 v697 v698 v699 v700 v701 v702 v703 v704 v705 v706 v707 v708 v709 v710) (k0_pay162 (F := F)) s.1),
    k0_pay168 s.2.2.2.2.1 (Scf.iv 0#32 1#32 k) (k0_pay7 (k0_pay159 v678 v695 v696 v697 v698 v699 v700 v701 v702 v703 v704 v705 v706 v707 v708 v709 v710) (k0_pay162 (F := F)) s.1),
    k0_pay169 s.2.2.2.2.2.1 (Scf.iv 0#32 1#32 k) (k0_pay8 (k0_pay160 v678 v695 v696 v697 v698 v699 v700 v701 v702 v703 v704 v705 v706 v707 v708 v709 v710) (k0_pay162 (F := F)) s.1),
    k0_pay170 s.2.2.2.2.2.2 (Scf.iv 0#32 1#32 k) (k0_pay9 v102 (k0_pay162 (F := F)) s.1))

/-! The values, in the order the body computes them. -/

def v0 (X : Ins F) : Vec F S16x2 .f32 := View.ld X.x0 (Rect.unit (s := S16x2) ![0, 0] S16x2.size inb_S16x2_S16x2_0_0)
def v5 (X : Ins F) : Vec F S2x16 .f32 := View.ld X.x1 (Rect.unit (s := S2x16) ![0, 0] S2x16.size inb_S2x16_S2x16_0_0)
def v11 (X : Ins F) : Vec F S32x800 .f32 := View.ld X.x2 (Rect.unit (s := S32x800) ![0, 0] S32x800.size inb_S32x800_S32x800_0_0)
def v14 (X : Ins F) : Vec F S32x200 .f32 := View.ld X.x5 (Rect.unit (s := S32x200) ![0, 0] S32x200.size inb_S32x200_S32x200_0_0)
def v17 (X : Ins F) : Vec F S1x800 .f32 := View.ld X.x12 (Rect.unit (s := S1x800) ![0, 0] S1x800.size inb_S1x800_S1x800_0_0)
def v19 (X : Ins F) : Vec F S1x800 .f32 := View.ld X.x13 (Rect.unit (s := S1x800) ![0, 0] S1x800.size inb_S1x800_S1x800_0_0)
def v21 (X : Ins F) : Vec F S1x200 .f32 := View.ld X.x14 (Rect.unit (s := S1x200) ![0, 0] S1x200.size inb_S1x200_S1x200_0_0)
def v23 (X : Ins F) : Vec F S1x200 .f32 := View.ld X.x15 (Rect.unit (s := S1x200) ![0, 0] S1x200.size inb_S1x200_S1x200_0_0)
def v25 (X : Ins F) : Vec F S64x800 .f32 := View.ld X.x3 (Rect.unit (s := S64x800) ![0, 0] S64x800.size inb_S64x800_S64x800_0_0)
def v27 (X : Ins F) : Vec F S64x200 .f32 := View.ld X.x6 (Rect.unit (s := S64x200) ![0, 0] S64x200.size inb_S64x200_S64x200_0_0)
def v3 (X : Ins F) : FVec F S16x1 .f32 := k0_pay15 (v0 X)
def v4 (X : Ins F) : FVec F S16x1 .f32 := k0_pay16 (v0 X)
def v9 (X : Ins F) : FVec F S1x16 .f32 := k0_pay18 (v5 X)
def v10 (X : Ins F) : FVec F S1x16 .f32 := k0_pay19 (v5 X)
def v13 (X : Ins F) : FVec F S32x800 .f32 := k0_pay20 (v11 X)
def v16 (X : Ins F) : FVec F S32x200 .f32 := k0_pay21 (v14 X)
def v18 (X : Ins F) : FVec F S1x800 .f32 := k0_pay22 (v17 X)
def v20 (X : Ins F) : FVec F S1x800 .f32 := k0_pay23 (v19 X)
def v22 (X : Ins F) : FVec F S1x200 .f32 := k0_pay24 (v21 X)
def v24 (X : Ins F) : FVec F S1x200 .f32 := k0_pay25 (v23 X)
def v26 (X : Ins F) : FVec F S64x800 .f32 := k0_pay26 (v25 X)
def v28 (X : Ins F) : FVec F S64x200 .f32 := k0_pay27 (v27 X)
def v35 (X : Ins F) : FVec F S16x800 .f32 := k0_pay28 (v0 X) (v17 X) (v25 X)
def v36 (X : Ins F) : FVec F S16x800 .f32 := k0_pay29 (v25 X)
def v88 (X : Ins F) : IVec S64x800 32 := iota .tc S64x800 32 [1] iota_S64x800_d1_w32
def v42 (X : Ins F) : FVec F S16x800 .f32 := k0_pay30 (v3 X) (v20 X) (v36 X)
def v49 (X : Ins F) : FVec F S16x800 .f32 := k0_pay31 (v4 X) (v18 X) (v26 X)
def v56 (X : Ins F) : FVec F S16x800 .f32 := k0_pay32 (v3 X) (v20 X) (v26 X)
def v63 (X : Ins F) : FVec F S16x200 .f32 := k0_pay33 (v4 X) (v22 X) (v28 X)
def v70 (X : Ins F) : FVec F S16x200 .f32 := k0_pay34 (v3 X) (v24 X) (v28 X)
def v77 (X : Ins F) : FVec F S16x200 .f32 := k0_pay35 (v4 X) (v22 X) (v28 X)
def v84 (X : Ins F) : FVec F S16x200 .f32 := k0_pay36 (v3 X) (v24 X) (v28 X)
def v87 (X : Ins F) : FVec F S64x800 .f32 := k0_pay37 (v13 X) (v16 X)
def loop_t1 (X : Ins F) : FVec F S64x800 .f32 × FVec F S64x100 .f32 × FVec F S64x100 .f32 :=
  Scf.fold (trip1 (v88 X)) ((v87 X), k0_pay39 (F := F), k0_pay39 (F := F))
def v94_0 (X : Ins F) : FVec F S64x800 .f32 := (loop_t1 X).1
def v94_1 (X : Ins F) : FVec F S64x100 .f32 := (loop_t1 X).2.1
def v94_2 (X : Ins F) : FVec F S64x100 .f32 := (loop_t1 X).2.2
def v97 (X : Ins F) : FVec F S32x200 .f32 := k0_pay46 (v94_1 X)
def v102 (X : Ins F) : FVec F S32x200 .f32 := k0_pay47 (v94_2 X)
def v135 (X : Ins F) : FVec F S4x200 .f32 := k0_pay50 (v35 X) (v42 X) (v49 X) (v56 X) (v63 X) (v70 X) (v77 X) (v84 X) (v94_2 X)
def v138 (X : Ins F) : FVec F S4x200 .f32 := k0_pay51 (v35 X) (v42 X) (v49 X) (v56 X) (v63 X) (v70 X) (v77 X) (v84 X) (v94_2 X)
def v139 (X : Ins F) : FVec F S1x100 .f32 := k0_pay52 (v94_2 X)
def v140 (X : Ins F) : FVec F S1x100 .f32 := k0_pay53 (v94_2 X)
def v171 (X : Ins F) : FVec F S4x200 .f32 := k0_pay56 (v35 X) (v42 X) (v49 X) (v56 X) (v63 X) (v70 X) (v77 X) (v84 X) (v94_2 X) (v139 X) (v140 X)
def v174 (X : Ins F) : FVec F S4x200 .f32 := k0_pay57 (v35 X) (v42 X) (v49 X) (v56 X) (v63 X) (v70 X) (v77 X) (v84 X) (v94_2 X) (v139 X) (v140 X)
def v186 (X : Ins F) : FVec F S800x200 .f32 := k0_pay58 (v94_2 X)
def v192 (X : Ins F) : FVec F S200x200 .f32 := k0_pay59 (v94_2 X)
def v197 (X : Ins F) : FVec F S4x800 .f32 := k0_pay60 (v35 X) (v42 X) (v49 X) (v56 X)
def v198 (X : Ins F) : FVec F S1x200 .f32 := k0_pay61 (v63 X)
def v207 (X : Ins F) : FVec F S4x200 .f32 := k0_pay64 (v70 X) (v77 X) (v84 X) (v186 X) (v192 X) (v197 X) (v198 X)
def v210 (X : Ins F) : FVec F S4x200 .f32 := k0_pay65 (v70 X) (v77 X) (v84 X) (v186 X) (v192 X) (v197 X) (v198 X)
def v243 (X : Ins F) : FVec F S4x200 .f32 := k0_pay68 (v35 X) (v42 X) (v49 X) (v56 X) (v63 X) (v70 X) (v77 X) (v84 X) (v94_2 X)
def v246 (X : Ins F) : FVec F S4x200 .f32 := k0_pay69 (v35 X) (v42 X) (v49 X) (v56 X) (v63 X) (v70 X) (v77 X) (v84 X) (v94_2 X)
def v249 (X : Ins F) : FVec F S1x200 .f32 := k0_pay70 (v94_2 X)
def v252 (X : Ins F) : FVec F S1x200 .f32 := k0_pay71 (v94_2 X)
def v254 (X : Ins F) : FVec F S800x200 .f32 := k0_pay72 (F := F)
def v279 (X : Ins F) : FVec F S4x200 .f32 := k0_pay75 (v35 X) (v42 X) (v49 X) (v56 X) (v63 X) (v70 X) (v77 X) (v84 X) (v249 X) (v252 X) (v254 X)
def v282 (X : Ins F) : FVec F S4x200 .f32 := k0_pay76 (v35 X) (v42 X) (v49 X) (v56 X) (v63 X) (v70 X) (v77 X) (v84 X) (v249 X) (v252 X) (v254 X)
def v300 (X : Ins F) : FVec F S200x200 .f32 := k0_pay77 (v94_2 X)
def v310 (X : Ins F) : FVec F S4x200 .f32 := k0_pay78 (v63 X) (v70 X) (v77 X) (v84 X)
def v311 (X : Ins F) : FVec F S4x200 .f32 := k0_pay79 (v35 X) (v42 X) (v49 X) (v56 X) (v94_2 X)
def v315 (X : Ins F) : FVec F S4x200 .f32 := k0_pay81 (v300 X) (v310 X) (v311 X)
def v318 (X : Ins F) : FVec F S4x200 .f32 := k0_pay82 (v300 X) (v310 X) (v311 X)
def v351 (X : Ins F) : FVec F S4x200 .f32 := k0_pay85 (v35 X) (v42 X) (v49 X) (v56 X) (v63 X) (v70 X) (v77 X) (v84 X) (v94_2 X)
def v354 (X : Ins F) : FVec F S4x200 .f32 := k0_pay86 (v35 X) (v42 X) (v49 X) (v56 X) (v63 X) (v70 X) (v77 X) (v84 X) (v94_2 X)
def v360 (X : Ins F) : FVec F S1x200 .f32 := k0_pay87 (v94_2 X)
def v366 (X : Ins F) : FVec F S800x200 .f32 := k0_pay88 (v94_2 X)
def v368 (X : Ins F) : FVec F S200x200 .f32 := k0_pay89 (F := F)
def v387 (X : Ins F) : FVec F S4x200 .f32 := k0_pay92 (v35 X) (v42 X) (v49 X) (v56 X) (v63 X) (v70 X) (v77 X) (v84 X) (v360 X) (v366 X) (v368 X)
def v390 (X : Ins F) : FVec F S4x200 .f32 := k0_pay93 (v35 X) (v42 X) (v49 X) (v56 X) (v63 X) (v70 X) (v77 X) (v84 X) (v360 X) (v366 X) (v368 X)
def v420 (X : Ins F) : FVec F S4x200 .f32 := k0_pay95 (v63 X) (v70 X) (v77 X) (v84 X) (v94_2 X)
def v423 (X : Ins F) : FVec F S4x200 .f32 := k0_pay96 (v35 X) (v42 X) (v49 X) (v56 X) (v63 X) (v70 X) (v77 X) (v84 X) (v94_2 X)
def v424 (X : Ins F) : FVec F S4x100 .f32 := k0_pay97 (v35 X) (v42 X) (v49 X) (v56 X) (v94_2 X)
def v426 (X : Ins F) : FVec F S4x200 .f32 := k0_pay98 (v420 X) (v424 X)
def v459 (X : Ins F) : FVec F S4x200 .f32 := k0_pay101 (v35 X) (v42 X) (v49 X) (v56 X) (v63 X) (v70 X) (v77 X) (v84 X) (v94_2 X)
def v462 (X : Ins F) : FVec F S4x200 .f32 := k0_pay102 (v35 X) (v42 X) (v49 X) (v56 X) (v63 X) (v70 X) (v77 X) (v84 X) (v94_2 X)
def v474 (X : Ins F) : FVec F S800x200 .f32 := k0_pay103 (v94_2 X)
def v480 (X : Ins F) : FVec F S200x200 .f32 := k0_pay104 (v94_2 X)
def v481 (X : Ins F) : FVec F S1x800 .f32 := k0_pay105 (v35 X)
def v482 (X : Ins F) : FVec F S1x800 .f32 := k0_pay106 (v42 X)
def v495 (X : Ins F) : FVec F S4x200 .f32 := k0_pay109 (v49 X) (v56 X) (v63 X) (v70 X) (v77 X) (v84 X) (v474 X) (v480 X) (v481 X) (v482 X)
def v498 (X : Ins F) : FVec F S4x200 .f32 := k0_pay110 (v49 X) (v56 X) (v63 X) (v70 X) (v77 X) (v84 X) (v474 X) (v480 X) (v481 X) (v482 X)
def v531 (X : Ins F) : FVec F S4x200 .f32 := k0_pay113 (v35 X) (v42 X) (v49 X) (v56 X) (v63 X) (v70 X) (v77 X) (v84 X) (v94_2 X)
def v534 (X : Ins F) : FVec F S4x200 .f32 := k0_pay114 (v35 X) (v42 X) (v49 X) (v56 X) (v63 X) (v70 X) (v77 X) (v84 X) (v94_2 X)
def v537 (X : Ins F) : FVec F S1x200 .f32 := k0_pay115 (v94_2 X)
def v538 (X : Ins F) : FVec F S1x100 .f32 := k0_pay116 (v94_2 X)
def v567 (X : Ins F) : FVec F S4x200 .f32 := k0_pay119 (v35 X) (v42 X) (v49 X) (v56 X) (v63 X) (v70 X) (v77 X) (v84 X) (v94_2 X) (v537 X) (v538 X)
def v570 (X : Ins F) : FVec F S4x200 .f32 := k0_pay120 (v35 X) (v42 X) (v49 X) (v56 X) (v63 X) (v70 X) (v77 X) (v84 X) (v94_2 X) (v537 X) (v538 X)
def v582 (X : Ins F) : FVec F S800x200 .f32 := k0_pay121 (v94_2 X)
def v588 (X : Ins F) : FVec F S200x200 .f32 := k0_pay122 (v94_2 X)
def v593 (X : Ins F) : FVec F S4x800 .f32 := k0_pay123 (v35 X) (v42 X) (v49 X) (v56 X)
def v594 (X : Ins F) : FVec F S1x200 .f32 := k0_pay124 (v63 X)
def v595 (X : Ins F) : FVec F S1x200 .f32 := k0_pay125 (v70 X)
def v596 (X : Ins F) : FVec F S1x200 .f32 := k0_pay126 (v77 X)
def v603 (X : Ins F) : FVec F S4x200 .f32 := k0_pay129 (v84 X) (v582 X) (v588 X) (v593 X) (v594 X) (v595 X) (v596 X)
def v606 (X : Ins F) : FVec F S4x200 .f32 := k0_pay130 (v84 X) (v582 X) (v588 X) (v593 X) (v594 X) (v595 X) (v596 X)
def v639 (X : Ins F) : FVec F S4x200 .f32 := k0_pay133 (v35 X) (v42 X) (v49 X) (v56 X) (v63 X) (v70 X) (v77 X) (v84 X) (v94_2 X)
def v642 (X : Ins F) : FVec F S4x200 .f32 := k0_pay134 (v35 X) (v42 X) (v49 X) (v56 X) (v63 X) (v70 X) (v77 X) (v84 X) (v94_2 X)
def v648 (X : Ins F) : FVec F S1x200 .f32 := k0_pay135 (v94_2 X)
def v652 (X : Ins F) : IVec S800x200 1 := k0_pay136 (v94_2 X)
def v678 (X : Ins F) : FVec F S4x200 .f32 := k0_pay139 (v35 X) (v42 X) (v49 X) (v56 X) (v63 X) (v70 X) (v77 X) (v84 X) (v648 X) (v652 X)
def v695 (X : Ins F) : FVec F S16x4x200 .f32 := k0_pay140 (v35 X) (v42 X) (v49 X) (v56 X) (v63 X) (v70 X) (v77 X) (v84 X) (v135 X) (v171 X) (v207 X) (v243 X) (v279 X) (v315 X) (v351 X) (v387 X) (v423 X) (v459 X) (v495 X) (v531 X) (v567 X) (v603 X) (v639 X) (v648 X) (v652 X)
def v696 (X : Ins F) : FVec F S1x4x200 .f32 := k0_pay141 (v138 X)
def v697 (X : Ins F) : FVec F S1x4x200 .f32 := k0_pay142 (v174 X)
def v698 (X : Ins F) : FVec F S1x4x200 .f32 := k0_pay143 (v210 X)
def v699 (X : Ins F) : FVec F S1x4x200 .f32 := k0_pay144 (v246 X)
def v700 (X : Ins F) : FVec F S1x4x200 .f32 := k0_pay145 (v282 X)
def v701 (X : Ins F) : FVec F S1x4x200 .f32 := k0_pay146 (v318 X)
def v702 (X : Ins F) : FVec F S1x4x200 .f32 := k0_pay147 (v354 X)
def v703 (X : Ins F) : FVec F S1x4x200 .f32 := k0_pay148 (v390 X)
def v704 (X : Ins F) : FVec F S1x4x200 .f32 := k0_pay149 (v426 X)
def v705 (X : Ins F) : FVec F S1x4x200 .f32 := k0_pay150 (v462 X)
def v706 (X : Ins F) : FVec F S1x4x200 .f32 := k0_pay151 (v498 X)
def v707 (X : Ins F) : FVec F S1x4x200 .f32 := k0_pay152 (v534 X)
def v708 (X : Ins F) : FVec F S1x4x200 .f32 := k0_pay153 (v570 X)
def v709 (X : Ins F) : FVec F S1x4x200 .f32 := k0_pay154 (v606 X)
def v710 (X : Ins F) : FVec F S1x4x200 .f32 := k0_pay155 (v642 X)
def loop_t2 (X : Ins F) : FVec F S32x200 .f32 × FVec F S32x100 .f32 × FVec F S32x100 .f32 × FVec F S32x100 .f32 × FVec F S32x100 .f32 × FVec F S32x100 .f32 × FVec F S32x100 .f32 :=
  Scf.fold (trip2 (v102 X) (v678 X) (v695 X) (v696 X) (v697 X) (v698 X) (v699 X) (v700 X) (v701 X) (v702 X) (v703 X) (v704 X) (v705 X) (v706 X) (v707 X) (v708 X) (v709 X) (v710 X)) (k0_pay161 (v97 X), k0_pay163 (F := F), k0_pay163 (F := F), k0_pay163 (F := F), k0_pay163 (F := F), k0_pay163 (F := F), k0_pay163 (F := F))
def v743_0 (X : Ins F) : FVec F S32x200 .f32 := (loop_t2 X).1
def v743_1 (X : Ins F) : FVec F S32x100 .f32 := (loop_t2 X).2.1
def v743_2 (X : Ins F) : FVec F S32x100 .f32 := (loop_t2 X).2.2.1
def v743_3 (X : Ins F) : FVec F S32x100 .f32 := (loop_t2 X).2.2.2.1
def v743_4 (X : Ins F) : FVec F S32x100 .f32 := (loop_t2 X).2.2.2.2.1
def v743_5 (X : Ins F) : FVec F S32x100 .f32 := (loop_t2 X).2.2.2.2.2.1
def v743_6 (X : Ins F) : FVec F S32x100 .f32 := (loop_t2 X).2.2.2.2.2.2
def v763 (X : Ins F) : IVec S200x200 32 := iota .tc S200x200 32 [0] iota_S200x200_d0_w32
def v746 (X : Ins F) : FVec F S16x200 .f32 := k0_pay172 (v743_1 X)
def v749 (X : Ins F) : FVec F S16x200 .f32 := k0_pay173 (v743_2 X)
def v752 (X : Ins F) : FVec F S16x200 .f32 := k0_pay174 (v743_3 X)
def v755 (X : Ins F) : FVec F S16x200 .f32 := k0_pay175 (v743_4 X)
def v758 (X : Ins F) : FVec F S16x200 .f32 := k0_pay176 (v743_5 X)
def v761 (X : Ins F) : FVec F S16x200 .f32 := k0_pay177 (v743_6 X)
def v762 (X : Ins F) : FVec F S200x16 .f32 := k0_pay178 (v743_1 X)
def v764 (X : Ins F) : FVec F S200x200 .f32 := k0_pay179 (F := F) (v763 X)
def v766 (X : Ins F) : FVec F S200x200 .f32 := k0_pay180 (F := F)
def v768 (X : Ins F) : FVec F S200x100 .f32 := k0_pay181 (F := F)
def v770 (X : Ins F) : FVec F S1x200 .f32 := k0_pay182 (F := F)
def v797 (X : Ins F) : FVec F S7x100 .f32 := k0_pay183 (v746 X) (v749 X) (v752 X) (v755 X) (v758 X) (v761 X) (v762 X) (v763 X)
def v816 (X : Ins F) : FVec F S200x100 .f32 := k0_pay184 (v746 X) (v762 X) (v763 X)
def v817 (X : Ins F) : FVec F S1x200 .f32 := k0_pay185 (v749 X)
def v818 (X : Ins F) : FVec F S1x200 .f32 := k0_pay186 (v752 X)
def v819 (X : Ins F) : FVec F S1x200 .f32 := k0_pay187 (v755 X)
def v820 (X : Ins F) : FVec F S1x200 .f32 := k0_pay188 (v758 X)
def v824 (X : Ins F) : FVec F S7x100 .f32 := k0_pay189 (v746 X) (v761 X) (v770 X) (v816 X) (v817 X) (v818 X) (v819 X) (v820 X)
def v851 (X : Ins F) : FVec F S7x100 .f32 := k0_pay190 (v746 X) (v749 X) (v752 X) (v755 X) (v758 X) (v761 X) (v762 X) (v764 X) (v766 X) (v768 X) (v770 X)
def v870 (X : Ins F) : FVec F S200x100 .f32 := k0_pay191 (v746 X) (v762 X) (v764 X) (v766 X) (v768 X)
def v871 (X : Ins F) : FVec F S1x200 .f32 := k0_pay192 (v749 X)
def v872 (X : Ins F) : FVec F S1x200 .f32 := k0_pay193 (v752 X)
def v873 (X : Ins F) : FVec F S1x200 .f32 := k0_pay194 (v755 X)
def v874 (X : Ins F) : FVec F S1x200 .f32 := k0_pay195 (v758 X)
def v875 (X : Ins F) : FVec F S1x200 .f32 := k0_pay196 (v746 X)
def v876 (X : Ins F) : FVec F S1x200 .f32 := k0_pay197 (v761 X)
def cst_82 (X : Ins F) : FVec F S7x100 .f32 := constant S7x100 .f32 0x00000000#32
def v878 (X : Ins F) : FVec F S7x100 .f32 := k0_pay198 (v770 X) (v870 X) (v871 X) (v872 X) (v873 X) (v874 X) (v875 X) (v876 X)
def v905 (X : Ins F) : FVec F S7x100 .f32 := k0_pay199 (v746 X) (v749 X) (v752 X) (v755 X) (v758 X) (v761 X) (v762 X) (v764 X) (v766 X) (v768 X) (v770 X)
def v924 (X : Ins F) : FVec F S200x100 .f32 := k0_pay200 (v746 X) (v762 X) (v764 X) (v766 X) (v768 X)
def v931 (X : Ins F) : FVec F S7x200 .f32 := k0_pay201 (v746 X) (v749 X) (v752 X) (v755 X) (v758 X) (v761 X) (v770 X)
def v932 (X : Ins F) : FVec F S7x100 .f32 := k0_pay202 (v924 X) (v931 X) (cst_82 X)
def v959 (X : Ins F) : FVec F S7x100 .f32 := k0_pay203 (v746 X) (v749 X) (v752 X) (v755 X) (v758 X) (v761 X) (v762 X) (v764 X) (v766 X) (v768 X) (v770 X)
def v986 (X : Ins F) : FVec F S7x100 .f32 := k0_pay204 (v746 X) (v749 X) (v752 X) (v755 X) (v758 X) (v761 X) (v762 X) (v764 X) (v766 X) (v768 X) (v770 X)
def v987 (X : Ins F) : FVec F S1x200 .f32 := k0_pay205 (v746 X)
def v1013 (X : Ins F) : FVec F S7x100 .f32 := k0_pay206 (v746 X) (v749 X) (v752 X) (v755 X) (v758 X) (v761 X) (v762 X) (v764 X) (v766 X) (v768 X) (v770 X) (v987 X)
def v1040 (X : Ins F) : FVec F S7x100 .f32 := k0_pay207 (v746 X) (v749 X) (v752 X) (v755 X) (v758 X) (v761 X) (v762 X) (v764 X) (v766 X) (v768 X) (v770 X)
def v1041 (X : Ins F) : FVec F S1x200 .f32 := k0_pay208 (v746 X)
def v1042 (X : Ins F) : FVec F S200x1 .f32 := k0_pay209 (v762 X)
def v1043 (X : Ins F) : FVec F S200x200 .f32 := k0_pay210 (v746 X)
def v1067 (X : Ins F) : FVec F S7x100 .f32 := k0_pay211 (v746 X) (v749 X) (v752 X) (v755 X) (v758 X) (v761 X) (v764 X) (v766 X) (v768 X) (v770 X) (v1041 X) (v1042 X) (v1043 X)
def v1094 (X : Ins F) : FVec F S7x100 .f32 := k0_pay212 (v746 X) (v749 X) (v752 X) (v755 X) (v758 X) (v761 X) (v762 X) (v764 X) (v766 X) (v768 X) (v770 X)
def v1095 (X : Ins F) : FVec F S1x200 .f32 := k0_pay213 (v746 X)
def v1096 (X : Ins F) : FVec F S200x1 .f32 := k0_pay214 (v762 X)
def v1099 (X : Ins F) : IVec S200x200 1 := k0_pay215 (v746 X) (v762 X)
def v1121 (X : Ins F) : FVec F S7x100 .f32 := k0_pay216 (v746 X) (v749 X) (v752 X) (v755 X) (v758 X) (v761 X) (v764 X) (v766 X) (v768 X) (v770 X) (v1095 X) (v1096 X) (v1099 X)
def v1148 (X : Ins F) : FVec F S7x100 .f32 := k0_pay217 (v746 X) (v749 X) (v752 X) (v755 X) (v758 X) (v761 X) (v762 X) (v764 X) (v766 X) (v768 X) (v770 X)
def v1153 (X : Ins F) : IVec S200x200 1 := k0_pay220 (v746 X) (v762 X)
def v1154 (X : Ins F) : FVec F S200x200 .f32 := k0_pay221 (v746 X)
def v1155 (X : Ins F) : FVec F S200x200 .f32 := k0_pay222 (v762 X)
def v1175 (X : Ins F) : FVec F S7x100 .f32 := k0_pay223 (v746 X) (v749 X) (v752 X) (v755 X) (v758 X) (v761 X) (v764 X) (v766 X) (v768 X) (v770 X) (v1153 X) (v1154 X) (v1155 X)
def v1202 (X : Ins F) : FVec F S7x100 .f32 := k0_pay224 (v746 X) (v749 X) (v752 X) (v755 X) (v758 X) (v761 X) (v762 X) (v764 X) (v766 X) (v768 X) (v770 X)
def v1203 (X : Ins F) : FVec F S1x7x100 .f32 := k0_pay225 (v797 X)
def v1204 (X : Ins F) : FVec F S1x7x100 .f32 := k0_pay226 (v824 X)
def v1205 (X : Ins F) : FVec F S1x7x100 .f32 := k0_pay227 (v851 X)
def v1206 (X : Ins F) : FVec F S1x7x100 .f32 := k0_pay228 (v878 X)
def v1207 (X : Ins F) : FVec F S1x7x100 .f32 := k0_pay229 (v905 X)
def v1208 (X : Ins F) : FVec F S1x7x100 .f32 := k0_pay230 (v932 X)
def v1209 (X : Ins F) : FVec F S1x7x100 .f32 := k0_pay231 (v959 X)
def v1210 (X : Ins F) : FVec F S1x7x100 .f32 := k0_pay232 (v986 X)
def v1211 (X : Ins F) : FVec F S1x7x100 .f32 := k0_pay233 (v1013 X)
def v1227 (X : Ins F) : FVec F S16x100 .f32 := k0_pay235 (v1040 X) (v1067 X) (v1094 X) (v1121 X) (v1148 X) (v1175 X) (v1202 X) (v1203 X) (v1204 X) (v1205 X) (v1206 X) (v1207 X) (v1208 X) (v1209 X) (v1210 X) (v1211 X)
def v1229 (X : Ins F) : FVec F S16x100 .f32 := k0_pay236 (v1040 X) (v1067 X) (v1094 X) (v1121 X) (v1148 X) (v1175 X) (v1202 X) (v1203 X) (v1204 X) (v1205 X) (v1206 X) (v1207 X) (v1208 X) (v1209 X) (v1210 X) (v1211 X)
def v1234 (X : Ins F) : FVec F S16x100 .f32 := k0_pay237 (v1040 X) (v1067 X) (v1094 X) (v1121 X) (v1148 X) (v1175 X) (v1202 X) (v1203 X) (v1204 X) (v1205 X) (v1206 X) (v1207 X) (v1208 X) (v1209 X) (v1210 X) (v1211 X)
def v1242 (X : Ins F) : FVec F S16x100 .f32 := k0_pay238 (v1040 X) (v1067 X) (v1094 X) (v1121 X) (v1148 X) (v1175 X) (v1202 X) (v1203 X) (v1204 X) (v1205 X) (v1206 X) (v1207 X) (v1208 X) (v1209 X) (v1210 X) (v1211 X)
def v1276 (X : Ins F) : Vec F S1x800x237 .f32 := View.ld X.x4 (Rect.unit (s := S16x800x237) ![0, 0, 0] S1x800x237.size inb_S16x800x237_S1x800x237_0_0_0)
def v1279 (X : Ins F) : Vec F S1x200x237 .f32 := View.ld X.x7 (Rect.unit (s := S16x200x237) ![0, 0, 0] S1x200x237.size inb_S16x200x237_S1x200x237_0_0_0)
def v1282 (X : Ins F) : FVec F S100x237 .f32 := k0_pay245 (v1234 X) (v1276 X) (v1279 X)
def v1289 (X : Ins F) : FVec F S800x100 .f32 := k0_pay247 (v1234 X)
def v1291 (X : Ins F) : FVec F S200x100 .f32 := k0_pay248 (F := F)
def v1294 (X : Ins F) : FVec F S200x100 .f32 := k0_pay249 (v1234 X)
def v1298 (X : Ins F) : Vec F S1x800x237 .f32 := View.ld X.x4 (Rect.unit (s := S16x800x237) ![1, 0, 0] S1x800x237.size inb_S16x800x237_S1x800x237_1_0_0)
def v1301 (X : Ins F) : Vec F S1x200x237 .f32 := View.ld X.x7 (Rect.unit (s := S16x200x237) ![1, 0, 0] S1x200x237.size inb_S16x200x237_S1x200x237_1_0_0)
def v1320 (X : Ins F) : Vec F S1x800x237 .f32 := View.ld X.x4 (Rect.unit (s := S16x800x237) ![2, 0, 0] S1x800x237.size inb_S16x800x237_S1x800x237_2_0_0)
def v1323 (X : Ins F) : Vec F S1x200x237 .f32 := View.ld X.x7 (Rect.unit (s := S16x200x237) ![2, 0, 0] S1x200x237.size inb_S16x200x237_S1x200x237_2_0_0)
def v1304 (X : Ins F) : FVec F S100x237 .f32 := k0_pay250 (v1289 X) (v1291 X) (v1294 X) (v1298 X) (v1301 X)
def v1326 (X : Ins F) : FVec F S100x237 .f32 := k0_pay251 (v1234 X) (v1320 X) (v1323 X)
def v1327 (X : Ins F) : FVec F S1x100 .f32 := k0_pay252 (v1234 X)
def v1333 (X : Ins F) : FVec F S800x100 .f32 := k0_pay253 (v1234 X)
def v1335 (X : Ins F) : FVec F S200x100 .f32 := k0_pay254 (F := F)
def v1336 (X : Ins F) : FVec F S1x100 .f32 := k0_pay255 (F := F)
def v1342 (X : Ins F) : Vec F S1x800x237 .f32 := View.ld X.x4 (Rect.unit (s := S16x800x237) ![3, 0, 0] S1x800x237.size inb_S16x800x237_S1x800x237_3_0_0)
def v1345 (X : Ins F) : Vec F S1x200x237 .f32 := View.ld X.x7 (Rect.unit (s := S16x200x237) ![3, 0, 0] S1x200x237.size inb_S16x200x237_S1x200x237_3_0_0)
def v1364 (X : Ins F) : Vec F S1x800x237 .f32 := View.ld X.x4 (Rect.unit (s := S16x800x237) ![4, 0, 0] S1x800x237.size inb_S16x800x237_S1x800x237_4_0_0)
def v1367 (X : Ins F) : Vec F S1x200x237 .f32 := View.ld X.x7 (Rect.unit (s := S16x200x237) ![4, 0, 0] S1x200x237.size inb_S16x200x237_S1x200x237_4_0_0)
def v1348 (X : Ins F) : FVec F S100x237 .f32 := k0_pay256 (v1327 X) (v1333 X) (v1335 X) (v1336 X) (v1342 X) (v1345 X)
def v1370 (X : Ins F) : FVec F S100x237 .f32 := k0_pay257 (v1234 X) (v1364 X) (v1367 X)
def v1371 (X : Ins F) : FVec F S1x100 .f32 := k0_pay258 (v1234 X)
def v1377 (X : Ins F) : FVec F S800x100 .f32 := k0_pay259 (v1234 X)
def v1379 (X : Ins F) : FVec F S200x100 .f32 := k0_pay260 (F := F)
def v1386 (X : Ins F) : Vec F S1x800x237 .f32 := View.ld X.x4 (Rect.unit (s := S16x800x237) ![5, 0, 0] S1x800x237.size inb_S16x800x237_S1x800x237_5_0_0)
def v1389 (X : Ins F) : Vec F S1x200x237 .f32 := View.ld X.x7 (Rect.unit (s := S16x200x237) ![5, 0, 0] S1x200x237.size inb_S16x200x237_S1x200x237_5_0_0)
def v1408 (X : Ins F) : Vec F S1x800x237 .f32 := View.ld X.x4 (Rect.unit (s := S16x800x237) ![6, 0, 0] S1x800x237.size inb_S16x800x237_S1x800x237_6_0_0)
def v1411 (X : Ins F) : Vec F S1x200x237 .f32 := View.ld X.x7 (Rect.unit (s := S16x200x237) ![6, 0, 0] S1x200x237.size inb_S16x200x237_S1x200x237_6_0_0)
def v1392 (X : Ins F) : FVec F S100x237 .f32 := k0_pay261 (v1371 X) (v1377 X) (v1379 X) (v1386 X) (v1389 X)
def v1414 (X : Ins F) : FVec F S100x237 .f32 := k0_pay262 (v1234 X) (v1408 X) (v1411 X)
def v1415 (X : Ins F) : FVec F S1x100 .f32 := k0_pay263 (v1234 X)
def v1421 (X : Ins F) : FVec F S800x100 .f32 := k0_pay264 (v1234 X)
def v1430 (X : Ins F) : Vec F S1x800x237 .f32 := View.ld X.x4 (Rect.unit (s := S16x800x237) ![7, 0, 0] S1x800x237.size inb_S16x800x237_S1x800x237_7_0_0)
def v1433 (X : Ins F) : Vec F S1x200x237 .f32 := View.ld X.x7 (Rect.unit (s := S16x200x237) ![7, 0, 0] S1x200x237.size inb_S16x200x237_S1x200x237_7_0_0)
def v1452 (X : Ins F) : Vec F S1x800x237 .f32 := View.ld X.x4 (Rect.unit (s := S16x800x237) ![8, 0, 0] S1x800x237.size inb_S16x800x237_S1x800x237_8_0_0)
def v1455 (X : Ins F) : Vec F S1x200x237 .f32 := View.ld X.x7 (Rect.unit (s := S16x200x237) ![8, 0, 0] S1x200x237.size inb_S16x200x237_S1x200x237_8_0_0)
def v1436 (X : Ins F) : FVec F S100x237 .f32 := k0_pay265 (v1415 X) (v1421 X) (v1430 X) (v1433 X)
def v1458 (X : Ins F) : FVec F S100x237 .f32 := k0_pay266 (v1234 X) (v1452 X) (v1455 X)
def v1459 (X : Ins F) : FVec F S1x100 .f32 := k0_pay267 (v1234 X)
def v1463 (X : Ins F) : IVec S800x100 1 := k0_pay268 (v1234 X)
def v1474 (X : Ins F) : Vec F S1x800x237 .f32 := View.ld X.x4 (Rect.unit (s := S16x800x237) ![9, 0, 0] S1x800x237.size inb_S16x800x237_S1x800x237_9_0_0)
def v1477 (X : Ins F) : Vec F S1x200x237 .f32 := View.ld X.x7 (Rect.unit (s := S16x200x237) ![9, 0, 0] S1x200x237.size inb_S16x200x237_S1x200x237_9_0_0)
def v1496 (X : Ins F) : Vec F S1x800x237 .f32 := View.ld X.x4 (Rect.unit (s := S16x800x237) ![10, 0, 0] S1x800x237.size inb_S16x800x237_S1x800x237_10_0_0)
def v1499 (X : Ins F) : Vec F S1x200x237 .f32 := View.ld X.x7 (Rect.unit (s := S16x200x237) ![10, 0, 0] S1x200x237.size inb_S16x200x237_S1x200x237_10_0_0)
def v1480 (X : Ins F) : FVec F S100x237 .f32 := k0_pay269 (v1459 X) (v1463 X) (v1474 X) (v1477 X)
def v1502 (X : Ins F) : FVec F S100x237 .f32 := k0_pay270 (v1234 X) (v1496 X) (v1499 X)
def v1503 (X : Ins F) : FVec F S1x100 .f32 := k0_pay271 (v1234 X)
def v1505 (X : Ins F) : FVec F S800x100 .f32 := k0_pay272 (F := F)
def v1518 (X : Ins F) : Vec F S1x800x237 .f32 := View.ld X.x4 (Rect.unit (s := S16x800x237) ![11, 0, 0] S1x800x237.size inb_S16x800x237_S1x800x237_11_0_0)
def v1521 (X : Ins F) : Vec F S1x200x237 .f32 := View.ld X.x7 (Rect.unit (s := S16x200x237) ![11, 0, 0] S1x200x237.size inb_S16x200x237_S1x200x237_11_0_0)
def v1540 (X : Ins F) : Vec F S1x800x237 .f32 := View.ld X.x4 (Rect.unit (s := S16x800x237) ![12, 0, 0] S1x800x237.size inb_S16x800x237_S1x800x237_12_0_0)
def v1543 (X : Ins F) : Vec F S1x200x237 .f32 := View.ld X.x7 (Rect.unit (s := S16x200x237) ![12, 0, 0] S1x200x237.size inb_S16x200x237_S1x200x237_12_0_0)
def v1524 (X : Ins F) : FVec F S100x237 .f32 := k0_pay273 (v1503 X) (v1505 X) (v1518 X) (v1521 X)
def v1546 (X : Ins F) : FVec F S100x237 .f32 := k0_pay274 (v1234 X) (v1540 X) (v1543 X)
def v1547 (X : Ins F) : FVec F S1x100 .f32 := k0_pay275 (v1234 X)
def v1562 (X : Ins F) : Vec F S1x800x237 .f32 := View.ld X.x4 (Rect.unit (s := S16x800x237) ![13, 0, 0] S1x800x237.size inb_S16x800x237_S1x800x237_13_0_0)
def v1565 (X : Ins F) : Vec F S1x200x237 .f32 := View.ld X.x7 (Rect.unit (s := S16x200x237) ![13, 0, 0] S1x200x237.size inb_S16x200x237_S1x200x237_13_0_0)
def v1584 (X : Ins F) : Vec F S1x800x237 .f32 := View.ld X.x4 (Rect.unit (s := S16x800x237) ![14, 0, 0] S1x800x237.size inb_S16x800x237_S1x800x237_14_0_0)
def v1587 (X : Ins F) : Vec F S1x200x237 .f32 := View.ld X.x7 (Rect.unit (s := S16x200x237) ![14, 0, 0] S1x200x237.size inb_S16x200x237_S1x200x237_14_0_0)
def v1568 (X : Ins F) : FVec F S100x237 .f32 := k0_pay276 (v1547 X) (v1562 X) (v1565 X)
def v1586 (X : Ins F) : FVec F S100x237 .f32 := k0_pay278 (v1234 X) (v1584 X)
def v1589 (X : Ins F) : FVec F S100x237 .f32 := k0_pay279 (v1234 X) (v1587 X)
def v1606 (X : Ins F) : Vec F S1x800x237 .f32 := View.ld X.x4 (Rect.unit (s := S16x800x237) ![15, 0, 0] S1x800x237.size inb_S16x800x237_S1x800x237_15_0_0)
def v1609 (X : Ins F) : Vec F S1x200x237 .f32 := View.ld X.x7 (Rect.unit (s := S16x200x237) ![15, 0, 0] S1x200x237.size inb_S16x200x237_S1x200x237_15_0_0)
def v1614 (X : Ins F) : Vec F S2x237 .f32 := View.ld X.x8 (Rect.unit (s := S2x237) ![0, 0] S2x237.size inb_S2x237_S2x237_0_0)
def v1624 (X : Ins F) : Vec F S204x199 .f32 := View.ld X.x10 (Rect.unit (s := S204x199) ![0, 0] S204x199.size inb_S204x199_S204x199_0_0)
def v1626 (X : Ins F) : Vec F S204x29 .f32 := View.ld X.x11 (Rect.unit (s := S204x29) ![0, 0] S204x29.size inb_S204x29_S204x29_0_0)
def v1628 (X : Ins F) : Vec F S3x68 .f32 := View.ld X.x9 (Rect.unit (s := S3x68) ![0, 0] S3x68.size inb_S3x68_S3x68_0_0)
def cst_261 (X : Ins F) : FVec F S1600x68 .f32 := constant S1600x68 .f32 0x00000000#32
def v1621 (X : Ins F) : FVec F S1600x9 .f32 := k0_pay281 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X)
def v1622 (X : Ins F) : FVec F S1600x199 .f32 := k0_pay282 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X)
def v1623 (X : Ins F) : FVec F S1600x29 .f32 := k0_pay283 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X)
def v1625 (X : Ins F) : FVec F S204x199 .f32 := k0_pay284 (v1624 X)
def v1627 (X : Ins F) : FVec F S204x29 .f32 := k0_pay285 (v1626 X)
def v1629 (X : Ins F) : FVec F S3x68 .f32 := k0_pay286 (v1628 X)
def v1630 (X : Ins F) : FVec F S1x68 .f32 := k0_pay287 (v1628 X)
def v1631 (X : Ins F) : FVec F S68x199 .f32 := k0_pay288 (v1624 X)
def v1676 (X : Ins F) : IVec S1600x16 32 := iota .tc S1600x16 32 [0] iota_S1600x16_d0_w32
def v1664 (X : Ins F) : FVec F S1600x68 .f32 := k0_pay292 (v1621 X) (v1622 X) (v1623 X) (v1625 X) (v1627 X) (v1629 X) (v1630 X) (v1631 X) (cst_261 X)
def v1675 (X : Ins F) : FVec F S1600x68 .f32 := k0_pay293 (v1621 X) (v1622 X) (v1623 X) (v1625 X) (v1627 X) (v1629 X) (v1630 X) (v1631 X) (cst_261 X)
def c100_i32_267 (X : Ins F) : BitVec 32 := 100#32
def v1678 (X : Ins F) : IVec S1600x16 32 := k0_pay294
def v1681 (X : Ins F) : IVec S1600x16 32 := k0_pay295
def v1683 (X : Ins F) : IVec S1600x16 1 := k0_pay296
def v1704 (X : Ins F) : FVec F S1600x16 .f32 := k0_pay297 (F := F) (v1676 X) (c100_i32_267 X) (v1678 X) (v1681 X) (v1683 X)
def v1706 (X : Ins F) : FVec F S1600x16 .f32 := k0_pay298 (v10 X) (v1676 X) (c100_i32_267 X) (v1678 X) (v1681 X) (v1683 X)

/-- What the body leaves in window 16. -/
def out16 (X : Ins F) : Vec F S16x100x6 .f32 := View.canon [⟨(Rect.unit (s := S16x100x6) ![0, 0, 5] S16x100x1.size inb_S16x100x6_S16x100x1_0_0_5), (k0_pay244 (v1242 X))⟩,
    ⟨(Rect.unit (s := S16x100x6) ![0, 0, 4] S16x100x1.size inb_S16x100x6_S16x100x1_0_0_4), (k0_pay243 (v1229 X))⟩,
    ⟨(Rect.unit (s := S16x100x6) ![0, 0, 3] S16x100x1.size inb_S16x100x6_S16x100x1_0_0_3), (k0_pay242 (v1227 X))⟩,
    ⟨(Rect.unit (s := S16x100x6) ![0, 0, 2] S16x100x1.size inb_S16x100x6_S16x100x1_0_0_2), (k0_pay241 (v1040 X) (v1067 X) (v1094 X) (v1121 X) (v1148 X) (v1175 X) (v1202 X) (v1203 X) (v1204 X) (v1205 X) (v1206 X) (v1207 X) (v1208 X) (v1209 X) (v1210 X) (v1211 X))⟩,
    ⟨(Rect.unit (s := S16x100x6) ![0, 0, 1] S16x100x1.size inb_S16x100x6_S16x100x1_0_0_1), (k0_pay240 (v1040 X) (v1067 X) (v1094 X) (v1121 X) (v1148 X) (v1175 X) (v1202 X) (v1203 X) (v1204 X) (v1205 X) (v1206 X) (v1207 X) (v1208 X) (v1209 X) (v1210 X) (v1211 X))⟩,
    ⟨(Rect.unit (s := S16x100x6) ![0, 0, 0] S16x100x1.size inb_S16x100x6_S16x100x1_0_0_0), (k0_pay239 (v1040 X) (v1067 X) (v1094 X) (v1121 X) (v1148 X) (v1175 X) (v1202 X) (v1203 X) (v1204 X) (v1205 X) (v1206 X) (v1207 X) (v1208 X) (v1209 X) (v1210 X) (v1211 X))⟩]

/-- What the body leaves in window 17. -/
def out17 (X : Ins F) : Vec F S1600x68 .f32 := View.canon [⟨(Rect.unit (s := S1600x68) ![0, 0] S1600x68.size inb_S1600x68_S1600x68_0_0), (k0_pay1 (v1664 X) (v1706 X))⟩]

/-- What the body leaves in window 18. -/
def out18 (X : Ins F) : Vec F S1600x68 .f32 := View.canon [⟨(Rect.unit (s := S1600x68) ![0, 0] S1600x68.size inb_S1600x68_S1600x68_0_0), (k0_pay2 (v9 X) (v1675 X) (v1704 X))⟩]

end Cert.Proof.KI

end
-- ==== Proof.KIBody.lean ====
/- The run of `KernelIdeal`: its kernel body once, the region around it, the frame. -/
module

public import proofs.«01_k».proof.Proof.KIStage
public import proofs.«01_k».proof.Proof.Gen.KernelIdeal.Loops
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A load of a whole rectangle reads the rectangle of what the view holds. -/
theorem read_ld {κ : Kind} {sp : Space} {sh : Shape} {v : View sig κ sp sh .f32} (r : Rect sh) (f : v.ty.Contents (Elt F)) :
    View.readAt (Elt F) v r.toLoadRect f = View.ld (View.read (Elt F) v f) r := rfl

/-- The body's stores into window 16 reach every index of it. -/
theorem cover16 (p0 p1 p2 p3 p4 p5 : Vec F S16x100x1 .f32) (y : S16x100x6.Idx) :
    ∃ pc ∈ ([⟨(Rect.unit (s := S16x100x6) ![0, 0, 5] S16x100x1.size inb_S16x100x6_S16x100x1_0_0_5), p5⟩, ⟨(Rect.unit (s := S16x100x6) ![0, 0, 4] S16x100x1.size inb_S16x100x6_S16x100x1_0_0_4), p4⟩, ⟨(Rect.unit (s := S16x100x6) ![0, 0, 3] S16x100x1.size inb_S16x100x6_S16x100x1_0_0_3), p3⟩, ⟨(Rect.unit (s := S16x100x6) ![0, 0, 2] S16x100x1.size inb_S16x100x6_S16x100x1_0_0_2), p2⟩, ⟨(Rect.unit (s := S16x100x6) ![0, 0, 1] S16x100x1.size inb_S16x100x6_S16x100x1_0_0_1), p1⟩, ⟨(Rect.unit (s := S16x100x6) ![0, 0, 0] S16x100x1.size inb_S16x100x6_S16x100x1_0_0_0), p0⟩] :
      List (View.Piece (Elt F) S16x100x6 .f32)), y ∈ pc.1.set :=
  View.cover_of_tiled [⟨(Rect.unit (s := S16x100x6) ![0, 0, 5] S16x100x1.size inb_S16x100x6_S16x100x1_0_0_5), p5⟩, ⟨(Rect.unit (s := S16x100x6) ![0, 0, 4] S16x100x1.size inb_S16x100x6_S16x100x1_0_0_4), p4⟩, ⟨(Rect.unit (s := S16x100x6) ![0, 0, 3] S16x100x1.size inb_S16x100x6_S16x100x1_0_0_3), p3⟩, ⟨(Rect.unit (s := S16x100x6) ![0, 0, 2] S16x100x1.size inb_S16x100x6_S16x100x1_0_0_2), p2⟩, ⟨(Rect.unit (s := S16x100x6) ![0, 0, 1] S16x100x1.size inb_S16x100x6_S16x100x1_0_0_1), p1⟩, ⟨(Rect.unit (s := S16x100x6) ![0, 0, 0] S16x100x1.size inb_S16x100x6_S16x100x1_0_0_0), p0⟩] S16x100x1.size (by rfl) y

/-- The body's stores into window 17 reach every index of it. -/
theorem cover17 (p0 : Vec F S1600x68 .f32) (y : S1600x68.Idx) :
    ∃ pc ∈ ([⟨(Rect.unit (s := S1600x68) ![0, 0] S1600x68.size inb_S1600x68_S1600x68_0_0), p0⟩] :
      List (View.Piece (Elt F) S1600x68 .f32)), y ∈ pc.1.set :=
  View.cover_of_tiled [⟨(Rect.unit (s := S1600x68) ![0, 0] S1600x68.size inb_S1600x68_S1600x68_0_0), p0⟩] S1600x68.size (by rfl) y

/-- The body's stores into window 18 reach every index of it. -/
theorem cover18 (p0 : Vec F S1600x68 .f32) (y : S1600x68.Idx) :
    ∃ pc ∈ ([⟨(Rect.unit (s := S1600x68) ![0, 0] S1600x68.size inb_S1600x68_S1600x68_0_0), p0⟩] :
      List (View.Piece (Elt F) S1600x68 .f32)), y ∈ pc.1.set :=
  View.cover_of_tiled [⟨(Rect.unit (s := S1600x68) ![0, 0] S1600x68.size inb_S1600x68_S1600x68_0_0), p0⟩] S1600x68.size (by rfl) y

/-- One trip of the suppression loop issues nothing and returns `trip2`. -/
theorem t2_body_eq (arg0 : Memref sig .tc .vmem S16x2 .f32) (harg0 : arg0.IsWhole) (arg1 : Memref sig .tc .vmem S2x16 .f32) (harg1 : arg1.IsWhole) (arg2 : Memref sig .tc .vmem S32x800 .f32) (harg2 : arg2.IsWhole) (arg3 : Memref sig .tc .vmem S64x800 .f32) (harg3 : arg3.IsWhole) (arg4 : Memref sig .tc .vmem S16x800x237 .f32) (harg4 : arg4.IsWhole) (arg5 : Memref sig .tc .vmem S32x200 .f32) (harg5 : arg5.IsWhole) (arg6 : Memref sig .tc .vmem S64x200 .f32) (harg6 : arg6.IsWhole) (arg7 : Memref sig .tc .vmem S16x200x237 .f32) (harg7 : arg7.IsWhole) (arg8 : Memref sig .tc .vmem S2x237 .f32) (harg8 : arg8.IsWhole) (arg9 : Memref sig .tc .vmem S3x68 .f32) (harg9 : arg9.IsWhole) (arg10 : Memref sig .tc .vmem S204x199 .f32) (harg10 : arg10.IsWhole) (arg11 : Memref sig .tc .vmem S204x29 .f32) (harg11 : arg11.IsWhole) (arg12 : Memref sig .tc .vmem S1x800 .f32) (harg12 : arg12.IsWhole) (arg13 : Memref sig .tc .vmem S1x800 .f32) (harg13 : arg13.IsWhole) (arg14 : Memref sig .tc .vmem S1x200 .f32) (harg14 : arg14.IsWhole) (arg15 : Memref sig .tc .vmem S1x200 .f32) (harg15 : arg15.IsWhole) (arg16 : Memref sig .tc .vmem S16x100x6 .f32) (harg16 : arg16.IsWhole) (arg17 : Memref sig .tc .vmem S1600x68 .f32) (harg17 : arg17.IsWhole) (arg18 : Memref sig .tc .vmem S1600x68 .f32) (harg18 : arg18.IsWhole) (v97 v102 : FVec F S32x200 .f32) (v678 : FVec F S4x200 .f32) (v695 : FVec F S16x4x200 .f32) (v696 : FVec F S1x4x200 .f32) (v697 : FVec F S1x4x200 .f32) (v698 : FVec F S1x4x200 .f32) (v699 : FVec F S1x4x200 .f32) (v700 : FVec F S1x4x200 .f32) (v701 : FVec F S1x4x200 .f32) (v702 : FVec F S1x4x200 .f32) (v703 : FVec F S1x4x200 .f32) (v704 : FVec F S1x4x200 .f32) (v705 : FVec F S1x4x200 .f32) (v706 : FVec F S1x4x200 .f32) (v707 : FVec F S1x4x200 .f32) (v708 : FVec F S1x4x200 .f32) (v709 : FVec F S1x4x200 .f32) (v710 : FVec F S1x4x200 .f32) (k : Fin k0_t2_loop.trips) (s : FVec F S32x200 .f32 × FVec F S32x100 .f32 × FVec F S32x100 .f32 × FVec F S32x100 .f32 × FVec F S32x100 .f32 × FVec F S32x100 .f32 × FVec F S32x100 .f32) :
    k0_t2_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v97 v102 v678 v695 v696 v697 v698 v699 v700 v701 v702 v703 v704 v705 v706 v707 v708 v709 v710 k s = .ret (trip2 v102 v678 v695 v696 v697 v698 v699 v700 v701 v702 v703 v704 v705 v706 v707 v708 v709 v710 k s) := by
  unfold k0_t2_body
  rw [k0_part1_eq_skeleton]
  rfl

/-- The part that holds the suppression loop, as the return of the loop's fold. -/
def part15F (arg0 : Memref sig .tc .vmem S16x2 .f32) (harg0 : arg0.IsWhole) (arg1 : Memref sig .tc .vmem S2x16 .f32) (harg1 : arg1.IsWhole) (arg2 : Memref sig .tc .vmem S32x800 .f32) (harg2 : arg2.IsWhole) (arg3 : Memref sig .tc .vmem S64x800 .f32) (harg3 : arg3.IsWhole) (arg4 : Memref sig .tc .vmem S16x800x237 .f32) (harg4 : arg4.IsWhole) (arg5 : Memref sig .tc .vmem S32x200 .f32) (harg5 : arg5.IsWhole) (arg6 : Memref sig .tc .vmem S64x200 .f32) (harg6 : arg6.IsWhole) (arg7 : Memref sig .tc .vmem S16x200x237 .f32) (harg7 : arg7.IsWhole) (arg8 : Memref sig .tc .vmem S2x237 .f32) (harg8 : arg8.IsWhole) (arg9 : Memref sig .tc .vmem S3x68 .f32) (harg9 : arg9.IsWhole) (arg10 : Memref sig .tc .vmem S204x199 .f32) (harg10 : arg10.IsWhole) (arg11 : Memref sig .tc .vmem S204x29 .f32) (harg11 : arg11.IsWhole) (arg12 : Memref sig .tc .vmem S1x800 .f32) (harg12 : arg12.IsWhole) (arg13 : Memref sig .tc .vmem S1x800 .f32) (harg13 : arg13.IsWhole) (arg14 : Memref sig .tc .vmem S1x200 .f32) (harg14 : arg14.IsWhole) (arg15 : Memref sig .tc .vmem S1x200 .f32) (harg15 : arg15.IsWhole) (arg16 : Memref sig .tc .vmem S16x100x6 .f32) (harg16 : arg16.IsWhole) (arg17 : Memref sig .tc .vmem S1600x68 .f32) (harg17 : arg17.IsWhole) (arg18 : Memref sig .tc .vmem S1600x68 .f32) (harg18 : arg18.IsWhole) (v97 v102 : FVec F S32x200 .f32) (v678 : FVec F S4x200 .f32) (v695 : FVec F S16x4x200 .f32) (v696 : FVec F S1x4x200 .f32) (v697 : FVec F S1x4x200 .f32) (v698 : FVec F S1x4x200 .f32) (v699 : FVec F S1x4x200 .f32) (v700 : FVec F S1x4x200 .f32) (v701 : FVec F S1x4x200 .f32) (v702 : FVec F S1x4x200 .f32) (v703 : FVec F S1x4x200 .f32) (v704 : FVec F S1x4x200 .f32) (v705 : FVec F S1x4x200 .f32) (v706 : FVec F S1x4x200 .f32) (v707 : FVec F S1x4x200 .f32) (v708 : FVec F S1x4x200 .f32) (v709 : FVec F S1x4x200 .f32) (v710 : FVec F S1x4x200 .f32) : Prog (TpuEff nD τ sig (Elt F) Λ₀ .tc) (Σ' (v746 : FVec F S16x200 .f32) (v749 : FVec F S16x200 .f32) (v752 : FVec F S16x200 .f32) (v755 : FVec F S16x200 .f32) (v758 : FVec F S16x200 .f32) (v761 : FVec F S16x200 .f32) (v762 : FVec F S200x16 .f32), IVec S200x200 32) :=
  pure ⟨k0_pay172 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.1, k0_pay173 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.2.1, k0_pay174 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.2.2.1, k0_pay175 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.2.2.2.1, k0_pay176 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.2.2.2.2.1, k0_pay177 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.2.2.2.2.2, k0_pay178 (Scf.fold (trip2 v102 v678 v695 v696 v697 v698 v699 v700 v701 v702 v703 v704 v705 v706 v707 v708 v709 v710) (k0_pay161 v97, k0_pay163 (F := F), k0_pay163 (F := F), k0_pay163 (F := F), k0_pay163 (F := F), k0_pay163 (F := F), k0_pay163 (F := F))).2.1, iota .tc S200x200 32 [0] iota_S200x200_d0_w32⟩

/-- The part that holds the suppression loop returns the loop's fold. -/
theorem part15_eq (arg0 : Memref sig .tc .vmem S16x2 .f32) (harg0 : arg0.IsWhole) (arg1 : Memref sig .tc .vmem S2x16 .f32) (harg1 : arg1.IsWhole) (arg2 : Memref sig .tc .vmem S32x800 .f32) (harg2 : arg2.IsWhole) (arg3 : Memref sig .tc .vmem S64x800 .f32) (harg3 : arg3.IsWhole) (arg4 : Memref sig .tc .vmem S16x800x237 .f32) (harg4 : arg4.IsWhole) (arg5 : Memref sig .tc .vmem S32x200 .f32) (harg5 : arg5.IsWhole) (arg6 : Memref sig .tc .vmem S64x200 .f32) (harg6 : arg6.IsWhole) (arg7 : Memref sig .tc .vmem S16x200x237 .f32) (harg7 : arg7.IsWhole) (arg8 : Memref sig .tc .vmem S2x237 .f32) (harg8 : arg8.IsWhole) (arg9 : Memref sig .tc .vmem S3x68 .f32) (harg9 : arg9.IsWhole) (arg10 : Memref sig .tc .vmem S204x199 .f32) (harg10 : arg10.IsWhole) (arg11 : Memref sig .tc .vmem S204x29 .f32) (harg11 : arg11.IsWhole) (arg12 : Memref sig .tc .vmem S1x800 .f32) (harg12 : arg12.IsWhole) (arg13 : Memref sig .tc .vmem S1x800 .f32) (harg13 : arg13.IsWhole) (arg14 : Memref sig .tc .vmem S1x200 .f32) (harg14 : arg14.IsWhole) (arg15 : Memref sig .tc .vmem S1x200 .f32) (harg15 : arg15.IsWhole) (arg16 : Memref sig .tc .vmem S16x100x6 .f32) (harg16 : arg16.IsWhole) (arg17 : Memref sig .tc .vmem S1600x68 .f32) (harg17 : arg17.IsWhole) (arg18 : Memref sig .tc .vmem S1600x68 .f32) (harg18 : arg18.IsWhole) (v97 v102 : FVec F S32x200 .f32) (v678 : FVec F S4x200 .f32) (v695 : FVec F S16x4x200 .f32) (v696 : FVec F S1x4x200 .f32) (v697 : FVec F S1x4x200 .f32) (v698 : FVec F S1x4x200 .f32) (v699 : FVec F S1x4x200 .f32) (v700 : FVec F S1x4x200 .f32) (v701 : FVec F S1x4x200 .f32) (v702 : FVec F S1x4x200 .f32) (v703 : FVec F S1x4x200 .f32) (v704 : FVec F S1x4x200 .f32) (v705 : FVec F S1x4x200 .f32) (v706 : FVec F S1x4x200 .f32) (v707 : FVec F S1x4x200 .f32) (v708 : FVec F S1x4x200 .f32) (v709 : FVec F S1x4x200 .f32) (v710 : FVec F S1x4x200 .f32) :
    k0_part15 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v97 v102 v678 v695 v696 v697 v698 v699 v700 v701 v702 v703 v704 v705 v706 v707 v708 v709 v710 = part15F arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v97 v102 v678 v695 v696 v697 v698 v699 v700 v701 v702 v703 v704 v705 v706 v707 v708 v709 v710 := by
  rw [k0_part15_eq_skeleton]
  unfold k0_part15_skel part15F
  exact Scf.for_pure_bind _ _ _ k0_t2_ok _ _ _ (t2_body_eq arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v97 v102 v678 v695 v696 v697 v698 v699 v700 v701 v702 v703 v704 v705 v706 v707 v708 v709 v710) _

set_option maxHeartbeats 16000000 in
/-- The kernel body, run once on inputs reading `X`: the inputs stay, the outputs read `out16 X`, `out17 X`, `out18 X`. -/
theorem sound_kernel (c : Dev nD) (E : Set ℕ) (arg0 : Memref sig .tc .vmem S16x2 .f32) (harg0 : arg0.IsWhole) (arg1 : Memref sig .tc .vmem S2x16 .f32) (harg1 : arg1.IsWhole) (arg2 : Memref sig .tc .vmem S32x800 .f32) (harg2 : arg2.IsWhole) (arg3 : Memref sig .tc .vmem S64x800 .f32) (harg3 : arg3.IsWhole) (arg4 : Memref sig .tc .vmem S16x800x237 .f32) (harg4 : arg4.IsWhole) (arg5 : Memref sig .tc .vmem S32x200 .f32) (harg5 : arg5.IsWhole) (arg6 : Memref sig .tc .vmem S64x200 .f32) (harg6 : arg6.IsWhole) (arg7 : Memref sig .tc .vmem S16x200x237 .f32) (harg7 : arg7.IsWhole) (arg8 : Memref sig .tc .vmem S2x237 .f32) (harg8 : arg8.IsWhole) (arg9 : Memref sig .tc .vmem S3x68 .f32) (harg9 : arg9.IsWhole) (arg10 : Memref sig .tc .vmem S204x199 .f32) (harg10 : arg10.IsWhole) (arg11 : Memref sig .tc .vmem S204x29 .f32) (harg11 : arg11.IsWhole) (arg12 : Memref sig .tc .vmem S1x800 .f32) (harg12 : arg12.IsWhole) (arg13 : Memref sig .tc .vmem S1x800 .f32) (harg13 : arg13.IsWhole) (arg14 : Memref sig .tc .vmem S1x200 .f32) (harg14 : arg14.IsWhole) (arg15 : Memref sig .tc .vmem S1x200 .f32) (harg15 : arg15.IsWhole) (arg16 : Memref sig .tc .vmem S16x100x6 .f32) (harg16 : arg16.IsWhole) (arg17 : Memref sig .tc .vmem S1600x68 .f32) (harg17 : arg17.IsWhole) (arg18 : Memref sig .tc .vmem S1600x68 .f32) (harg18 : arg18.IsWhole)
    (X : Ins F) (K : PUnit → sProp 𝕄) :
    iprop(owns (c : Thread nD τ) arg0 fullShare X.x0 ∗ owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12 ∗ owns (c : Thread nD τ) arg13 fullShare X.x13 ∗ owns (c : Thread nD τ) arg14 fullShare X.x14 ∗ owns (c : Thread nD τ) arg15 fullShare X.x15 ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg0 fullShare X.x0 ∗ owns (c : Thread nD τ) arg1 fullShare X.x1 ∗ owns (c : Thread nD τ) arg2 fullShare X.x2 ∗ owns (c : Thread nD τ) arg3 fullShare X.x3 ∗ owns (c : Thread nD τ) arg4 fullShare X.x4 ∗ owns (c : Thread nD τ) arg5 fullShare X.x5 ∗ owns (c : Thread nD τ) arg6 fullShare X.x6 ∗ owns (c : Thread nD τ) arg7 fullShare X.x7 ∗ owns (c : Thread nD τ) arg8 fullShare X.x8 ∗ owns (c : Thread nD τ) arg9 fullShare X.x9 ∗ owns (c : Thread nD τ) arg10 fullShare X.x10 ∗ owns (c : Thread nD τ) arg11 fullShare X.x11 ∗ owns (c : Thread nD τ) arg12 fullShare X.x12 ∗ owns (c : Thread nD τ) arg13 fullShare X.x13 ∗ owns (c : Thread nD τ) arg14 fullShare X.x14 ∗ owns (c : Thread nD τ) arg15 fullShare X.x15 ∗ owns (c : Thread nD τ) arg16 fullShare (out16 X) ∗ owns (c : Thread nD τ) arg17 fullShare (out17 X) ∗ owns (c : Thread nD τ) arg18 fullShare (out18 X)) -∗ K ⟨⟩))
      ⊢ wp Idealize.ShloMosaic.frame (wpE (defs₀ (F := F)) Variants.none (c : Thread nD τ) none) E
          (cc0__post_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0__post_kernel_eq_skeleton]
  unfold cc0__post_kernel_skel
  rw [k0_part35_eq_skeleton]
  unfold k0_part35_skel
  simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, part15_eq, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, Hk⟩
  sl_exec
  sl_step
  have e0 : sound_kernel.sl.r c arg0 f0 = v3 X := by
    unfold sound_kernel.sl.r v3; simp only [read_ld, hf0]; try rfl
  have e1 : sound_kernel.sl.r_1 c arg0 f0 = v4 X := by
    unfold sound_kernel.sl.r_1 v4; simp only [read_ld, hf0]; try rfl
  have e2 : sound_kernel.sl.r_2 c arg1 f1 = v9 X := by
    unfold sound_kernel.sl.r_2 v9; simp only [read_ld, hf1]; try rfl
  have e3 : sound_kernel.sl.r_3 c arg1 f1 = v10 X := by
    unfold sound_kernel.sl.r_3 v10; simp only [read_ld, hf1]; try rfl
  have e4 : sound_kernel.sl.r_4 c arg2 f2 = v13 X := by
    unfold sound_kernel.sl.r_4 v13; simp only [read_ld, hf2]; try rfl
  have e5 : sound_kernel.sl.r_5 c arg5 f5 = v16 X := by
    unfold sound_kernel.sl.r_5 v16; simp only [read_ld, hf5]; try rfl
  have e6 : sound_kernel.sl.r_6 c arg12 f12 = v18 X := by
    unfold sound_kernel.sl.r_6 v18; simp only [read_ld, hf12]; try rfl
  have e7 : sound_kernel.sl.r_7 c arg13 f13 = v20 X := by
    unfold sound_kernel.sl.r_7 v20; simp only [read_ld, hf13]; try rfl
  have e8 : sound_kernel.sl.r_8 c arg14 f14 = v22 X := by
    unfold sound_kernel.sl.r_8 v22; simp only [read_ld, hf14]; try rfl
  have e9 : sound_kernel.sl.r_9 c arg15 f15 = v24 X := by
    unfold sound_kernel.sl.r_9 v24; simp only [read_ld, hf15]; try rfl
  have e10 : sound_kernel.sl.r_10 c arg3 f3 = v26 X := by
    unfold sound_kernel.sl.r_10 v26; simp only [read_ld, hf3]; try rfl
  have e11 : sound_kernel.sl.r_11 c arg6 f6 = v28 X := by
    unfold sound_kernel.sl.r_11 v28; simp only [read_ld, hf6]; try rfl
  have e12 : sound_kernel.sl.r_12 c arg0 arg3 arg12 f0 f3 f12 = v35 X := by
    unfold sound_kernel.sl.r_12 v35; simp only [read_ld, hf0, hf3, hf12]; try rfl
  have e13 : sound_kernel.sl.r_13 c arg3 f3 = v36 X := by
    unfold sound_kernel.sl.r_13 v36; simp only [read_ld, hf3]; try rfl
  have e14 : sound_kernel.sl.r_14 c arg0 arg3 arg13 f0 f3 f13 = v42 X := by
    unfold sound_kernel.sl.r_14 v42; simp only [e7, e13, e0]; try rfl
  have e15 : sound_kernel.sl.r_15 c arg0 arg3 arg12 f0 f3 f12 = v49 X := by
    unfold sound_kernel.sl.r_15 v49; simp only [e1, e6, e10]; try rfl
  have e16 : sound_kernel.sl.r_16 c arg0 arg3 arg13 f0 f3 f13 = v56 X := by
    unfold sound_kernel.sl.r_16 v56; simp only [e7, e10, e0]; try rfl
  have e17 : sound_kernel.sl.r_17 c arg0 arg6 arg14 f0 f6 f14 = v63 X := by
    unfold sound_kernel.sl.r_17 v63; simp only [e1, e8, e11]; try rfl
  have e18 : sound_kernel.sl.r_18 c arg0 arg6 arg15 f0 f6 f15 = v70 X := by
    unfold sound_kernel.sl.r_18 v70; simp only [e9, e11, e0]; try rfl
  have e19 : sound_kernel.sl.r_19 c arg0 arg6 arg14 f0 f6 f14 = v77 X := by
    unfold sound_kernel.sl.r_19 v77; simp only [e1, e8, e11]; try rfl
  have e20 : sound_kernel.sl.r_20 c arg0 arg6 arg15 f0 f6 f15 = v84 X := by
    unfold sound_kernel.sl.r_20 v84; simp only [e9, e11, e0]; try rfl
  have e21 : sound_kernel.sl.r_21 c arg2 arg5 f2 f5 = v87 X := by
    unfold sound_kernel.sl.r_21 v87; simp only [e4, e5]; try rfl
  have e22 : sound_kernel.sl.r_22 c arg2 arg5 f2 f5 = loop_t1 X := by
    unfold sound_kernel.sl.r_22 loop_t1; simp only [e21]; try rfl
  have e23 : sound_kernel.sl.r_23 c arg2 arg5 f2 f5 = v94_2 X := by
    unfold sound_kernel.sl.r_23 v94_2; simp only [e22]; try rfl
  have e24 : sound_kernel.sl.r_24 c arg2 arg5 f2 f5 = v97 X := by
    unfold sound_kernel.sl.r_24 v97; simp only [e22]; try rfl
  have e25 : sound_kernel.sl.r_25 c arg2 arg5 f2 f5 = v102 X := by
    unfold sound_kernel.sl.r_25 v102; simp only [e22]; try rfl
  have e26 : sound_kernel.sl.r_26 c arg0 arg2 arg3 arg5 arg6 arg12 arg13 arg14 arg15 f0 f2 f3 f5 f6 f12 f13 f14 f15 = v135 X := by
    unfold sound_kernel.sl.r_26 v135; simp only [e12, e14, e15, e16, e17, e18, e19, e20, e22]; try rfl
  have e27 : sound_kernel.sl.r_27 c arg0 arg2 arg3 arg5 arg6 arg12 arg13 arg14 arg15 f0 f2 f3 f5 f6 f12 f13 f14 f15 = v138 X := by
    unfold sound_kernel.sl.r_27 v138; simp only [e12, e14, e15, e16, e17, e18, e19, e20, e22]; try rfl
  have e28 : sound_kernel.sl.r_28 c arg2 arg5 f2 f5 = v139 X := by
    unfold sound_kernel.sl.r_28 v139; simp only [e22]; try rfl
  have e29 : sound_kernel.sl.r_29 c arg2 arg5 f2 f5 = v140 X := by
    unfold sound_kernel.sl.r_29 v140; simp only [e22]; try rfl
  have e30 : sound_kernel.sl.r_30 c arg0 arg2 arg3 arg5 arg6 arg12 arg13 arg14 arg15 f0 f2 f3 f5 f6 f12 f13 f14 f15 = v171 X := by
    unfold sound_kernel.sl.r_30 v171; simp only [e12, e14, e15, e16, e17, e18, e19, e20, e23, e28, e29]; try rfl
  have e31 : sound_kernel.sl.r_31 c arg0 arg2 arg3 arg5 arg6 arg12 arg13 arg14 arg15 f0 f2 f3 f5 f6 f12 f13 f14 f15 = v174 X := by
    unfold sound_kernel.sl.r_31 v174; simp only [e12, e14, e15, e16, e17, e18, e19, e20, e23, e28, e29]; try rfl
  have e32 : sound_kernel.sl.r_32 c arg2 arg5 f2 f5 = v186 X := by
    unfold sound_kernel.sl.r_32 v186; simp only [e23]; try rfl
  have e33 : sound_kernel.sl.r_33 c arg2 arg5 f2 f5 = v192 X := by
    unfold sound_kernel.sl.r_33 v192; simp only [e23]; try rfl
  have e34 : sound_kernel.sl.r_34 c arg0 arg3 arg12 arg13 f0 f3 f12 f13 = v197 X := by
    unfold sound_kernel.sl.r_34 v197; simp only [e12, e14, e15, e16]; try rfl
  have e35 : sound_kernel.sl.r_35 c arg0 arg6 arg14 f0 f6 f14 = v198 X := by
    unfold sound_kernel.sl.r_35 v198; simp only [e17]; try rfl
  have e36 : sound_kernel.sl.r_36 c arg0 arg2 arg3 arg5 arg6 arg12 arg13 arg14 arg15 f0 f2 f3 f5 f6 f12 f13 f14 f15 = v207 X := by
    unfold sound_kernel.sl.r_36 v207; simp only [e18, e19, e20, e32, e33, e34, e35]; try rfl
  have e37 : sound_kernel.sl.r_37 c arg0 arg2 arg3 arg5 arg6 arg12 arg13 arg14 arg15 f0 f2 f3 f5 f6 f12 f13 f14 f15 = v210 X := by
    unfold sound_kernel.sl.r_37 v210; simp only [e18, e19, e20, e32, e33, e34, e35]; try rfl
  have e38 : sound_kernel.sl.r_38 c arg0 arg2 arg3 arg5 arg6 arg12 arg13 arg14 arg15 f0 f2 f3 f5 f6 f12 f13 f14 f15 = v243 X := by
    unfold sound_kernel.sl.r_38 v243; simp only [e12, e14, e15, e16, e17, e18, e19, e20, e23]; try rfl
  have e39 : sound_kernel.sl.r_39 c arg0 arg2 arg3 arg5 arg6 arg12 arg13 arg14 arg15 f0 f2 f3 f5 f6 f12 f13 f14 f15 = v246 X := by
    unfold sound_kernel.sl.r_39 v246; simp only [e12, e14, e15, e16, e17, e18, e19, e20, e23]; try rfl
  have e40 : sound_kernel.sl.r_40 c arg2 arg5 f2 f5 = v249 X := by
    unfold sound_kernel.sl.r_40 v249; simp only [e23]; try rfl
  have e41 : sound_kernel.sl.r_41 c arg2 arg5 f2 f5 = v252 X := by
    unfold sound_kernel.sl.r_41 v252; simp only [e23]; try rfl
  have e42 : sound_kernel.sl.r_42 c arg0 arg2 arg3 arg5 arg6 arg12 arg13 arg14 arg15 f0 f2 f3 f5 f6 f12 f13 f14 f15 = v279 X := by
    unfold sound_kernel.sl.r_42 v279; simp only [e12, e14, e15, e16, e17, e18, e19, e20, e40, e41]; try rfl
  have e43 : sound_kernel.sl.r_43 c arg0 arg2 arg3 arg5 arg6 arg12 arg13 arg14 arg15 f0 f2 f3 f5 f6 f12 f13 f14 f15 = v282 X := by
    unfold sound_kernel.sl.r_43 v282; simp only [e12, e14, e15, e16, e17, e18, e19, e20, e40, e41]; try rfl
  have e44 : sound_kernel.sl.r_44 c arg2 arg5 f2 f5 = v300 X := by
    unfold sound_kernel.sl.r_44 v300; simp only [e23]; try rfl
  have e45 : sound_kernel.sl.r_45 c arg0 arg6 arg14 arg15 f0 f6 f14 f15 = v310 X := by
    unfold sound_kernel.sl.r_45 v310; simp only [e17, e18, e19, e20]; try rfl
  have e46 : sound_kernel.sl.r_46 c arg0 arg2 arg3 arg5 arg12 arg13 f0 f2 f3 f5 f12 f13 = v311 X := by
    unfold sound_kernel.sl.r_46 v311; simp only [e12, e14, e15, e16, e23]; try rfl
  have e47 : sound_kernel.sl.r_47 c arg0 arg2 arg3 arg5 arg6 arg12 arg13 arg14 arg15 f0 f2 f3 f5 f6 f12 f13 f14 f15 = v315 X := by
    unfold sound_kernel.sl.r_47 v315; simp only [e44, e45, e46]; try rfl
  have e48 : sound_kernel.sl.r_48 c arg0 arg2 arg3 arg5 arg6 arg12 arg13 arg14 arg15 f0 f2 f3 f5 f6 f12 f13 f14 f15 = v318 X := by
    unfold sound_kernel.sl.r_48 v318; simp only [e44, e45, e46]; try rfl
  have e49 : sound_kernel.sl.r_49 c arg0 arg2 arg3 arg5 arg6 arg12 arg13 arg14 arg15 f0 f2 f3 f5 f6 f12 f13 f14 f15 = v351 X := by
    unfold sound_kernel.sl.r_49 v351; simp only [e12, e14, e15, e16, e17, e18, e19, e20, e23]; try rfl
  have e50 : sound_kernel.sl.r_50 c arg0 arg2 arg3 arg5 arg6 arg12 arg13 arg14 arg15 f0 f2 f3 f5 f6 f12 f13 f14 f15 = v354 X := by
    unfold sound_kernel.sl.r_50 v354; simp only [e12, e14, e15, e16, e17, e18, e19, e20, e23]; try rfl
  have e51 : sound_kernel.sl.r_51 c arg2 arg5 f2 f5 = v360 X := by
    unfold sound_kernel.sl.r_51 v360; simp only [e23]; try rfl
  have e52 : sound_kernel.sl.r_52 c arg2 arg5 f2 f5 = v366 X := by
    unfold sound_kernel.sl.r_52 v366; simp only [e23]; try rfl
  have e53 : sound_kernel.sl.r_53 c arg0 arg2 arg3 arg5 arg6 arg12 arg13 arg14 arg15 f0 f2 f3 f5 f6 f12 f13 f14 f15 = v387 X := by
    unfold sound_kernel.sl.r_53 v387; simp only [e12, e14, e15, e16, e17, e18, e19, e20, e51, e52]; try rfl
  have e54 : sound_kernel.sl.r_54 c arg0 arg2 arg3 arg5 arg6 arg12 arg13 arg14 arg15 f0 f2 f3 f5 f6 f12 f13 f14 f15 = v390 X := by
    unfold sound_kernel.sl.r_54 v390; simp only [e12, e14, e15, e16, e17, e18, e19, e20, e51, e52]; try rfl
  have e55 : sound_kernel.sl.r_55 c arg0 arg2 arg5 arg6 arg14 arg15 f0 f2 f5 f6 f14 f15 = v420 X := by
    unfold sound_kernel.sl.r_55 v420; simp only [e17, e18, e19, e20, e23]; try rfl
  have e56 : sound_kernel.sl.r_56 c arg0 arg2 arg3 arg5 arg6 arg12 arg13 arg14 arg15 f0 f2 f3 f5 f6 f12 f13 f14 f15 = v423 X := by
    unfold sound_kernel.sl.r_56 v423; simp only [e12, e14, e15, e16, e17, e18, e19, e20, e23]; try rfl
  have e57 : sound_kernel.sl.r_57 c arg0 arg2 arg3 arg5 arg12 arg13 f0 f2 f3 f5 f12 f13 = v424 X := by
    unfold sound_kernel.sl.r_57 v424; simp only [e12, e14, e15, e16, e23]; try rfl
  have e58 : sound_kernel.sl.r_58 c arg0 arg2 arg3 arg5 arg6 arg12 arg13 arg14 arg15 f0 f2 f3 f5 f6 f12 f13 f14 f15 = v426 X := by
    unfold sound_kernel.sl.r_58 v426; simp only [e55, e57]; try rfl
  have e59 : sound_kernel.sl.r_59 c arg0 arg2 arg3 arg5 arg6 arg12 arg13 arg14 arg15 f0 f2 f3 f5 f6 f12 f13 f14 f15 = v459 X := by
    unfold sound_kernel.sl.r_59 v459; simp only [e12, e14, e15, e16, e17, e18, e19, e20, e23]; try rfl
  have e60 : sound_kernel.sl.r_60 c arg0 arg2 arg3 arg5 arg6 arg12 arg13 arg14 arg15 f0 f2 f3 f5 f6 f12 f13 f14 f15 = v462 X := by
    unfold sound_kernel.sl.r_60 v462; simp only [e12, e14, e15, e16, e17, e18, e19, e20, e23]; try rfl
  have e61 : sound_kernel.sl.r_61 c arg2 arg5 f2 f5 = v474 X := by
    unfold sound_kernel.sl.r_61 v474; simp only [e23]; try rfl
  have e62 : sound_kernel.sl.r_62 c arg2 arg5 f2 f5 = v480 X := by
    unfold sound_kernel.sl.r_62 v480; simp only [e23]; try rfl
  have e63 : sound_kernel.sl.r_63 c arg0 arg3 arg12 f0 f3 f12 = v481 X := by
    unfold sound_kernel.sl.r_63 v481; simp only [e12]; try rfl
  have e64 : sound_kernel.sl.r_64 c arg0 arg3 arg13 f0 f3 f13 = v482 X := by
    unfold sound_kernel.sl.r_64 v482; simp only [e14]; try rfl
  have e65 : sound_kernel.sl.r_65 c arg0 arg2 arg3 arg5 arg6 arg12 arg13 arg14 arg15 f0 f2 f3 f5 f6 f12 f13 f14 f15 = v495 X := by
    unfold sound_kernel.sl.r_65 v495; simp only [e15, e16, e17, e18, e19, e20, e61, e62, e63, e64]; try rfl
  have e66 : sound_kernel.sl.r_66 c arg0 arg2 arg3 arg5 arg6 arg12 arg13 arg14 arg15 f0 f2 f3 f5 f6 f12 f13 f14 f15 = v498 X := by
    unfold sound_kernel.sl.r_66 v498; simp only [e15, e16, e17, e18, e19, e20, e61, e62, e63, e64]; try rfl
  have e67 : sound_kernel.sl.r_67 c arg0 arg2 arg3 arg5 arg6 arg12 arg13 arg14 arg15 f0 f2 f3 f5 f6 f12 f13 f14 f15 = v531 X := by
    unfold sound_kernel.sl.r_67 v531; simp only [e12, e14, e15, e16, e17, e18, e19, e20, e23]; try rfl
  have e68 : sound_kernel.sl.r_68 c arg0 arg2 arg3 arg5 arg6 arg12 arg13 arg14 arg15 f0 f2 f3 f5 f6 f12 f13 f14 f15 = v534 X := by
    unfold sound_kernel.sl.r_68 v534; simp only [e12, e14, e15, e16, e17, e18, e19, e20, e23]; try rfl
  have e69 : sound_kernel.sl.r_69 c arg2 arg5 f2 f5 = v537 X := by
    unfold sound_kernel.sl.r_69 v537; simp only [e23]; try rfl
  have e70 : sound_kernel.sl.r_70 c arg2 arg5 f2 f5 = v538 X := by
    unfold sound_kernel.sl.r_70 v538; simp only [e23]; try rfl
  have e71 : sound_kernel.sl.r_71 c arg0 arg2 arg3 arg5 arg6 arg12 arg13 arg14 arg15 f0 f2 f3 f5 f6 f12 f13 f14 f15 = v567 X := by
    unfold sound_kernel.sl.r_71 v567; simp only [e12, e14, e15, e16, e17, e18, e19, e20, e23, e69, e70]; try rfl
  have e72 : sound_kernel.sl.r_72 c arg0 arg2 arg3 arg5 arg6 arg12 arg13 arg14 arg15 f0 f2 f3 f5 f6 f12 f13 f14 f15 = v570 X := by
    unfold sound_kernel.sl.r_72 v570; simp only [e12, e14, e15, e16, e17, e18, e19, e20, e23, e69, e70]; try rfl
  have e73 : sound_kernel.sl.r_73 c arg2 arg5 f2 f5 = v582 X := by
    unfold sound_kernel.sl.r_73 v582; simp only [e23]; try rfl
  have e74 : sound_kernel.sl.r_74 c arg2 arg5 f2 f5 = v588 X := by
    unfold sound_kernel.sl.r_74 v588; simp only [e23]; try rfl
  have e75 : sound_kernel.sl.r_75 c arg0 arg3 arg12 arg13 f0 f3 f12 f13 = v593 X := by
    unfold sound_kernel.sl.r_75 v593; simp only [e12, e14, e15, e16]; try rfl
  have e76 : sound_kernel.sl.r_76 c arg0 arg6 arg14 f0 f6 f14 = v594 X := by
    unfold sound_kernel.sl.r_76 v594; simp only [e17]; try rfl
  have e77 : sound_kernel.sl.r_77 c arg0 arg6 arg15 f0 f6 f15 = v595 X := by
    unfold sound_kernel.sl.r_77 v595; simp only [e18]; try rfl
  have e78 : sound_kernel.sl.r_78 c arg0 arg6 arg14 f0 f6 f14 = v596 X := by
    unfold sound_kernel.sl.r_78 v596; simp only [e19]; try rfl
  have e79 : sound_kernel.sl.r_79 c arg0 arg2 arg3 arg5 arg6 arg12 arg13 arg14 arg15 f0 f2 f3 f5 f6 f12 f13 f14 f15 = v603 X := by
    unfold sound_kernel.sl.r_79 v603; simp only [e20, e73, e74, e75, e76, e77, e78]; try rfl
  have e80 : sound_kernel.sl.r_80 c arg0 arg2 arg3 arg5 arg6 arg12 arg13 arg14 arg15 f0 f2 f3 f5 f6 f12 f13 f14 f15 = v606 X := by
    unfold sound_kernel.sl.r_80 v606; simp only [e20, e73, e74, e75, e76, e77, e78]; try rfl
  have e81 : sound_kernel.sl.r_81 c arg0 arg2 arg3 arg5 arg6 arg12 arg13 arg14 arg15 f0 f2 f3 f5 f6 f12 f13 f14 f15 = v639 X := by
    unfold sound_kernel.sl.r_81 v639; simp only [e12, e14, e15, e16, e17, e18, e19, e20, e23]; try rfl
  have e82 : sound_kernel.sl.r_82 c arg0 arg2 arg3 arg5 arg6 arg12 arg13 arg14 arg15 f0 f2 f3 f5 f6 f12 f13 f14 f15 = v642 X := by
    unfold sound_kernel.sl.r_82 v642; simp only [e12, e14, e15, e16, e17, e18, e19, e20, e23]; try rfl
  have e83 : sound_kernel.sl.r_83 c arg2 arg5 f2 f5 = v648 X := by
    unfold sound_kernel.sl.r_83 v648; simp only [e23]; try rfl
  have e84 : sound_kernel.sl.r_84 c arg2 arg5 f2 f5 = v652 X := by
    unfold sound_kernel.sl.r_84 v652; simp only [e23]; try rfl
  have e85 : sound_kernel.sl.r_85 c arg0 arg2 arg3 arg5 arg6 arg12 arg13 arg14 arg15 f0 f2 f3 f5 f6 f12 f13 f14 f15 = v678 X := by
    unfold sound_kernel.sl.r_85 v678; simp only [e12, e14, e15, e16, e17, e18, e19, e20, e83, e84]; try rfl
  have e86 : sound_kernel.sl.r_86 c arg0 arg2 arg3 arg5 arg6 arg12 arg13 arg14 arg15 f0 f2 f3 f5 f6 f12 f13 f14 f15 = v695 X := by
    unfold sound_kernel.sl.r_86 v695; simp only [e12, e14, e15, e16, e17, e18, e19, e20, e26, e30, e36, e38, e42, e47, e49, e53, e56, e59, e65, e67, e71, e79, e81, e83, e84]; try rfl
  have e87 : sound_kernel.sl.r_87 c arg0 arg2 arg3 arg5 arg6 arg12 arg13 arg14 arg15 f0 f2 f3 f5 f6 f12 f13 f14 f15 = v696 X := by
    unfold sound_kernel.sl.r_87 v696; simp only [e27]; try rfl
  have e88 : sound_kernel.sl.r_88 c arg0 arg2 arg3 arg5 arg6 arg12 arg13 arg14 arg15 f0 f2 f3 f5 f6 f12 f13 f14 f15 = v697 X := by
    unfold sound_kernel.sl.r_88 v697; simp only [e31]; try rfl
  have e89 : sound_kernel.sl.r_89 c arg0 arg2 arg3 arg5 arg6 arg12 arg13 arg14 arg15 f0 f2 f3 f5 f6 f12 f13 f14 f15 = v698 X := by
    unfold sound_kernel.sl.r_89 v698; simp only [e37]; try rfl
  have e90 : sound_kernel.sl.r_90 c arg0 arg2 arg3 arg5 arg6 arg12 arg13 arg14 arg15 f0 f2 f3 f5 f6 f12 f13 f14 f15 = v699 X := by
    unfold sound_kernel.sl.r_90 v699; simp only [e39]; try rfl
  have e91 : sound_kernel.sl.r_91 c arg0 arg2 arg3 arg5 arg6 arg12 arg13 arg14 arg15 f0 f2 f3 f5 f6 f12 f13 f14 f15 = v700 X := by
    unfold sound_kernel.sl.r_91 v700; simp only [e43]; try rfl
  have e92 : sound_kernel.sl.r_92 c arg0 arg2 arg3 arg5 arg6 arg12 arg13 arg14 arg15 f0 f2 f3 f5 f6 f12 f13 f14 f15 = v701 X := by
    unfold sound_kernel.sl.r_92 v701; simp only [e48]; try rfl
  have e93 : sound_kernel.sl.r_93 c arg0 arg2 arg3 arg5 arg6 arg12 arg13 arg14 arg15 f0 f2 f3 f5 f6 f12 f13 f14 f15 = v702 X := by
    unfold sound_kernel.sl.r_93 v702; simp only [e50]; try rfl
  have e94 : sound_kernel.sl.r_94 c arg0 arg2 arg3 arg5 arg6 arg12 arg13 arg14 arg15 f0 f2 f3 f5 f6 f12 f13 f14 f15 = v703 X := by
    unfold sound_kernel.sl.r_94 v703; simp only [e54]; try rfl
  have e95 : sound_kernel.sl.r_95 c arg0 arg2 arg3 arg5 arg6 arg12 arg13 arg14 arg15 f0 f2 f3 f5 f6 f12 f13 f14 f15 = v704 X := by
    unfold sound_kernel.sl.r_95 v704; simp only [e58]; try rfl
  have e96 : sound_kernel.sl.r_96 c arg0 arg2 arg3 arg5 arg6 arg12 arg13 arg14 arg15 f0 f2 f3 f5 f6 f12 f13 f14 f15 = v705 X := by
    unfold sound_kernel.sl.r_96 v705; simp only [e60]; try rfl
  have e97 : sound_kernel.sl.r_97 c arg0 arg2 arg3 arg5 arg6 arg12 arg13 arg14 arg15 f0 f2 f3 f5 f6 f12 f13 f14 f15 = v706 X := by
    unfold sound_kernel.sl.r_97 v706; simp only [e66]; try rfl
  have e98 : sound_kernel.sl.r_98 c arg0 arg2 arg3 arg5 arg6 arg12 arg13 arg14 arg15 f0 f2 f3 f5 f6 f12 f13 f14 f15 = v707 X := by
    unfold sound_kernel.sl.r_98 v707; simp only [e68]; try rfl
  have e99 : sound_kernel.sl.r_99 c arg0 arg2 arg3 arg5 arg6 arg12 arg13 arg14 arg15 f0 f2 f3 f5 f6 f12 f13 f14 f15 = v708 X := by
    unfold sound_kernel.sl.r_99 v708; simp only [e72]; try rfl
  have e100 : sound_kernel.sl.r_100 c arg0 arg2 arg3 arg5 arg6 arg12 arg13 arg14 arg15 f0 f2 f3 f5 f6 f12 f13 f14 f15 = v709 X := by
    unfold sound_kernel.sl.r_100 v709; simp only [e80]; try rfl
  have e101 : sound_kernel.sl.r_101 c arg0 arg2 arg3 arg5 arg6 arg12 arg13 arg14 arg15 f0 f2 f3 f5 f6 f12 f13 f14 f15 = v710 X := by
    unfold sound_kernel.sl.r_101 v710; simp only [e82]; try rfl
  have e102 : sound_kernel.sl.r_102 c arg0 arg2 arg3 arg5 arg6 arg12 arg13 arg14 arg15 f0 f2 f3 f5 f6 f12 f13 f14 f15 = v746 X := by
    unfold sound_kernel.sl.r_102 v746; simp only [e24, e25, e85, e86, e87, e88, e89, e90, e91, e92, e93, e94, e95, e96, e97, e98, e99, e100, e101]; try rfl
  have e103 : sound_kernel.sl.r_103 c arg0 arg2 arg3 arg5 arg6 arg12 arg13 arg14 arg15 f0 f2 f3 f5 f6 f12 f13 f14 f15 = v749 X := by
    unfold sound_kernel.sl.r_103 v749; simp only [e24, e25, e85, e86, e87, e88, e89, e90, e91, e92, e93, e94, e95, e96, e97, e98, e99, e100, e101]; try rfl
  have e104 : sound_kernel.sl.r_104 c arg0 arg2 arg3 arg5 arg6 arg12 arg13 arg14 arg15 f0 f2 f3 f5 f6 f12 f13 f14 f15 = v752 X := by
    unfold sound_kernel.sl.r_104 v752; simp only [e24, e25, e85, e86, e87, e88, e89, e90, e91, e92, e93, e94, e95, e96, e97, e98, e99, e100, e101]; try rfl
  have e105 : sound_kernel.sl.r_105 c arg0 arg2 arg3 arg5 arg6 arg12 arg13 arg14 arg15 f0 f2 f3 f5 f6 f12 f13 f14 f15 = v755 X := by
    unfold sound_kernel.sl.r_105 v755; simp only [e24, e25, e85, e86, e87, e88, e89, e90, e91, e92, e93, e94, e95, e96, e97, e98, e99, e100, e101]; try rfl
  have e106 : sound_kernel.sl.r_106 c arg0 arg2 arg3 arg5 arg6 arg12 arg13 arg14 arg15 f0 f2 f3 f5 f6 f12 f13 f14 f15 = v758 X := by
    unfold sound_kernel.sl.r_106 v758; simp only [e24, e25, e85, e86, e87, e88, e89, e90, e91, e92, e93, e94, e95, e96, e97, e98, e99, e100, e101]; try rfl
  have e107 : sound_kernel.sl.r_107 c arg0 arg2 arg3 arg5 arg6 arg12 arg13 arg14 arg15 f0 f2 f3 f5 f6 f12 f13 f14 f15 = v761 X := by
    unfold sound_kernel.sl.r_107 v761; simp only [e24, e25, e85, e86, e87, e88, e89, e90, e91, e92, e93, e94, e95, e96, e97, e98, e99, e100, e101]; try rfl
  have e108 : sound_kernel.sl.r_108 c arg0 arg2 arg3 arg5 arg6 arg12 arg13 arg14 arg15 f0 f2 f3 f5 f6 f12 f13 f14 f15 = v762 X := by
    unfold sound_kernel.sl.r_108 v762; simp only [e24, e25, e85, e86, e87, e88, e89, e90, e91, e92, e93, e94, e95, e96, e97, e98, e99, e100, e101]; try rfl
  have e110 : sound_kernel.sl.r_110 c arg0 arg2 arg3 arg5 arg6 arg12 arg13 arg14 arg15 f0 f2 f3 f5 f6 f12 f13 f14 f15 = v797 X := by
    unfold sound_kernel.sl.r_110 v797; simp only [e102, e103, e104, e105, e106, e107, e108]; try rfl
  have e111 : sound_kernel.sl.r_111 c arg0 arg2 arg3 arg5 arg6 arg12 arg13 arg14 arg15 f0 f2 f3 f5 f6 f12 f13 f14 f15 = v816 X := by
    unfold sound_kernel.sl.r_111 v816; simp only [e102, e108]; try rfl
  have e112 : sound_kernel.sl.r_112 c arg0 arg2 arg3 arg5 arg6 arg12 arg13 arg14 arg15 f0 f2 f3 f5 f6 f12 f13 f14 f15 = v817 X := by
    unfold sound_kernel.sl.r_112 v817; simp only [e103]; try rfl
  have e113 : sound_kernel.sl.r_113 c arg0 arg2 arg3 arg5 arg6 arg12 arg13 arg14 arg15 f0 f2 f3 f5 f6 f12 f13 f14 f15 = v818 X := by
    unfold sound_kernel.sl.r_113 v818; simp only [e104]; try rfl
  have e114 : sound_kernel.sl.r_114 c arg0 arg2 arg3 arg5 arg6 arg12 arg13 arg14 arg15 f0 f2 f3 f5 f6 f12 f13 f14 f15 = v819 X := by
    unfold sound_kernel.sl.r_114 v819; simp only [e105]; try rfl
  have e115 : sound_kernel.sl.r_115 c arg0 arg2 arg3 arg5 arg6 arg12 arg13 arg14 arg15 f0 f2 f3 f5 f6 f12 f13 f14 f15 = v820 X := by
    unfold sound_kernel.sl.r_115 v820; simp only [e106]; try rfl
  have e116 : sound_kernel.sl.r_116 c arg0 arg2 arg3 arg5 arg6 arg12 arg13 arg14 arg15 f0 f2 f3 f5 f6 f12 f13 f14 f15 = v824 X := by
    unfold sound_kernel.sl.r_116 v824; simp only [e102, e107, e111, e112, e113, e114, e115]; try rfl
  have e117 : sound_kernel.sl.r_117 c arg0 arg2 arg3 arg5 arg6 arg12 arg13 arg14 arg15 f0 f2 f3 f5 f6 f12 f13 f14 f15 = v851 X := by
    unfold sound_kernel.sl.r_117 v851; simp only [e102, e103, e104, e105, e106, e107, e108]; try rfl
  have e118 : sound_kernel.sl.r_118 c arg0 arg2 arg3 arg5 arg6 arg12 arg13 arg14 arg15 f0 f2 f3 f5 f6 f12 f13 f14 f15 = v870 X := by
    unfold sound_kernel.sl.r_118 v870; simp only [e102, e108]; try rfl
  have e119 : sound_kernel.sl.r_119 c arg0 arg2 arg3 arg5 arg6 arg12 arg13 arg14 arg15 f0 f2 f3 f5 f6 f12 f13 f14 f15 = v871 X := by
    unfold sound_kernel.sl.r_119 v871; simp only [e103]; try rfl
  have e120 : sound_kernel.sl.r_120 c arg0 arg2 arg3 arg5 arg6 arg12 arg13 arg14 arg15 f0 f2 f3 f5 f6 f12 f13 f14 f15 = v872 X := by
    unfold sound_kernel.sl.r_120 v872; simp only [e104]; try rfl
  have e121 : sound_kernel.sl.r_121 c arg0 arg2 arg3 arg5 arg6 arg12 arg13 arg14 arg15 f0 f2 f3 f5 f6 f12 f13 f14 f15 = v873 X := by
    unfold sound_kernel.sl.r_121 v873; simp only [e105]; try rfl
  have e122 : sound_kernel.sl.r_122 c arg0 arg2 arg3 arg5 arg6 arg12 arg13 arg14 arg15 f0 f2 f3 f5 f6 f12 f13 f14 f15 = v874 X := by
    unfold sound_kernel.sl.r_122 v874; simp only [e106]; try rfl
  have e123 : sound_kernel.sl.r_123 c arg0 arg2 arg3 arg5 arg6 arg12 arg13 arg14 arg15 f0 f2 f3 f5 f6 f12 f13 f14 f15 = v875 X := by
    unfold sound_kernel.sl.r_123 v875; simp only [e102]; try rfl
  have e124 : sound_kernel.sl.r_124 c arg0 arg2 arg3 arg5 arg6 arg12 arg13 arg14 arg15 f0 f2 f3 f5 f6 f12 f13 f14 f15 = v876 X := by
    unfold sound_kernel.sl.r_124 v876; simp only [e107]; try rfl
  have e125 : sound_kernel.sl.r_125 c arg0 arg2 arg3 arg5 arg6 arg12 arg13 arg14 arg15 f0 f2 f3 f5 f6 f12 f13 f14 f15 = v878 X := by
    unfold sound_kernel.sl.r_125 v878; simp only [e118, e119, e120, e121, e122, e123, e124]; try rfl
  have e126 : sound_kernel.sl.r_126 c arg0 arg2 arg3 arg5 arg6 arg12 arg13 arg14 arg15 f0 f2 f3 f5 f6 f12 f13 f14 f15 = v905 X := by
    unfold sound_kernel.sl.r_126 v905; simp only [e102, e103, e104, e105, e106, e107, e108]; try rfl
  have e127 : sound_kernel.sl.r_127 c arg0 arg2 arg3 arg5 arg6 arg12 arg13 arg14 arg15 f0 f2 f3 f5 f6 f12 f13 f14 f15 = v924 X := by
    unfold sound_kernel.sl.r_127 v924; simp only [e102, e108]; try rfl
  have e128 : sound_kernel.sl.r_128 c arg0 arg2 arg3 arg5 arg6 arg12 arg13 arg14 arg15 f0 f2 f3 f5 f6 f12 f13 f14 f15 = v931 X := by
    unfold sound_kernel.sl.r_128 v931; simp only [e102, e103, e104, e105, e106, e107]; try rfl
  have e129 : sound_kernel.sl.r_129 c arg0 arg2 arg3 arg5 arg6 arg12 arg13 arg14 arg15 f0 f2 f3 f5 f6 f12 f13 f14 f15 = v932 X := by
    unfold sound_kernel.sl.r_129 v932; simp only [e127, e128]; try rfl
  have e130 : sound_kernel.sl.r_130 c arg0 arg2 arg3 arg5 arg6 arg12 arg13 arg14 arg15 f0 f2 f3 f5 f6 f12 f13 f14 f15 = v959 X := by
    unfold sound_kernel.sl.r_130 v959; simp only [e102, e103, e104, e105, e106, e107, e108]; try rfl
  have e131 : sound_kernel.sl.r_131 c arg0 arg2 arg3 arg5 arg6 arg12 arg13 arg14 arg15 f0 f2 f3 f5 f6 f12 f13 f14 f15 = v986 X := by
    unfold sound_kernel.sl.r_131 v986; simp only [e102, e103, e104, e105, e106, e107, e108]; try rfl
  have e132 : sound_kernel.sl.r_132 c arg0 arg2 arg3 arg5 arg6 arg12 arg13 arg14 arg15 f0 f2 f3 f5 f6 f12 f13 f14 f15 = v987 X := by
    unfold sound_kernel.sl.r_132 v987; simp only [e102]; try rfl
  have e133 : sound_kernel.sl.r_133 c arg0 arg2 arg3 arg5 arg6 arg12 arg13 arg14 arg15 f0 f2 f3 f5 f6 f12 f13 f14 f15 = v1013 X := by
    unfold sound_kernel.sl.r_133 v1013; simp only [e102, e103, e104, e105, e106, e107, e108, e132]; try rfl
  have e134 : sound_kernel.sl.r_134 c arg0 arg2 arg3 arg5 arg6 arg12 arg13 arg14 arg15 f0 f2 f3 f5 f6 f12 f13 f14 f15 = v1040 X := by
    unfold sound_kernel.sl.r_134 v1040; simp only [e102, e103, e104, e105, e106, e107, e108]; try rfl
  have e135 : sound_kernel.sl.r_135 c arg0 arg2 arg3 arg5 arg6 arg12 arg13 arg14 arg15 f0 f2 f3 f5 f6 f12 f13 f14 f15 = v1041 X := by
    unfold sound_kernel.sl.r_135 v1041; simp only [e102]; try rfl
  have e136 : sound_kernel.sl.r_136 c arg0 arg2 arg3 arg5 arg6 arg12 arg13 arg14 arg15 f0 f2 f3 f5 f6 f12 f13 f14 f15 = v1042 X := by
    unfold sound_kernel.sl.r_136 v1042; simp only [e108]; try rfl
  have e137 : sound_kernel.sl.r_137 c arg0 arg2 arg3 arg5 arg6 arg12 arg13 arg14 arg15 f0 f2 f3 f5 f6 f12 f13 f14 f15 = v1043 X := by
    unfold sound_kernel.sl.r_137 v1043; simp only [e102]; try rfl
  have e138 : sound_kernel.sl.r_138 c arg0 arg2 arg3 arg5 arg6 arg12 arg13 arg14 arg15 f0 f2 f3 f5 f6 f12 f13 f14 f15 = v1067 X := by
    unfold sound_kernel.sl.r_138 v1067; simp only [e102, e103, e104, e105, e106, e107, e135, e136, e137]; try rfl
  have e139 : sound_kernel.sl.r_139 c arg0 arg2 arg3 arg5 arg6 arg12 arg13 arg14 arg15 f0 f2 f3 f5 f6 f12 f13 f14 f15 = v1094 X := by
    unfold sound_kernel.sl.r_139 v1094; simp only [e102, e103, e104, e105, e106, e107, e108]; try rfl
  have e140 : sound_kernel.sl.r_140 c arg0 arg2 arg3 arg5 arg6 arg12 arg13 arg14 arg15 f0 f2 f3 f5 f6 f12 f13 f14 f15 = v1095 X := by
    unfold sound_kernel.sl.r_140 v1095; simp only [e102]; try rfl
  have e141 : sound_kernel.sl.r_141 c arg0 arg2 arg3 arg5 arg6 arg12 arg13 arg14 arg15 f0 f2 f3 f5 f6 f12 f13 f14 f15 = v1096 X := by
    unfold sound_kernel.sl.r_141 v1096; simp only [e108]; try rfl
  have e142 : sound_kernel.sl.r_142 c arg0 arg2 arg3 arg5 arg6 arg12 arg13 arg14 arg15 f0 f2 f3 f5 f6 f12 f13 f14 f15 = v1099 X := by
    unfold sound_kernel.sl.r_142 v1099; simp only [e102, e108]; try rfl
  have e143 : sound_kernel.sl.r_143 c arg0 arg2 arg3 arg5 arg6 arg12 arg13 arg14 arg15 f0 f2 f3 f5 f6 f12 f13 f14 f15 = v1121 X := by
    unfold sound_kernel.sl.r_143 v1121; simp only [e102, e103, e104, e105, e106, e107, e140, e141, e142]; try rfl
  have e144 : sound_kernel.sl.r_144 c arg0 arg2 arg3 arg5 arg6 arg12 arg13 arg14 arg15 f0 f2 f3 f5 f6 f12 f13 f14 f15 = v1148 X := by
    unfold sound_kernel.sl.r_144 v1148; simp only [e102, e103, e104, e105, e106, e107, e108]; try rfl
  have e145 : sound_kernel.sl.r_145 c arg0 arg2 arg3 arg5 arg6 arg12 arg13 arg14 arg15 f0 f2 f3 f5 f6 f12 f13 f14 f15 = v1153 X := by
    unfold sound_kernel.sl.r_145 v1153; simp only [e102, e108]; try rfl
  have e146 : sound_kernel.sl.r_146 c arg0 arg2 arg3 arg5 arg6 arg12 arg13 arg14 arg15 f0 f2 f3 f5 f6 f12 f13 f14 f15 = v1154 X := by
    unfold sound_kernel.sl.r_146 v1154; simp only [e102]; try rfl
  have e147 : sound_kernel.sl.r_147 c arg0 arg2 arg3 arg5 arg6 arg12 arg13 arg14 arg15 f0 f2 f3 f5 f6 f12 f13 f14 f15 = v1155 X := by
    unfold sound_kernel.sl.r_147 v1155; simp only [e108]; try rfl
  have e148 : sound_kernel.sl.r_148 c arg0 arg2 arg3 arg5 arg6 arg12 arg13 arg14 arg15 f0 f2 f3 f5 f6 f12 f13 f14 f15 = v1175 X := by
    unfold sound_kernel.sl.r_148 v1175; simp only [e102, e103, e104, e105, e106, e107, e145, e146, e147]; try rfl
  have e149 : sound_kernel.sl.r_149 c arg0 arg2 arg3 arg5 arg6 arg12 arg13 arg14 arg15 f0 f2 f3 f5 f6 f12 f13 f14 f15 = v1202 X := by
    unfold sound_kernel.sl.r_149 v1202; simp only [e102, e103, e104, e105, e106, e107, e108]; try rfl
  have e150 : sound_kernel.sl.r_150 c arg0 arg2 arg3 arg5 arg6 arg12 arg13 arg14 arg15 f0 f2 f3 f5 f6 f12 f13 f14 f15 = v1203 X := by
    unfold sound_kernel.sl.r_150 v1203; simp only [e110]; try rfl
  have e151 : sound_kernel.sl.r_151 c arg0 arg2 arg3 arg5 arg6 arg12 arg13 arg14 arg15 f0 f2 f3 f5 f6 f12 f13 f14 f15 = v1204 X := by
    unfold sound_kernel.sl.r_151 v1204; simp only [e116]; try rfl
  have e152 : sound_kernel.sl.r_152 c arg0 arg2 arg3 arg5 arg6 arg12 arg13 arg14 arg15 f0 f2 f3 f5 f6 f12 f13 f14 f15 = v1205 X := by
    unfold sound_kernel.sl.r_152 v1205; simp only [e117]; try rfl
  have e153 : sound_kernel.sl.r_153 c arg0 arg2 arg3 arg5 arg6 arg12 arg13 arg14 arg15 f0 f2 f3 f5 f6 f12 f13 f14 f15 = v1206 X := by
    unfold sound_kernel.sl.r_153 v1206; simp only [e125]; try rfl
  have e154 : sound_kernel.sl.r_154 c arg0 arg2 arg3 arg5 arg6 arg12 arg13 arg14 arg15 f0 f2 f3 f5 f6 f12 f13 f14 f15 = v1207 X := by
    unfold sound_kernel.sl.r_154 v1207; simp only [e126]; try rfl
  have e155 : sound_kernel.sl.r_155 c arg0 arg2 arg3 arg5 arg6 arg12 arg13 arg14 arg15 f0 f2 f3 f5 f6 f12 f13 f14 f15 = v1208 X := by
    unfold sound_kernel.sl.r_155 v1208; simp only [e129]; try rfl
  have e156 : sound_kernel.sl.r_156 c arg0 arg2 arg3 arg5 arg6 arg12 arg13 arg14 arg15 f0 f2 f3 f5 f6 f12 f13 f14 f15 = v1209 X := by
    unfold sound_kernel.sl.r_156 v1209; simp only [e130]; try rfl
  have e157 : sound_kernel.sl.r_157 c arg0 arg2 arg3 arg5 arg6 arg12 arg13 arg14 arg15 f0 f2 f3 f5 f6 f12 f13 f14 f15 = v1210 X := by
    unfold sound_kernel.sl.r_157 v1210; simp only [e131]; try rfl
  have e158 : sound_kernel.sl.r_158 c arg0 arg2 arg3 arg5 arg6 arg12 arg13 arg14 arg15 f0 f2 f3 f5 f6 f12 f13 f14 f15 = v1211 X := by
    unfold sound_kernel.sl.r_158 v1211; simp only [e133]; try rfl
  have e159 : sound_kernel.sl.r_159 c arg0 arg2 arg3 arg5 arg6 arg12 arg13 arg14 arg15 f0 f2 f3 f5 f6 f12 f13 f14 f15 = v1227 X := by
    unfold sound_kernel.sl.r_159 v1227; simp only [e134, e138, e139, e143, e144, e148, e149, e150, e151, e152, e153, e154, e155, e156, e157, e158]; try rfl
  have e160 : sound_kernel.sl.r_160 c arg0 arg2 arg3 arg5 arg6 arg12 arg13 arg14 arg15 f0 f2 f3 f5 f6 f12 f13 f14 f15 = v1229 X := by
    unfold sound_kernel.sl.r_160 v1229; simp only [e134, e138, e139, e143, e144, e148, e149, e150, e151, e152, e153, e154, e155, e156, e157, e158]; try rfl
  have e161 : sound_kernel.sl.r_161 c arg0 arg2 arg3 arg5 arg6 arg12 arg13 arg14 arg15 f0 f2 f3 f5 f6 f12 f13 f14 f15 = v1234 X := by
    unfold sound_kernel.sl.r_161 v1234; simp only [e134, e138, e139, e143, e144, e148, e149, e150, e151, e152, e153, e154, e155, e156, e157, e158]; try rfl
  have e162 : sound_kernel.sl.r_162 c arg0 arg2 arg3 arg5 arg6 arg12 arg13 arg14 arg15 f0 f2 f3 f5 f6 f12 f13 f14 f15 = v1242 X := by
    unfold sound_kernel.sl.r_162 v1242; simp only [e134, e138, e139, e143, e144, e148, e149, e150, e151, e152, e153, e154, e155, e156, e157, e158]; try rfl
  have e163 : sound_kernel.sl.r_163 c arg0 arg2 arg3 arg4 arg5 arg6 arg7 arg12 arg13 arg14 arg15 f0 f2 f3 f4 f5 f6 f7 f12 f13 f14 f15 = v1282 X := by
    unfold sound_kernel.sl.r_163 v1282; simp only [read_ld, hf4, hf7, e161]; try rfl
  have e164 : sound_kernel.sl.r_164 c arg0 arg2 arg3 arg5 arg6 arg12 arg13 arg14 arg15 f0 f2 f3 f5 f6 f12 f13 f14 f15 = v1289 X := by
    unfold sound_kernel.sl.r_164 v1289; simp only [e161]; try rfl
  have e165 : sound_kernel.sl.r_165 c arg0 arg2 arg3 arg5 arg6 arg12 arg13 arg14 arg15 f0 f2 f3 f5 f6 f12 f13 f14 f15 = v1294 X := by
    unfold sound_kernel.sl.r_165 v1294; simp only [e161]; try rfl
  have e166 : sound_kernel.sl.r_166 c arg0 arg2 arg3 arg4 arg5 arg6 arg7 arg12 arg13 arg14 arg15 f0 f2 f3 f4 f5 f6 f7 f12 f13 f14 f15 = v1304 X := by
    unfold sound_kernel.sl.r_166 v1304; simp only [read_ld, hf4, hf7, e164, e165]; try rfl
  have e167 : sound_kernel.sl.r_167 c arg0 arg2 arg3 arg4 arg5 arg6 arg7 arg12 arg13 arg14 arg15 f0 f2 f3 f4 f5 f6 f7 f12 f13 f14 f15 = v1326 X := by
    unfold sound_kernel.sl.r_167 v1326; simp only [read_ld, hf4, hf7, e161]; try rfl
  have e168 : sound_kernel.sl.r_168 c arg0 arg2 arg3 arg5 arg6 arg12 arg13 arg14 arg15 f0 f2 f3 f5 f6 f12 f13 f14 f15 = v1327 X := by
    unfold sound_kernel.sl.r_168 v1327; simp only [e161]; try rfl
  have e169 : sound_kernel.sl.r_169 c arg0 arg2 arg3 arg5 arg6 arg12 arg13 arg14 arg15 f0 f2 f3 f5 f6 f12 f13 f14 f15 = v1333 X := by
    unfold sound_kernel.sl.r_169 v1333; simp only [e161]; try rfl
  have e170 : sound_kernel.sl.r_170 c arg0 arg2 arg3 arg4 arg5 arg6 arg7 arg12 arg13 arg14 arg15 f0 f2 f3 f4 f5 f6 f7 f12 f13 f14 f15 = v1348 X := by
    unfold sound_kernel.sl.r_170 v1348; simp only [read_ld, hf4, hf7, e168, e169]; try rfl
  have e171 : sound_kernel.sl.r_171 c arg0 arg2 arg3 arg4 arg5 arg6 arg7 arg12 arg13 arg14 arg15 f0 f2 f3 f4 f5 f6 f7 f12 f13 f14 f15 = v1370 X := by
    unfold sound_kernel.sl.r_171 v1370; simp only [read_ld, hf4, hf7, e161]; try rfl
  have e172 : sound_kernel.sl.r_172 c arg0 arg2 arg3 arg5 arg6 arg12 arg13 arg14 arg15 f0 f2 f3 f5 f6 f12 f13 f14 f15 = v1371 X := by
    unfold sound_kernel.sl.r_172 v1371; simp only [e161]; try rfl
  have e173 : sound_kernel.sl.r_173 c arg0 arg2 arg3 arg5 arg6 arg12 arg13 arg14 arg15 f0 f2 f3 f5 f6 f12 f13 f14 f15 = v1377 X := by
    unfold sound_kernel.sl.r_173 v1377; simp only [e161]; try rfl
  have e174 : sound_kernel.sl.r_174 c arg0 arg2 arg3 arg4 arg5 arg6 arg7 arg12 arg13 arg14 arg15 f0 f2 f3 f4 f5 f6 f7 f12 f13 f14 f15 = v1392 X := by
    unfold sound_kernel.sl.r_174 v1392; simp only [read_ld, hf4, hf7, e172, e173]; try rfl
  have e175 : sound_kernel.sl.r_175 c arg0 arg2 arg3 arg4 arg5 arg6 arg7 arg12 arg13 arg14 arg15 f0 f2 f3 f4 f5 f6 f7 f12 f13 f14 f15 = v1414 X := by
    unfold sound_kernel.sl.r_175 v1414; simp only [read_ld, hf4, hf7, e161]; try rfl
  have e176 : sound_kernel.sl.r_176 c arg0 arg2 arg3 arg5 arg6 arg12 arg13 arg14 arg15 f0 f2 f3 f5 f6 f12 f13 f14 f15 = v1415 X := by
    unfold sound_kernel.sl.r_176 v1415; simp only [e161]; try rfl
  have e177 : sound_kernel.sl.r_177 c arg0 arg2 arg3 arg5 arg6 arg12 arg13 arg14 arg15 f0 f2 f3 f5 f6 f12 f13 f14 f15 = v1421 X := by
    unfold sound_kernel.sl.r_177 v1421; simp only [e161]; try rfl
  have e178 : sound_kernel.sl.r_178 c arg0 arg2 arg3 arg4 arg5 arg6 arg7 arg12 arg13 arg14 arg15 f0 f2 f3 f4 f5 f6 f7 f12 f13 f14 f15 = v1436 X := by
    unfold sound_kernel.sl.r_178 v1436; simp only [read_ld, hf4, hf7, e176, e177]; try rfl
  have e179 : sound_kernel.sl.r_179 c arg0 arg2 arg3 arg4 arg5 arg6 arg7 arg12 arg13 arg14 arg15 f0 f2 f3 f4 f5 f6 f7 f12 f13 f14 f15 = v1458 X := by
    unfold sound_kernel.sl.r_179 v1458; simp only [read_ld, hf4, hf7, e161]; try rfl
  have e180 : sound_kernel.sl.r_180 c arg0 arg2 arg3 arg5 arg6 arg12 arg13 arg14 arg15 f0 f2 f3 f5 f6 f12 f13 f14 f15 = v1459 X := by
    unfold sound_kernel.sl.r_180 v1459; simp only [e161]; try rfl
  have e181 : sound_kernel.sl.r_181 c arg0 arg2 arg3 arg5 arg6 arg12 arg13 arg14 arg15 f0 f2 f3 f5 f6 f12 f13 f14 f15 = v1463 X := by
    unfold sound_kernel.sl.r_181 v1463; simp only [e161]; try rfl
  have e182 : sound_kernel.sl.r_182 c arg0 arg2 arg3 arg4 arg5 arg6 arg7 arg12 arg13 arg14 arg15 f0 f2 f3 f4 f5 f6 f7 f12 f13 f14 f15 = v1480 X := by
    unfold sound_kernel.sl.r_182 v1480; simp only [read_ld, hf4, hf7, e180, e181]; try rfl
  have e183 : sound_kernel.sl.r_183 c arg0 arg2 arg3 arg4 arg5 arg6 arg7 arg12 arg13 arg14 arg15 f0 f2 f3 f4 f5 f6 f7 f12 f13 f14 f15 = v1502 X := by
    unfold sound_kernel.sl.r_183 v1502; simp only [read_ld, hf4, hf7, e161]; try rfl
  have e184 : sound_kernel.sl.r_184 c arg0 arg2 arg3 arg5 arg6 arg12 arg13 arg14 arg15 f0 f2 f3 f5 f6 f12 f13 f14 f15 = v1503 X := by
    unfold sound_kernel.sl.r_184 v1503; simp only [e161]; try rfl
  have e185 : sound_kernel.sl.r_185 c arg0 arg2 arg3 arg4 arg5 arg6 arg7 arg12 arg13 arg14 arg15 f0 f2 f3 f4 f5 f6 f7 f12 f13 f14 f15 = v1524 X := by
    unfold sound_kernel.sl.r_185 v1524; simp only [read_ld, hf4, hf7, e184]; try rfl
  have e186 : sound_kernel.sl.r_186 c arg0 arg2 arg3 arg4 arg5 arg6 arg7 arg12 arg13 arg14 arg15 f0 f2 f3 f4 f5 f6 f7 f12 f13 f14 f15 = v1546 X := by
    unfold sound_kernel.sl.r_186 v1546; simp only [read_ld, hf4, hf7, e161]; try rfl
  have e187 : sound_kernel.sl.r_187 c arg0 arg2 arg3 arg5 arg6 arg12 arg13 arg14 arg15 f0 f2 f3 f5 f6 f12 f13 f14 f15 = v1547 X := by
    unfold sound_kernel.sl.r_187 v1547; simp only [e161]; try rfl
  have e188 : sound_kernel.sl.r_188 c arg0 arg2 arg3 arg4 arg5 arg6 arg7 arg12 arg13 arg14 arg15 f0 f2 f3 f4 f5 f6 f7 f12 f13 f14 f15 = v1568 X := by
    unfold sound_kernel.sl.r_188 v1568; simp only [read_ld, hf4, hf7, e187]; try rfl
  have e189 : sound_kernel.sl.r_189 c arg0 arg2 arg3 arg4 arg5 arg6 arg12 arg13 arg14 arg15 f0 f2 f3 f4 f5 f6 f12 f13 f14 f15 = v1586 X := by
    unfold sound_kernel.sl.r_189 v1586; simp only [read_ld, hf4, e161]; try rfl
  have e190 : sound_kernel.sl.r_190 c arg0 arg2 arg3 arg5 arg6 arg7 arg12 arg13 arg14 arg15 f0 f2 f3 f5 f6 f7 f12 f13 f14 f15 = v1589 X := by
    unfold sound_kernel.sl.r_190 v1589; simp only [read_ld, hf7, e161]; try rfl
  have e191 : sound_kernel.sl.r_191 c arg0 arg2 arg3 arg4 arg5 arg6 arg7 arg8 arg12 arg13 arg14 arg15 f0 f2 f3 f4 f5 f6 f7 f8 f12 f13 f14 f15 = v1621 X := by
    unfold sound_kernel.sl.r_191 v1621; simp only [read_ld, hf4, hf7, hf8, e161, e163, e166, e167, e170, e171, e174, e175, e178, e179, e182, e183, e185, e186, e188, e189, e190]; try rfl
  have e192 : sound_kernel.sl.r_192 c arg0 arg2 arg3 arg4 arg5 arg6 arg7 arg8 arg12 arg13 arg14 arg15 f0 f2 f3 f4 f5 f6 f7 f8 f12 f13 f14 f15 = v1622 X := by
    unfold sound_kernel.sl.r_192 v1622; simp only [read_ld, hf4, hf7, hf8, e161, e163, e166, e167, e170, e171, e174, e175, e178, e179, e182, e183, e185, e186, e188, e189, e190]; try rfl
  have e193 : sound_kernel.sl.r_193 c arg0 arg2 arg3 arg4 arg5 arg6 arg7 arg8 arg12 arg13 arg14 arg15 f0 f2 f3 f4 f5 f6 f7 f8 f12 f13 f14 f15 = v1623 X := by
    unfold sound_kernel.sl.r_193 v1623; simp only [read_ld, hf4, hf7, hf8, e161, e163, e166, e167, e170, e171, e174, e175, e178, e179, e182, e183, e185, e186, e188, e189, e190]; try rfl
  have e194 : sound_kernel.sl.r_194 c arg10 f10 = v1625 X := by
    unfold sound_kernel.sl.r_194 v1625; simp only [read_ld, hf10]; try rfl
  have e195 : sound_kernel.sl.r_195 c arg11 f11 = v1627 X := by
    unfold sound_kernel.sl.r_195 v1627; simp only [read_ld, hf11]; try rfl
  have e196 : sound_kernel.sl.r_196 c arg9 f9 = v1629 X := by
    unfold sound_kernel.sl.r_196 v1629; simp only [read_ld, hf9]; try rfl
  have e197 : sound_kernel.sl.r_197 c arg9 f9 = v1630 X := by
    unfold sound_kernel.sl.r_197 v1630; simp only [read_ld, hf9]; try rfl
  have e198 : sound_kernel.sl.r_198 c arg10 f10 = v1631 X := by
    unfold sound_kernel.sl.r_198 v1631; simp only [read_ld, hf10]; try rfl
  have e199 : sound_kernel.sl.r_199 c arg0 arg2 arg3 arg4 arg5 arg6 arg7 arg8 arg9 arg10 arg11 arg12 arg13 arg14 arg15 f0 f2 f3 f4 f5 f6 f7 f8 f9 f10 f11 f12 f13 f14 f15 = v1664 X := by
    unfold sound_kernel.sl.r_199 v1664; simp only [e191, e192, e193, e194, e195, e196, e197, e198]; try rfl
  have e200 : sound_kernel.sl.r_200 c arg0 arg2 arg3 arg4 arg5 arg6 arg7 arg8 arg9 arg10 arg11 arg12 arg13 arg14 arg15 f0 f2 f3 f4 f5 f6 f7 f8 f9 f10 f11 f12 f13 f14 f15 = v1675 X := by
    unfold sound_kernel.sl.r_200 v1675; simp only [e191, e192, e193, e194, e195, e196, e197, e198]; try rfl
  iapply Hk
  isplitl [H0]
  · iexists f0; isplitr
    · ipureintro; exact hf0
    iexact H0
  isplitl [H1]
  · iexists f1; isplitr
    · ipureintro; exact hf1
    iexact H1
  isplitl [H2]
  · iexists f2; isplitr
    · ipureintro; exact hf2
    iexact H2
  isplitl [H3]
  · iexists f3; isplitr
    · ipureintro; exact hf3
    iexact H3
  isplitl [H4]
  · iexists f4; isplitr
    · ipureintro; exact hf4
    iexact H4
  isplitl [H5]
  · iexists f5; isplitr
    · ipureintro; exact hf5
    iexact H5
  isplitl [H6]
  · iexists f6; isplitr
    · ipureintro; exact hf6
    iexact H6
  isplitl [H7]
  · iexists f7; isplitr
    · ipureintro; exact hf7
    iexact H7
  isplitl [H8]
  · iexists f8; isplitr
    · ipureintro; exact hf8
    iexact H8
  isplitl [H9]
  · iexists f9; isplitr
    · ipureintro; exact hf9
    iexact H9
  isplitl [H10]
  · iexists f10; isplitr
    · ipureintro; exact hf10
    iexact H10
  isplitl [H11]
  · iexists f11; isplitr
    · ipureintro; exact hf11
    iexact H11
  isplitl [H12]
  · iexists f12; isplitr
    · ipureintro; exact hf12
    iexact H12
  isplitl [H13]
  · iexists f13; isplitr
    · ipureintro; exact hf13
    iexact H13
  isplitl [H14]
  · iexists f14; isplitr
    · ipureintro; exact hf14
    iexact H14
  isplitl [H15]
  · iexists f15; isplitr
    · ipureintro; exact hf15
    iexact H15
  isplitl [H16]
  · iexists _; isplitr; swap
    · iexact H16
    ipureintro
    refine (View.read_writes_eq_canon _ _ _ (cover16 _ _ _ _ _ _)).trans ?_
    unfold out16; simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e110, e111, e112, e113, e114, e115, e116, e117, e118, e119, e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, e180, e181, e182, e183, e184, e185, e186, e187, e188, e189, e190, e191, e192, e193, e194, e195, e196, e197, e198, e199, e200]; try rfl
  isplitl [H17]
  · iexists _; isplitr; swap
    · iexact H17
    ipureintro
    refine (View.read_writes_eq_canon _ _ _ (cover17 _)).trans ?_
    unfold out17; simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e110, e111, e112, e113, e114, e115, e116, e117, e118, e119, e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, e180, e181, e182, e183, e184, e185, e186, e187, e188, e189, e190, e191, e192, e193, e194, e195, e196, e197, e198, e199, e200]; try rfl
  iexists _; isplitr; swap
  · iexact H18
  ipureintro
  refine (View.read_writes_eq_canon _ _ _ (cover18 _)).trans ?_
  unfold out18; simp only [e0, e1, e2, e3, e4, e5, e6, e7, e8, e9, e10, e11, e12, e13, e14, e15, e16, e17, e18, e19, e20, e21, e22, e23, e24, e25, e26, e27, e28, e29, e30, e31, e32, e33, e34, e35, e36, e37, e38, e39, e40, e41, e42, e43, e44, e45, e46, e47, e48, e49, e50, e51, e52, e53, e54, e55, e56, e57, e58, e59, e60, e61, e62, e63, e64, e65, e66, e67, e68, e69, e70, e71, e72, e73, e74, e75, e76, e77, e78, e79, e80, e81, e82, e83, e84, e85, e86, e87, e88, e89, e90, e91, e92, e93, e94, e95, e96, e97, e98, e99, e100, e101, e102, e103, e104, e105, e106, e107, e108, e110, e111, e112, e113, e114, e115, e116, e117, e118, e119, e120, e121, e122, e123, e124, e125, e126, e127, e128, e129, e130, e131, e132, e133, e134, e135, e136, e137, e138, e139, e140, e141, e142, e143, e144, e145, e146, e147, e148, e149, e150, e151, e152, e153, e154, e155, e156, e157, e158, e159, e160, e161, e162, e163, e164, e165, e166, e167, e168, e169, e170, e171, e172, e173, e174, e175, e176, e177, e178, e179, e180, e181, e182, e183, e184, e185, e186, e187, e188, e189, e190, e191, e192, e193, e194, e195, e196, e197, e198, e199, e200]; try rfl

/-- The input windows' contents at the one grid point. -/
def ins (c : Dev nD) (t : Fin cfg0.N) : Ins F := ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The pipeline's data: every input window keeps its block, the outputs hold the body's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (ins m c t)
    | ⟨17, _⟩ => out17 (ins m c t)
    | ⟨18, _⟩ => out18 (ins m c t)
    | ⟨w + 19, h⟩ => absurd h (by simp [cfg0, spec0])
  Φ _ := Pipeline.ΦA spec0 c
  q _ := fullShare
  owed _ := 0

/-- The arrays before the region are the program's. -/
theorem A_eq (c : Dev nD) (w : Fin cfg0.W) : (dats m 0 c).A w = V m c (Pipeline.arrRef spec0 w) := rfl

/-- Window 0 after the body. -/
theorem after0_0 (c : Dev nD) (t : Fin cfg0.N) : (dats m 0 c).after 0 t = iblk m c 0 t := by dsimp only [dats]
/-- Window 1 after the body. -/
theorem after0_1 (c : Dev nD) (t : Fin cfg0.N) : (dats m 0 c).after 1 t = iblk m c 1 t := by dsimp only [dats]
/-- Window 2 after the body. -/
theorem after0_2 (c : Dev nD) (t : Fin cfg0.N) : (dats m 0 c).after 2 t = iblk m c 2 t := by dsimp only [dats]
/-- Window 3 after the body. -/
theorem after0_3 (c : Dev nD) (t : Fin cfg0.N) : (dats m 0 c).after 3 t = iblk m c 3 t := by dsimp only [dats]
/-- Window 4 after the body. -/
theorem after0_4 (c : Dev nD) (t : Fin cfg0.N) : (dats m 0 c).after 4 t = iblk m c 4 t := by dsimp only [dats]
/-- Window 5 after the body. -/
theorem after0_5 (c : Dev nD) (t : Fin cfg0.N) : (dats m 0 c).after 5 t = iblk m c 5 t := by dsimp only [dats]
/-- Window 6 after the body. -/
theorem after0_6 (c : Dev nD) (t : Fin cfg0.N) : (dats m 0 c).after 6 t = iblk m c 6 t := by dsimp only [dats]
/-- Window 7 after the body. -/
theorem after0_7 (c : Dev nD) (t : Fin cfg0.N) : (dats m 0 c).after 7 t = iblk m c 7 t := by dsimp only [dats]
/-- Window 8 after the body. -/
theorem after0_8 (c : Dev nD) (t : Fin cfg0.N) : (dats m 0 c).after 8 t = iblk m c 8 t := by dsimp only [dats]
/-- Window 9 after the body. -/
theorem after0_9 (c : Dev nD) (t : Fin cfg0.N) : (dats m 0 c).after 9 t = iblk m c 9 t := by dsimp only [dats]
/-- Window 10 after the body. -/
theorem after0_10 (c : Dev nD) (t : Fin cfg0.N) : (dats m 0 c).after 10 t = iblk m c 10 t := by dsimp only [dats]
/-- Window 11 after the body. -/
theorem after0_11 (c : Dev nD) (t : Fin cfg0.N) : (dats m 0 c).after 11 t = iblk m c 11 t := by dsimp only [dats]
/-- Window 12 after the body. -/
theorem after0_12 (c : Dev nD) (t : Fin cfg0.N) : (dats m 0 c).after 12 t = iblk m c 12 t := by dsimp only [dats]
/-- Window 13 after the body. -/
theorem after0_13 (c : Dev nD) (t : Fin cfg0.N) : (dats m 0 c).after 13 t = iblk m c 13 t := by dsimp only [dats]
/-- Window 14 after the body. -/
theorem after0_14 (c : Dev nD) (t : Fin cfg0.N) : (dats m 0 c).after 14 t = iblk m c 14 t := by dsimp only [dats]
/-- Window 15 after the body. -/
theorem after0_15 (c : Dev nD) (t : Fin cfg0.N) : (dats m 0 c).after 15 t = iblk m c 15 t := by dsimp only [dats]
/-- Window 16 after the body. -/
theorem after0_16 (c : Dev nD) (t : Fin cfg0.N) : (dats m 0 c).after 16 t = out16 (ins m c t) := by dsimp only [dats]
/-- Window 17 after the body. -/
theorem after0_17 (c : Dev nD) (t : Fin cfg0.N) : (dats m 0 c).after 17 t = out17 (ins m c t) := by dsimp only [dats]
/-- Window 18 after the body. -/
theorem after0_18 (c : Dev nD) (t : Fin cfg0.N) : (dats m 0 c).after 18 t = out18 (ins m c t) := by dsimp only [dats]
/-- Window 0 before the body. -/
theorem before0_0 (c : Dev nD) (t : Fin cfg0.N) (d) : (dats m 0 c).before 0 t d = iblk m c 0 t :=
  before0_0_of m (dats m 0 c) (A_eq m c 0) (after0_0 m c) t d
/-- Window 1 before the body. -/
theorem before0_1 (c : Dev nD) (t : Fin cfg0.N) (d) : (dats m 0 c).before 1 t d = iblk m c 1 t :=
  before0_1_of m (dats m 0 c) (A_eq m c 1) (after0_1 m c) t d
/-- Window 2 before the body. -/
theorem before0_2 (c : Dev nD) (t : Fin cfg0.N) (d) : (dats m 0 c).before 2 t d = iblk m c 2 t :=
  before0_2_of m (dats m 0 c) (A_eq m c 2) (after0_2 m c) t d
/-- Window 3 before the body. -/
theorem before0_3 (c : Dev nD) (t : Fin cfg0.N) (d) : (dats m 0 c).before 3 t d = iblk m c 3 t :=
  before0_3_of m (dats m 0 c) (A_eq m c 3) (after0_3 m c) t d
/-- Window 4 before the body. -/
theorem before0_4 (c : Dev nD) (t : Fin cfg0.N) (d) : (dats m 0 c).before 4 t d = iblk m c 4 t :=
  before0_4_of m (dats m 0 c) (A_eq m c 4) (after0_4 m c) t d
/-- Window 5 before the body. -/
theorem before0_5 (c : Dev nD) (t : Fin cfg0.N) (d) : (dats m 0 c).before 5 t d = iblk m c 5 t :=
  before0_5_of m (dats m 0 c) (A_eq m c 5) (after0_5 m c) t d
/-- Window 6 before the body. -/
theorem before0_6 (c : Dev nD) (t : Fin cfg0.N) (d) : (dats m 0 c).before 6 t d = iblk m c 6 t :=
  before0_6_of m (dats m 0 c) (A_eq m c 6) (after0_6 m c) t d
/-- Window 7 before the body. -/
theorem before0_7 (c : Dev nD) (t : Fin cfg0.N) (d) : (dats m 0 c).before 7 t d = iblk m c 7 t :=
  before0_7_of m (dats m 0 c) (A_eq m c 7) (after0_7 m c) t d
/-- Window 8 before the body. -/
theorem before0_8 (c : Dev nD) (t : Fin cfg0.N) (d) : (dats m 0 c).before 8 t d = iblk m c 8 t :=
  before0_8_of m (dats m 0 c) (A_eq m c 8) (after0_8 m c) t d
/-- Window 9 before the body. -/
theorem before0_9 (c : Dev nD) (t : Fin cfg0.N) (d) : (dats m 0 c).before 9 t d = iblk m c 9 t :=
  before0_9_of m (dats m 0 c) (A_eq m c 9) (after0_9 m c) t d
/-- Window 10 before the body. -/
theorem before0_10 (c : Dev nD) (t : Fin cfg0.N) (d) : (dats m 0 c).before 10 t d = iblk m c 10 t :=
  before0_10_of m (dats m 0 c) (A_eq m c 10) (after0_10 m c) t d
/-- Window 11 before the body. -/
theorem before0_11 (c : Dev nD) (t : Fin cfg0.N) (d) : (dats m 0 c).before 11 t d = iblk m c 11 t :=
  before0_11_of m (dats m 0 c) (A_eq m c 11) (after0_11 m c) t d
/-- Window 12 before the body. -/
theorem before0_12 (c : Dev nD) (t : Fin cfg0.N) (d) : (dats m 0 c).before 12 t d = iblk m c 12 t :=
  before0_12_of m (dats m 0 c) (A_eq m c 12) (after0_12 m c) t d
/-- Window 13 before the body. -/
theorem before0_13 (c : Dev nD) (t : Fin cfg0.N) (d) : (dats m 0 c).before 13 t d = iblk m c 13 t :=
  before0_13_of m (dats m 0 c) (A_eq m c 13) (after0_13 m c) t d
/-- Window 14 before the body. -/
theorem before0_14 (c : Dev nD) (t : Fin cfg0.N) (d) : (dats m 0 c).before 14 t d = iblk m c 14 t :=
  before0_14_of m (dats m 0 c) (A_eq m c 14) (after0_14 m c) t d
/-- Window 15 before the body. -/
theorem before0_15 (c : Dev nD) (t : Fin cfg0.N) (d) : (dats m 0 c).before 15 t d = iblk m c 15 t :=
  before0_15_of m (dats m 0 c) (A_eq m c 15) (after0_15 m c) t d

/-- What the body is run from. -/
abbrev bodyPre (c : Dev nD) (t : Fin cfg0.N) : sProp 𝕄 := iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)) ∗ (∃ d, owns (c : Thread nD τ) (st0_18 t) fullShare ((dats m 0 c).before 18 t d)))

/-- What the body leaves. -/
abbrev bodyPost (c : Dev nD) (t : Fin cfg0.N) : sProp 𝕄 := iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t) ∗ owns (c : Thread nD τ) (st0_18 t) fullShare ((dats m 0 c).after 18 t))

set_option maxHeartbeats 4000000 in
/-- The body at the grid point, from the windows as the pipeline hands them over. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel c Set.univ _ _ _ _ _ _ _ _ _ _ _ _ _ _ _ _ _ _ _ _ _ _ _ _ _ _ _ _ _ _ _ _ _ _ _ _ _ _ (ins m c t) _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexists _; iexact H16
  isplitl [H17]
  · iexists _; iexact H17
  isplitl [H18]
  · iexists _; iexact H18
  iintro ⟨G0, G1, G2, G3, G4, G5, G6, G7, G8, G9, G10, G11, G12, G13, G14, G15, G16, G17, G18⟩
  isplitl [HΦ]
  · iexact HΦ
  isplitl [Ho]
  · iexact Ho
  isplitl [G0]
  · iexact G0
  isplitl [G1]
  · iexact G1
  isplitl [G2]
  · iexact G2
  isplitl [G3]
  · iexact G3
  isplitl [G4]
  · iexact G4
  isplitl [G5]
  · iexact G5
  isplitl [G6]
  · iexact G6
  isplitl [G7]
  · iexact G7
  isplitl [G8]
  · iexact G8
  isplitl [G9]
  · iexact G9
  isplitl [G10]
  · iexact G10
  isplitl [G11]
  · iexact G11
  isplitl [G12]
  · iexact G12
  isplitl [G13]
  · iexact G13
  isplitl [G14]
  · iexact G14
  isplitl [G15]
  · iexact G15
  isplitl [G16]
  · iexact G16
  isplitl [G17]
  · iexact G17
  iexact G18

/-- The region's body, as the kernel function is called. -/
theorem defs₀_row (t : Fin cfg0.N) : defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 1600000 in
/-- The launch: it ends with the region's arrays and every other buffer as named, every counter at zero. -/
theorem run_main_quiescent : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m)
    (hmain := hmain m Variants.none) (hA := A_eq m) (hΦ := fun _ _ => rfl)

/-- The launch, without the counters. -/
theorem run_main : θ_run defs (onTc (τ := τ) (main (F := F))) (s₀ m ρ)
    (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- The frame: the program runs, its arguments end unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) ∧ r.2.sem = fun _ => 0) :=
  θ_run_and (unchanged m ρ) ((θ_run defs _ _).mono (fun _ h => h.2) (run_main_quiescent m ρ))

end Cert.Proof.KI

end
-- ==== Proof.Rank.lean ====
module

public import Mathlib.Data.EReal.Basic
public import Mathlib.Data.EReal.Operations
public import Mathlib.Algebra.BigOperators.Fin
public import Mathlib.Data.Fintype.Card
public import Mathlib.Data.Finset.Fold
public import Mathlib.Tactic.Linarith

/-! Ranks of a row of extended reals: an entry's rank is the number of entries that are greater, or equal and
earlier. Every rank below the row's length is taken once. -/

@[expose] public section

noncomputable section

namespace Cert.Proof.Rank

open scoped Classical
variable {n : ℕ}

/-- `a` comes before `b` in descending order, equal entries in index order. -/
def Bef (f : Fin n → EReal) (a b : Fin n) : Prop := f b < f a ∨ (f a = f b ∧ a < b)

/-- The number of entries that come before entry `a`. -/
def rank (f : Fin n → EReal) (a : Fin n) : ℕ := (Finset.univ.filter fun a' => Bef f a' a).card

variable {f : Fin n → EReal} {a b c : Fin n}

theorem Bef.irrefl : ¬ Bef f a a := by
  rintro (h | h)
  · exact lt_irrefl _ h
  · exact lt_irrefl _ h.2

theorem Bef.trans (h : Bef f a b) (h' : Bef f b c) : Bef f a c := by
  rcases h with h | ⟨h, g⟩ <;> rcases h' with h' | ⟨h', g'⟩
  · exact .inl (h'.trans h)
  · exact .inl (h' ▸ h)
  · exact .inl (h ▸ h')
  · exact .inr ⟨h.trans h', g.trans g'⟩

theorem Bef.total (h : a ≠ b) : Bef f a b ∨ Bef f b a := by
  unfold Bef
  rcases lt_trichotomy (f a) (f b) with g | g | g
  · exact .inr (.inl g)
  · rcases lt_or_gt_of_ne h with k | k
    · exact .inl (.inr ⟨g, k⟩)
    · exact .inr (.inr ⟨g.symm, k⟩)
  · exact .inl (.inl g)

theorem rank_lt_of_bef (h : Bef f a b) : rank f a < rank f b := by
  refine Finset.card_lt_card ⟨?_, ?_⟩
  · intro x hx
    simp only [Finset.mem_filter, Finset.mem_univ, true_and] at hx ⊢
    exact hx.trans h
  · intro hs
    have := hs (show a ∈ _ by simpa using h)
    simp only [Finset.mem_filter, Finset.mem_univ, true_and] at this
    exact Bef.irrefl this

/-- An entry comes before another exactly when its rank is smaller. -/
theorem rank_lt_iff : rank f a < rank f b ↔ Bef f a b := by
  refine ⟨fun h => ?_, rank_lt_of_bef⟩
  by_cases e : a = b
  · subst e; exact absurd h (lt_irrefl _)
  · rcases Bef.total (f := f) e with g | g
    · exact g
    · exact absurd (rank_lt_of_bef g) (by omega)

theorem rank_injective (f : Fin n → EReal) : Function.Injective (rank f) := by
  intro a b h
  by_contra e
  rcases Bef.total (f := f) e with g | g
  · exact absurd (rank_lt_of_bef g) (by omega)
  · exact absurd (rank_lt_of_bef g) (by omega)

theorem rank_lt (f : Fin n → EReal) (a : Fin n) : rank f a < n := by
  have : rank f a < (Finset.univ : Finset (Fin n)).card := by
    refine Finset.card_lt_card ⟨Finset.subset_univ _, fun hs => ?_⟩
    have := hs (Finset.mem_univ a)
    simp only [Finset.mem_filter, Finset.mem_univ, true_and] at this
    exact Bef.irrefl this
  simpa using this

/-- Every rank is taken. -/
theorem exists_rank (f : Fin n → EReal) (t : Fin n) : ∃ a, rank f a = t := by
  have hi : Function.Injective (fun a => (⟨rank f a, rank_lt f a⟩ : Fin n)) := fun a b h =>
    rank_injective f (congrArg Fin.val h)
  obtain ⟨a, h⟩ := (Finite.injective_iff_surjective.mp hi) t
  exact ⟨a, congrArg Fin.val h⟩

/-- The entry of rank `t`. -/
def pick (f : Fin n → EReal) (t : Fin n) : Fin n := (exists_rank f t).choose

theorem rank_pick (f : Fin n → EReal) (t : Fin n) : rank f (pick f t) = t := (exists_rank f t).choose_spec

theorem pick_eq {t : Fin n} (h : rank f a = t) : pick f t = a := rank_injective f ((rank_pick f t).trans h.symm)

/-- The entry of rank 0 is the first of the greatest. -/
theorem pick_zero_spec (f : Fin n → EReal) (t : Fin n) (ht : t.val = 0) (a : Fin n) :
    f a ≤ f (pick f t) ∧ (f a = f (pick f t) → pick f t ≤ a) := by
  by_cases e : a = pick f t
  · subst e; exact ⟨le_rfl, fun _ => le_rfl⟩
  · have : Bef f (pick f t) a := by
      rcases Bef.total (f := f) e with g | g
      · have := rank_lt_of_bef g
        rw [rank_pick, ht] at this; omega
      · exact g
    rcases this with g | ⟨g, k⟩
    · exact ⟨g.le, fun h => absurd g (by rw [h]; exact lt_irrefl _)⟩
    · exact ⟨g.ge, fun _ => k.le⟩

/-- An entry that none comes before has rank 0. -/
theorem rank_eq_zero (h : ∀ x, f x ≤ f a ∧ (f x = f a → a ≤ x)) : rank f a = 0 := by
  refine Finset.card_eq_zero.mpr (Finset.filter_eq_empty_iff.mpr fun x _ hx => ?_)
  rcases hx with g | ⟨g, k⟩
  · exact absurd (h x).1 (not_le.mpr g)
  · exact absurd ((h x).2 g) (not_le.mpr k)

/-- The greatest entry, as a fold from the bottom. -/
theorem fold_max (f : Fin n → EReal) (t : Fin n) (ht : t.val = 0) :
    Finset.univ.fold max ⊥ f = f (pick f t) := by
  apply le_antisymm
  · exact (Finset.fold_max_le _).mpr ⟨bot_le, fun x _ => (pick_zero_spec f t ht x).1⟩
  · exact (Finset.le_fold_max _).mpr (.inr ⟨_, Finset.mem_univ _, le_rfl⟩)

/-- The first position of the greatest entry, as the least of the positions that hold it. -/
theorem fold_min (f : Fin n → EReal) (t : Fin n) (ht : t.val = 0) (z : EReal) (hz : ((n : ℝ) : EReal) ≤ z) :
    Finset.univ.fold min ⊤ (fun x : Fin n => if f x = f (pick f t) then (((x.val : ℝ)) : EReal) else z)
      = ((((pick f t).val : ℝ)) : EReal) := by
  apply le_antisymm
  · exact (Finset.fold_min_le _).mpr (.inr ⟨pick f t, Finset.mem_univ _, by rw [if_pos rfl]⟩)
  · refine (Finset.le_fold_min _).mpr ⟨le_top, fun x _ => ?_⟩
    split
    · next h => exact_mod_cast (pick_zero_spec f t ht x).2 h
    · refine le_trans ?_ hz
      exact_mod_cast (pick f t).isLt.le

/-- A row whose first `t` entries by rank have been overwritten with a value below all others. -/
def struck (f : Fin n → EReal) (z : EReal) (t : ℕ) : Fin n → EReal := fun a => if rank f a < t then z else f a

/-- The first of the greatest of a struck row is the next by rank. -/
theorem pick_struck (f : Fin n → EReal) (z : EReal) (t s : Fin n) (hs : s.val = 0) (hz : z < f (pick f t)) :
    pick (struck f z t) s = pick f t ∧ struck f z t (pick f t) = f (pick f t) := by
  have e : struck f z t (pick f t) = f (pick f t) := by
    unfold struck; rw [if_neg]; rw [rank_pick]; exact lt_irrefl _
  refine ⟨pick_eq ?_, e⟩
  rw [hs]
  refine rank_eq_zero fun x => ?_
  rw [e]
  unfold struck
  split
  · exact ⟨hz.le, fun h => absurd hz (by rw [h]; exact lt_irrefl _)⟩
  · next h =>
    by_cases ex : x = pick f t
    · subst ex; exact ⟨le_rfl, fun _ => le_rfl⟩
    · have : rank f (pick f t) < rank f x := by
        rw [rank_pick]
        have : rank f x ≠ t := fun h' => ex (pick_eq h').symm
        omega
      rcases rank_lt_iff.mp this with g | ⟨g, k⟩
      · exact ⟨g.le, fun h => absurd g (by rw [h]; exact lt_irrefl _)⟩
      · exact ⟨g.ge, fun _ => k.le⟩

/-- Striking the entry of rank `t` too. -/
theorem struck_succ (f : Fin n → EReal) (z : EReal) (t : Fin n) (a : Fin n) :
    (if a = pick f t then z else struck f z t a) = struck f z (t + 1) a := by
  unfold struck
  by_cases h : a = pick f t
  · rw [if_pos h, if_pos]; rw [h, rank_pick]; omega
  · have : rank f a ≠ t := fun h' => h (pick_eq h').symm
    rw [if_neg h]
    by_cases g : rank f a < t
    · rw [if_pos g, if_pos (by omega)]
    · rw [if_neg g, if_neg (by omega)]

/-- Padding a row behind its end with a value below all its entries keeps the ranks. -/
theorem rank_pad {k : ℕ} (g : Fin k → EReal) (f : Fin n → EReal) (h : k ≤ n) (z : EReal) (hz : ∀ a, z < g a)
    (hf : ∀ a : Fin n, f a = if ha : a.val < k then g ⟨a, ha⟩ else z) (a : Fin k) :
    rank f (Fin.castLE h a) = rank g a := by
  unfold rank
  have : (Finset.univ.filter fun a' => Bef f a' (Fin.castLE h a))
      = (Finset.univ.filter fun a' => Bef g a' a).map (Fin.castLEEmb h) := by
    ext x
    simp only [Finset.mem_filter, Finset.mem_univ, true_and, Finset.mem_map, Fin.castLEEmb_apply]
    have ea : f (Fin.castLE h a) = g a := by rw [hf, dif_pos (by simp)]; rfl
    constructor
    · intro hx
      by_cases hk : x.val < k
      · refine ⟨⟨x, hk⟩, ?_, rfl⟩
        unfold Bef at hx ⊢
        rw [ea, hf, dif_pos hk] at hx
        rcases hx with q | ⟨q, r⟩
        · exact .inl q
        · exact .inr ⟨q, r⟩
      · unfold Bef at hx
        rw [ea, hf, dif_neg hk] at hx
        rcases hx with q | ⟨q, r⟩
        · exact absurd q (not_lt.mpr (hz a).le)
        · exact absurd q (hz a).ne
    · rintro ⟨y, hy, rfl⟩
      have ey : f (Fin.castLE h y) = g y := by rw [hf, dif_pos (by simp)]; rfl
      unfold Bef at hy ⊢
      rw [ea, ey]
      rcases hy with q | ⟨q, r⟩
      · exact .inl q
      · exact .inr ⟨q, r⟩
  rw [this, Finset.card_map]

theorem pick_pad {k : ℕ} (g : Fin k → EReal) (f : Fin n → EReal) (h : k ≤ n) (z : EReal) (hz : ∀ a, z < g a)
    (hf : ∀ a : Fin n, f a = if ha : a.val < k then g ⟨a, ha⟩ else z) (t : Fin k) :
    pick f (Fin.castLE h t) = Fin.castLE h (pick g t) :=
  pick_eq (by rw [rank_pad g f h z hz hf, rank_pick]; rfl)

/-- A sum that an indicator of one position leaves at that position. -/
theorem sum_onehot (g : Fin n → EReal) (p : Fin n) (w : Fin n → EReal) (hw : ∀ a, w a = if a = p then 1 else 0) :
    ∑ a, g a * w a = g p := by
  rw [Finset.sum_eq_single p]
  · rw [hw, if_pos rfl, mul_one]
  · intro b _ hb; rw [hw, if_neg hb, mul_zero]
  · intro h; exact absurd (Finset.mem_univ _) h

theorem sum_onehot' (g : Fin n → EReal) (p : Fin n) (w : Fin n → EReal) (hw : ∀ a, w a = if a = p then 1 else 0) :
    ∑ a, w a * g a = g p := by
  rw [← sum_onehot g p w hw]
  exact Finset.sum_congr rfl fun a _ => EReal.mul_comm _ _

/-- A rank is the sum of the indicators of the entries before it. -/
theorem rank_eq_sum (f : Fin n → EReal) (a : Fin n) (w : Fin n → EReal)
    (hw : ∀ x, w x = if Bef f x a then 1 else 0) : ∑ x, w x = (((rank f a : ℕ) : ℝ) : EReal) := by
  have : ∀ s : Finset (Fin n), ∑ x ∈ s, w x = ((((s.filter fun x => Bef f x a).card : ℕ) : ℝ) : EReal) := by
    intro s
    induction s using Finset.induction_on with
    | empty => simp
    | insert x s hx ih =>
      rw [Finset.sum_insert hx, ih, hw, Finset.filter_insert]
      split
      · rw [Finset.card_insert_of_notMem (by simp [hx])]
        push_cast
        rw [add_comm]
      · rw [zero_add]
  exact this _

end Cert.Proof.Rank

end
-- ==== Proof.Spec.lean ====
module

public import proofs.«01_k».proof.Proof.Rank
public import Idealize.ShloMosaic.PureOps.Ideal

@[expose] public section

noncomputable section

namespace Cert.Proof.Spec

open Idealize.ShloMosaic Cert.Proof.Rank

/-- The finer level's anchors: column, then row, of the 20 by 20 grid, in steps of 16. -/
def anc16 (a : Fin 800) (e : Fin 2) : EReal :=
  FloatOps.sitofp (F := Ideal) .f32 (IntOp.muli (BitVec.ofNat 32 (if e.val < 1 then a.val / 2 % 20 else a.val / 2 / 20)) 16#32)
/-- The coarser level's anchors: column, then row, of the 10 by 10 grid, in steps of 32. -/
def anc32 (a : Fin 200) (e : Fin 2) : EReal :=
  FloatOps.sitofp (F := Ideal) .f32 (IntOp.muli (BitVec.ofNat 32 (if e.val < 1 then a.val / 2 % 10 else a.val / 2 / 10)) 32#32)

/-- What the boxes and scores are made of: the images' sizes, each level's class logits and box offsets by image and anchor,
    and each level's anchor centres. -/
structure In where
  os : Fin 16 → Fin 2 → EReal
  c16 : Fin 16 → Fin 800 → Fin 2 → EReal
  c32 : Fin 16 → Fin 200 → Fin 2 → EReal
  b16 : Fin 16 → Fin 800 → Fin 4 → EReal
  b32 : Fin 16 → Fin 200 → Fin 4 → EReal
  a16 : Fin 800 → Fin 2 → EReal
  a32 : Fin 200 → Fin 2 → EReal

/-- The score a suppressed or unlikely candidate is given. -/
abbrev neg : EReal := Ideal.ofBits .f32 0xCE6E6B28#32

/-- Length of side `e` of an image over that of the resized one. -/
def ratio (I : In) (b : Fin 16) (e : Fin 2) : EReal := Ideal.div (I.os b e) (Ideal.ofBits .f32 0x43A00000#32)

/-- A box in the image's own pixels: a centre, four offsets in units of the stride `z`, and the ratios along x and y. -/
def box (ac : Fin 2 → EReal) (d : Fin 4 → EReal) (z rx ry : EReal) : Fin 4 → EReal :=
  ![(ac 0 - d 0 * z) * rx, (ac 1 - d 1 * z) * ry, (ac 0 + d 2 * z) * rx, (ac 1 + d 3 * z) * ry]

/-- Scores of one image and class at the finer level. -/
def s16 (I : In) (b : Fin 16) (c : Fin 2) (a : Fin 800) : EReal := Ideal.logistic (I.c16 b a c)
/-- Scores of one image and class at the coarser level. -/
def s32 (I : In) (b : Fin 16) (c : Fin 2) (a : Fin 200) : EReal := Ideal.logistic (I.c32 b a c)
/-- Boxes of one image at the finer level. -/
def box16 (I : In) (b : Fin 16) (a : Fin 800) : Fin 4 → EReal :=
  box (I.a16 a) (I.b16 b a) (Ideal.ofBits .f32 0x41800000#32) (ratio I b 1) (ratio I b 0)
/-- Boxes of one image at the coarser level. -/
def box32 (I : In) (b : Fin 16) (a : Fin 200) : Fin 4 → EReal :=
  box (I.a32 a) (I.b32 b a) (Ideal.ofBits .f32 0x42000000#32) (ratio I b 1) (ratio I b 0)

/-- The finer level's anchor of rank `t`. -/
def sel16 (I : In) (b : Fin 16) (c : Fin 2) (t : Fin 100) : Fin 800 := pick (s16 I b c) (t.castLE (by decide))
/-- The coarser level's anchor of rank `t`. -/
def sel32 (I : In) (b : Fin 16) (c : Fin 2) (t : Fin 100) : Fin 200 := pick (s32 I b c) (t.castLE (by decide))

/-- A candidate's score: 100 of the finer level by rank, then 100 of the coarser. -/
def cs (I : In) (b : Fin 16) (c : Fin 2) (q : Fin 200) : EReal :=
  if h : q.val < 100 then s16 I b c (sel16 I b c ⟨q, h⟩) else s32 I b c (sel32 I b c ⟨q - 100, by omega⟩)
/-- A candidate's box. -/
def cb (I : In) (b : Fin 16) (c : Fin 2) (q : Fin 200) : Fin 4 → EReal :=
  if h : q.val < 100 then box16 I b (sel16 I b c ⟨q, h⟩) else box32 I b (sel32 I b c ⟨q - 100, by omega⟩)

/-- The scores suppression starts from: an unlikely candidate's is lowered. -/
def w0 (I : In) (b : Fin 16) (c : Fin 2) (q : Fin 200) : EReal :=
  if Ideal.ofBits .f32 0x3F000000#32 < cs I b c q then cs I b c q else neg

/-- Common area of two boxes. -/
def inter (p q : Fin 4 → EReal) : EReal :=
  max (min (p 2) (q 2) - max (p 0) (q 0)) 0 * max (min (p 3) (q 3) - max (p 1) (q 1)) 0
/-- Area of a box. -/
def area (p : Fin 4 → EReal) : EReal := max (p 2 - p 0) 0 * max (p 3 - p 1) 0
/-- Overlap of two boxes. -/
def iou (p q : Fin 4 → EReal) : EReal :=
  Ideal.div (inter p q) (area p + area q - inter p q + Ideal.ofBits .f32 0x3089705F#32)

/-- One step of suppression: the candidates that overlap the best one are lowered. -/
def step (bx : Fin 200 → Fin 4 → EReal) (w : Fin 200 → EReal) (q : Fin 200) : EReal :=
  if Ideal.ofBits .f32 0x3EE66666#32 < iou (bx (pick w 0)) (bx q) then neg else w q

/-- The scores after `t` steps. -/
def work (bx : Fin 200 → Fin 4 → EReal) (w : Fin 200 → EReal) (t : ℕ) : Fin 200 → EReal := (step bx)^[t] w

theorem work_succ (bx : Fin 200 → Fin 4 → EReal) (w : Fin 200 → EReal) (t : ℕ) :
    work bx w (t + 1) = step bx (work bx w t) := Function.iterate_succ_apply' _ _ _

/-- The candidate step `t` selects. -/
def best (bx : Fin 200 → Fin 4 → EReal) (w : Fin 200 → EReal) (t : ℕ) : Fin 200 := pick (work bx w t) 0
/-- Its score. -/
def bestS (bx : Fin 200 → Fin 4 → EReal) (w : Fin 200 → EReal) (t : ℕ) : EReal := work bx w t (best bx w t)
/-- Its box. -/
def bestB (bx : Fin 200 → Fin 4 → EReal) (w : Fin 200 → EReal) (t : ℕ) : Fin 4 → EReal := bx (best bx w t)

/-- The class an entry of an image's 200 belongs to. -/
def cls (i : Fin 200) : Fin 2 := ⟨i / 100, by omega⟩

/-- The 200 selected scores of an image, class by class. -/
def fs (I : In) (b : Fin 16) (i : Fin 200) : EReal := bestS (cb I b (cls i)) (w0 I b (cls i)) (i % 100)
/-- The 200 selected boxes of an image, class by class. -/
def fb (I : In) (b : Fin 16) (i : Fin 200) : Fin 4 → EReal := bestB (cb I b (cls i)) (w0 I b (cls i)) (i % 100)
/-- The entry of rank `j` of an image. -/
def top (I : In) (b : Fin 16) (j : Fin 100) : Fin 200 := pick (fs I b) (j.castLE (by decide))

/-- The result: the 100 best entries of each image, each a box, its score and its class. -/
def out (I : In) (b : Fin 16) (j : Fin 100) (k : Fin 6) : EReal :=
  if h : k.val < 4 then fb I b (top I b j) ⟨k, h⟩
  else if k.val < 5 then fs I b (top I b j)
  else (((top I b j).val / 100 : ℕ) : ℝ)

end Cert.Proof.Spec

end
-- ==== Proof.KVSel.lean ====
module

public import proofs.«01_k».proof.Proof.KIStage
public import proofs.«01_k».proof.Proof.Spec
public import Idealize.ShloMosaic.Lib.Pointwise

@[expose] public section

set_option maxRecDepth 16384

noncomputable section

namespace Cert.Proof.KV

open Idealize.ShloMosaic Cert.KernelIdeal Cert.KernelIdeal.Gen Cert.Proof.KI Cert.Proof.Rank

/-! Constants. -/

theorem bits_ninf : Ideal.ofBits .f32 0xFF800000#32 = ⊥ := by simp [Ideal.ofBits, Ideal.ieee]
theorem bits_pinf : Ideal.ofBits .f32 0x7F800000#32 = ⊤ := by simp [Ideal.ofBits, Ideal.ieee]
theorem bits_2048 : Ideal.ofBits .f32 0x45000000#32 = ((2048 : ℝ) : EReal) := by
  simp [Ideal.ofBits, Ideal.ieee]
  rw [← EReal.coe_mul]
  norm_num
/-- The score of an entry already selected. -/
abbrev low : EReal := Ideal.ofBits .f32 0xF149F2CA#32
theorem low_neg : low < 0 := by
  simp [low, Ideal.ofBits, Ideal.ieee]
  rw [← EReal.coe_pow, ← EReal.coe_mul]
  exact EReal.coe_pos.mpr (by norm_num)

/-- A small number's word, read as a number. -/
theorem word_val (n : ℕ) (h : n < 2 ^ 31) : (FloatOps.sitofp (F := Ideal) .f32 (BitVec.ofNat 32 n) : EReal) = ((n : ℝ) : EReal) := by
  have : (BitVec.ofNat 32 n).toInt = n := by
    rw [BitVec.toInt_eq_toNat_of_lt] <;> rw [BitVec.toNat_ofNat, Nat.mod_eq_of_lt (by omega)]; omega
  show (((BitVec.ofNat 32 n).toInt : ℝ) : EReal) = _
  rw [this]; norm_cast

theorem nat_inj {a b : ℕ} : (((a : ℝ) : EReal) = ((b : ℝ) : EReal)) ↔ a = b := by norm_cast

theorem iv_val {n : ℕ} (k : Fin n) (h : n < 2 ^ 31) : ((Scf.iv 0#32 1#32 k).toInt : ℝ) = ((k.val : ℕ) : ℝ) := by
  have : Scf.iv 0#32 1#32 k = BitVec.ofNat 32 k.val := by simp [Scf.iv]
  rw [this, BitVec.toInt_eq_toNat_of_lt] <;> rw [BitVec.toNat_ofNat, Nat.mod_eq_of_lt (by omega)] <;> [norm_cast; omega]

/-- What holds before the first trip and is kept by each holds after the last. -/
theorem fold_inv {n : ℕ} {σ : Type} (g : Fin n → σ → σ) (P : ℕ → σ → Prop) (init : σ) (h0 : P 0 init)
    (hs : ∀ (k : Fin n) s, P k s → P (k + 1) (g k s)) : P n (Scf.fold g init) := by
  rw [Scf.fold_eq]
  induction n with
  | zero => simpa using h0
  | succ n ih =>
    rw [List.finRange_succ_last, List.foldl_append, List.foldl_map]
    exact hs (Fin.last n) _ (ih (fun k => g k.castSucc) fun k => hs k.castSucc)

/-! One trip of the selection loop. -/

section
variable (w : FVec Ideal S64x800 .f32) (r : Fin 64)

theorem max_read : k0_pay40 w (ix2 r 0) = w (ix2 r (pick (fun x => w (ix2 r x)) 0)) := by
  pointwise [k0_pay40]
  rw [bits_ninf]
  exact fold_max _ 0 rfl

theorem col_val (X : Ins Ideal) (a : Fin 800) : (FloatOps.sitofp (F := Ideal) .f32 (v88 X (ix2 r a)) : EReal) = ((a.val : ℝ) : EReal) := by
  pointwise [v88]
  exact word_val _ (by omega)

theorem arg_read (X : Ins Ideal) : k0_pay41 (v88 X) w (ix2 r 0) = (((pick (fun x => w (ix2 r x)) 0).val : ℝ) : EReal) := by
  have h := max_read w r
  pointwise [k0_pay41, k0_pay38]
  rw [h, bits_pinf]
  simp only [col_val]
  exact fold_min (fun x => w (ix2 r x)) 0 rfl _ (by rw [bits_2048]; exact EReal.coe_le_coe_iff.mpr (by norm_num))

theorem strike_read (X : Ins Ideal) (a : Fin 800) :
    k0_pay45 (v88 X) w (ix2 r a) = if a = pick (fun x => w (ix2 r x)) 0 then low else w (ix2 r a) := by
  have h := arg_read w r X
  pointwise [k0_pay45, k0_pay38]
  rw [h, col_val]
  simp only [nat_inj, Fin.ext_iff]

theorem trips1 : k0_t1_loop.trips = 100 := by rfl

theorem put_val (k : Fin k0_t1_loop.trips) (v : FVec Ideal S64x100 .f32) (j : Fin 100) :
    k0_pay43 k w v (ix2 r j) = if j.val = k.val then w (ix2 r (pick (fun x => w (ix2 r x)) 0)) else v (ix2 r j) := by
  have h := max_read w r
  pointwise [k0_pay43, k0_pay42]
  rw [h, word_val _ (by omega), iv_val _ (by rw [trips1]; norm_num)]
  simp only [nat_inj]

theorem put_idx (X : Ins Ideal) (k : Fin k0_t1_loop.trips) (v : FVec Ideal S64x100 .f32) (j : Fin 100) :
    k0_pay44 (v88 X) k w v (ix2 r j)
      = if j.val = k.val then (((pick (fun x => w (ix2 r x)) 0).val : ℝ) : EReal) else v (ix2 r j) := by
  have h := arg_read w r X
  pointwise [k0_pay44, k0_pay42]
  rw [h, word_val _ (by omega), iv_val _ (by rw [trips1]; norm_num)]
  simp only [nat_inj]

end

/-- After `t` trips the `t` first entries of each row by rank are struck and recorded. -/
def Inv1 (w : FVec Ideal S64x800 .f32) (t : ℕ) (s : FVec Ideal S64x800 .f32 × FVec Ideal S64x100 .f32 × FVec Ideal S64x100 .f32) : Prop :=
  (∀ r a, s.1 (ix2 r a) = struck (fun x => w (ix2 r x)) low t a)
  ∧ ∀ (r : Fin 64) (j : Fin 100), j.val < t →
      s.2.1 (ix2 r j) = w (ix2 r (pick (fun x => w (ix2 r x)) (j.castLE (by decide))))
      ∧ s.2.2 (ix2 r j) = (((pick (fun x => w (ix2 r x)) (j.castLE (by decide))).val : ℝ) : EReal)

theorem inv1 (X : Ins Ideal) (w : FVec Ideal S64x800 .f32)
    (hz : ∀ (r : Fin 64) (j : Fin 100), low < w (ix2 r (pick (fun x => w (ix2 r x)) (j.castLE (by decide)))))
    (u v : FVec Ideal S64x100 .f32) : Inv1 w 100 (Scf.fold (trip1 (v88 X)) (w, u, v)) := by
  refine Eq.mp (congrArg (fun n => Inv1 w n (Scf.fold (trip1 (v88 X)) (w, u, v))) trips1)
    (fold_inv (trip1 (v88 X)) (Inv1 w) _ ⟨fun r a => ?_, fun r j h => absurd h (by omega)⟩ ?_)
  · unfold struck; rw [if_neg (by omega)]
  · rintro k s ⟨h1, h2⟩
    have hrow : ∀ r, (fun x => s.1 (ix2 r x)) = struck (fun x => w (ix2 r x)) low k := fun r => funext (h1 r)
    have hk : k.val < 100 := Nat.lt_of_lt_of_eq k.isLt trips1
    have hp := fun r => pick_struck (fun x => w (ix2 r x)) low ⟨k, by omega⟩ 0 rfl (hz r ⟨k, hk⟩)
    refine ⟨fun r a => ?_, fun r j hj => ?_⟩
    · simp only [trip1]
      rw [strike_read, hrow, h1]
      refine Eq.trans ?_ (struck_succ _ low ⟨k, by omega⟩ a)
      rw [← (hp r).1]
    · have e1 : (trip1 (v88 X) k s).2.1 (ix2 r j) = _ := put_val s.1 r k s.2.1 j
      have e2 : (trip1 (v88 X) k s).2.2 (ix2 r j) = _ := put_idx s.1 r X k s.2.2 j
      rw [e1, e2]
      by_cases e : j.val = k.val
      · rw [if_pos e, if_pos e, hrow, h1]
        have ej : (j.castLE (by decide) : Fin 800) = ⟨k, by omega⟩ := Fin.ext e
        rw [ej]
        have hq := hp r
        simp only at hq
        rw [hq.1]
        exact ⟨hq.2, rfl⟩
      · rw [if_neg e, if_neg e]
        exact h2 r j (by omega)

/-- A truth value's word, read as a number. -/
theorem hot_val (P : Prop) [Decidable P] :
    (FloatOps.sitofp (F := Ideal) .f32 (BitVec.setWidth 32 (BitVec.ofBool (decide P))) : EReal) = if P then 1 else 0 := by
  by_cases h : P
  · rw [if_pos h, decide_eq_true h]
    exact (word_val 1 (by norm_num)).trans (by norm_num)
  · rw [if_neg h, decide_eq_false h]
    exact (word_val 0 (by norm_num)).trans (by norm_num)

end Cert.Proof.KV

end
-- ==== Proof.KVBlk.lean ====
module

public import proofs.«01_k».proof.Proof.KVSel

@[expose] public section

set_option maxRecDepth 16384

noncomputable section

namespace Cert.Proof.KV

open Idealize.ShloMosaic Cert.KernelIdeal Cert.KernelIdeal.Gen Cert.Proof.KI Cert.Proof.Rank Cert.Proof.Spec

/-! One image's candidate boxes: a product with a one-hot matrix at each level. -/

theorem row64 (r : ℕ) (h : r < 64) : S64x100.Slices ![r, 0] S1x100 :=
  ⟨rfl, fun d => by fin_cases d <;> simp [Shape.size] <;> omega⟩
theorem row800 (b : Fin 16) : S16x800.Slices ![b.val, 0] S1x800 :=
  ⟨rfl, fun d => by fin_cases d <;> simp [Shape.size] <;> omega⟩
theorem row200 (b : Fin 16) : S16x200.Slices ![b.val, 0] S1x200 :=
  ⟨rfl, fun d => by fin_cases d <;> simp [Shape.size] <;> omega⟩

variable (X : Ins Ideal)

/-- Both classes' selected anchors of rows `r` and `r'`, side by side. -/
def two (r r' : ℕ) (h : r < 64) (h' : r' < 64) : FVec Ideal S1x200 .f32 :=
  concatenate S1x200 1 [⟨S1x100, extractStridedSlice S1x100 ![r, 0] (v94_2 X) (row64 r h)⟩,
    ⟨S1x100, extractStridedSlice S1x100 ![r', 0] (v94_2 X) (row64 r' h')⟩] concatenates_S1x100_S1x100_S1x200_d1

/-- The finer level's boxes of image `b` at its selected anchors. -/
def at16 (b : Fin 16) : FVec Ideal S4x200 .f32 :=
  matmul dot_S4x800_S800x200_S4x200_1_0_0_1_n_n (some .fp32)
    (concatenate S4x800 0 [⟨S1x800, extractStridedSlice S1x800 ![b.val, 0] (v35 X) (row800 b)⟩,
      ⟨S1x800, extractStridedSlice S1x800 ![b.val, 0] (v42 X) (row800 b)⟩,
      ⟨S1x800, extractStridedSlice S1x800 ![b.val, 0] (v49 X) (row800 b)⟩,
      ⟨S1x800, extractStridedSlice S1x800 ![b.val, 0] (v56 X) (row800 b)⟩] concatenates_S1x800_S1x800_S1x800_S1x800_S4x800_d0)
    (sitofp .f32 (extui 32 (cmpf (F := Ideal) (φ := .f32) .oeq (sitofp .f32 (iota .tc S800x200 32 [0] iota_S800x200_d0_w32))
      (broadcastTo S800x200 (two X b.val (b.val + 16) (by omega) (by omega)) broadcasts_S1x200_S800x200)) natLt_1_32))
    (constant S4x200 .f32 0x00000000#32)

/-- The coarser level's boxes of image `b` at its selected anchors. -/
def at32 (b : Fin 16) : FVec Ideal S4x200 .f32 :=
  matmul dot_S4x200_S200x200_S4x200_1_0_0_1_n_n (some .fp32)
    (concatenate S4x200 0 [⟨S1x200, extractStridedSlice S1x200 ![b.val, 0] (v63 X) (row200 b)⟩,
      ⟨S1x200, extractStridedSlice S1x200 ![b.val, 0] (v70 X) (row200 b)⟩,
      ⟨S1x200, extractStridedSlice S1x200 ![b.val, 0] (v77 X) (row200 b)⟩,
      ⟨S1x200, extractStridedSlice S1x200 ![b.val, 0] (v84 X) (row200 b)⟩] concatenates_S1x200_S1x200_S1x200_S1x200_S4x200_d0)
    (sitofp .f32 (extui 32 (cmpf (F := Ideal) (φ := .f32) .oeq (sitofp .f32 (iota .tc S200x200 32 [0] iota_S200x200_d0_w32))
      (broadcastTo S200x200 (two X (b.val + 32) (b.val + 48) (by omega) (by omega)) broadcasts_S1x200_S200x200)) natLt_1_32))
    (constant S4x200 .f32 0x00000000#32)

/-- The first class's candidates of image `b`: 100 of each level. -/
def blk0 (b : Fin 16) : FVec Ideal S4x200 .f32 :=
  concatenate S4x200 1 [⟨S4x100, extractStridedSlice S4x100 ![0, 0] (at16 X b) slices_S4x200_o0_0_S4x100⟩,
    ⟨S4x100, extractStridedSlice S4x100 ![0, 0] (at32 X b) slices_S4x200_o0_0_S4x100⟩] concatenates_S4x100_S4x100_S4x200_d1
/-- The second class's candidates of image `b`. -/
def blk1 (b : Fin 16) : FVec Ideal S4x200 .f32 :=
  concatenate S4x200 1 [⟨S4x100, extractStridedSlice S4x100 ![0, 100] (at16 X b) slices_S4x200_o0_100_S4x100⟩,
    ⟨S4x100, extractStridedSlice S4x100 ![0, 100] (at32 X b) slices_S4x200_o0_100_S4x100⟩] concatenates_S4x100_S4x100_S4x200_d1

theorem b0_0 : v135 X = blk0 X 0 := rfl
theorem b0_1 : v171 X = blk0 X 1 := rfl
theorem b0_2 : v207 X = blk0 X 2 := rfl
theorem b0_3 : v243 X = blk0 X 3 := rfl
theorem b0_4 : v279 X = blk0 X 4 := rfl
theorem b0_5 : v315 X = blk0 X 5 := rfl
theorem b0_6 : v351 X = blk0 X 6 := rfl
theorem b0_7 : v387 X = blk0 X 7 := rfl
theorem b0_8 : v423 X = blk0 X 8 := rfl
theorem b0_9 : v459 X = blk0 X 9 := rfl
theorem b0_10 : v495 X = blk0 X 10 := rfl
theorem b0_11 : v531 X = blk0 X 11 := rfl
theorem b0_12 : v567 X = blk0 X 12 := rfl
theorem b0_13 : v603 X = blk0 X 13 := rfl
theorem b0_14 : v639 X = blk0 X 14 := rfl
theorem b1_0 : v138 X = blk1 X 0 := rfl
theorem b1_1 : v174 X = blk1 X 1 := rfl
theorem b1_2 : v210 X = blk1 X 2 := rfl
theorem b1_3 : v246 X = blk1 X 3 := rfl
theorem b1_4 : v282 X = blk1 X 4 := rfl
theorem b1_5 : v318 X = blk1 X 5 := rfl
theorem b1_6 : v354 X = blk1 X 6 := rfl
theorem b1_7 : v390 X = blk1 X 7 := rfl
theorem b1_8 : v426 X = blk1 X 8 := rfl
theorem b1_9 : v462 X = blk1 X 9 := rfl
theorem b1_10 : v498 X = blk1 X 10 := rfl
theorem b1_11 : v534 X = blk1 X 11 := rfl
theorem b1_12 : v570 X = blk1 X 12 := rfl
theorem b1_13 : v606 X = blk1 X 13 := rfl
theorem b1_14 : v642 X = blk1 X 14 := rfl
theorem b1_15 : v678 X = blk1 X 15 := rfl

end Cert.Proof.KV

end
-- ==== Proof.KVCand.lean ====
module

public import proofs.«01_k».proof.Proof.KVBlk

@[expose] public section

set_option maxRecDepth 16384

noncomputable section

namespace Cert.Proof.KV

open Idealize.ShloMosaic Cert.KernelIdeal Cert.KernelIdeal.Gen Cert.Proof.KI Cert.Proof.Rank Cert.Proof.Spec

/-- The windows hold the inputs: logits and offsets with class or coordinate before image, anchors by coordinate. -/
structure Reads (X : Ins Ideal) (I : In) : Prop where
  h0 : ∀ b e, X.x0 (ix2 b e) = I.os b e
  h2 : ∀ (l : Fin 2) (b : Fin 16) a (r : Fin 32), r.val = l.val * 16 + b.val → X.x2 (ix2 r a) = I.c16 b a l
  h3 : ∀ (k : Fin 4) (b : Fin 16) a (r : Fin 64), r.val = k.val * 16 + b.val → X.x3 (ix2 r a) = I.b16 b a k
  h5 : ∀ (l : Fin 2) (b : Fin 16) a (r : Fin 32), r.val = l.val * 16 + b.val → X.x5 (ix2 r a) = I.c32 b a l
  h6 : ∀ (k : Fin 4) (b : Fin 16) a (r : Fin 64), r.val = k.val * 16 + b.val → X.x6 (ix2 r a) = I.b32 b a k
  h12 : ∀ a, X.x12 (ix2 0 a) = I.a16 a 0
  h13 : ∀ a, X.x13 (ix2 0 a) = I.a16 a 1
  h14 : ∀ a, X.x14 (ix2 0 a) = I.a32 a 0
  h15 : ∀ a, X.x15 (ix2 0 a) = I.a32 a 1

variable {X : Ins Ideal} {I : In} (H : Reads X I)

include H

/-! The boxes of the two levels. -/

theorem v35_read (b : Fin 16) (a : Fin 800) : v35 X (ix2 b a) = box16 I b a 0 := by
  pointwise [v35, k0_pay28, k0_pay26, k0_pay22, k0_pay16, v0, v17, v25, k0_pay14]
  rw [H.h0, H.h12, H.h3 0 b a _ (by simp [add_comm])]
  rfl
theorem v42_read (b : Fin 16) (a : Fin 800) : v42 X (ix2 b a) = box16 I b a 1 := by
  pointwise [v42, k0_pay30, v3, v20, v36, k0_pay29, k0_pay15, k0_pay23, k0_pay26, v19, v0, v25, k0_pay14]
  rw [H.h0, H.h13, H.h3 1 b a _ (by simp [add_comm])]
  rfl
theorem v49_read (b : Fin 16) (a : Fin 800) : v49 X (ix2 b a) = box16 I b a 2 := by
  pointwise [v49, k0_pay31, v4, v18, v26, k0_pay16, k0_pay22, k0_pay26, v17, v0, v25, k0_pay14]
  rw [H.h0, H.h12, H.h3 2 b a _ (by simp [add_comm])]
  rfl
theorem v56_read (b : Fin 16) (a : Fin 800) : v56 X (ix2 b a) = box16 I b a 3 := by
  pointwise [v56, k0_pay32, v3, v20, v26, k0_pay15, k0_pay23, k0_pay26, v19, v0, v25, k0_pay14]
  rw [H.h0, H.h13, H.h3 3 b a _ (by simp [add_comm])]
  rfl
theorem v63_read (b : Fin 16) (a : Fin 200) : v63 X (ix2 b a) = box32 I b a 0 := by
  pointwise [v63, k0_pay33, v4, v22, v28, k0_pay16, k0_pay24, k0_pay27, v21, v0, v27, k0_pay14]
  rw [H.h0, H.h14, H.h6 0 b a _ (by simp [add_comm])]
  rfl
theorem v70_read (b : Fin 16) (a : Fin 200) : v70 X (ix2 b a) = box32 I b a 1 := by
  pointwise [v70, k0_pay34, v3, v24, v28, k0_pay15, k0_pay25, k0_pay27, v23, v0, v27, k0_pay14]
  rw [H.h0, H.h15, H.h6 1 b a _ (by simp [add_comm])]
  rfl
theorem v77_read (b : Fin 16) (a : Fin 200) : v77 X (ix2 b a) = box32 I b a 2 := by
  pointwise [v77, k0_pay35, v4, v22, v28, k0_pay16, k0_pay24, k0_pay27, v21, v0, v27, k0_pay14]
  rw [H.h0, H.h14, H.h6 2 b a _ (by simp [add_comm])]
  rfl
theorem v84_read (b : Fin 16) (a : Fin 200) : v84 X (ix2 b a) = box32 I b a 3 := by
  pointwise [v84, k0_pay36, v3, v24, v28, k0_pay15, k0_pay25, k0_pay27, v23, v0, v27, k0_pay14]
  rw [H.h0, H.h15, H.h6 3 b a _ (by simp [add_comm])]
  rfl

omit H in
theorem logistic_nonneg (x : EReal) : 0 ≤ Ideal.logistic x := by
  induction x with
  | bot => rw [Ideal.logistic_bot]
  | top => rw [Ideal.logistic_top]; norm_num
  | coe r => rw [Ideal.logistic_coe]; exact EReal.coe_nonneg.mpr (by positivity)

/-- A finer row of the scores selection starts from. -/
theorem row16_read (b : Fin 16) (l : Fin 2) :
    (fun a => v87 X (ix2 ⟨l.val * 16 + b.val, by omega⟩ a)) = s16 I b l := by
  funext a
  pointwise [v87, k0_pay37]
  rw [dif_pos (by omega)]
  pointwise [v13, k0_pay20, v11]
  exact congrArg _ (H.h2 l b a _ rfl)
/-- A coarser row, padded. -/
theorem row32_read (b : Fin 16) (l : Fin 2) (a : Fin 800) :
    v87 X (ix2 ⟨l.val * 16 + b.val + 32, by omega⟩ a) = if h : a.val < 200 then s32 I b l ⟨a, h⟩ else low := by
  pointwise [v87, k0_pay37]
  rw [dif_neg (by omega)]
  split
  · pointwise [v16, k0_pay21, v14]
    exact congrArg _ (H.h5 l b _ _ (by simp))
  · rfl

/-- A finer row's entries by rank. -/
theorem pick16 (b : Fin 16) (l : Fin 2) (j : Fin 100) (r : Fin 64) (hr : r.val = l.val * 16 + b.val) :
    pick (fun a => v87 X (ix2 r a)) (j.castLE (by decide)) = sel16 I b l j
      ∧ v87 X (ix2 r (sel16 I b l j)) = s16 I b l (sel16 I b l j) := by
  obtain ⟨r, hr'⟩ := r
  simp only at hr
  subst hr
  rw [row16_read H]
  exact ⟨rfl, congrFun (row16_read H b l) _⟩

/-- A coarser row's entries by rank. -/
theorem pick32 (b : Fin 16) (l : Fin 2) (j : Fin 100) (r : Fin 64) (hr : r.val = l.val * 16 + b.val + 32) :
    pick (fun a => v87 X (ix2 r a)) (j.castLE (by decide)) = (sel32 I b l j).castLE (by decide)
      ∧ v87 X (ix2 r ((sel32 I b l j).castLE (by decide))) = s32 I b l (sel32 I b l j) := by
  obtain ⟨r, hr'⟩ := r
  simp only at hr
  subst hr
  refine ⟨pick_pad (s32 I b l) _ (by decide) low (fun a => low_neg.trans_le (logistic_nonneg _)) (row32_read H b l) (j.castLE (by decide)), ?_⟩
  rw [row32_read H]
  exact dif_pos (sel32 I b l j).isLt

/-- Every entry the loop selects exceeds the score of a struck one. -/
theorem above (r : Fin 64) (j : Fin 100) : low < v87 X (ix2 r (pick (fun x => v87 X (ix2 r x)) (j.castLE (by decide)))) := by
  by_cases h : r.val < 32
  · have := pick16 H ⟨r.val % 16, by omega⟩ ⟨r.val / 16, by omega⟩ j r (by simp; omega)
    rw [this.1, this.2]
    exact low_neg.trans_le (logistic_nonneg _)
  · have := pick32 H ⟨r.val % 16, by omega⟩ ⟨r.val / 16 - 2, by omega⟩ j r (by simp; omega)
    rw [this.1, this.2]
    exact low_neg.trans_le (logistic_nonneg _)

theorem sel_inv : Inv1 (v87 X) 100 (loop_t1 X) := inv1 X (v87 X) (above H) _ _

/-- The finer level's selected scores and anchors. -/
theorem got16 (b : Fin 16) (l : Fin 2) (j : Fin 100) (r : Fin 64) (hr : r.val = l.val * 16 + b.val) :
    v94_1 X (ix2 r j) = s16 I b l (sel16 I b l j) ∧ v94_2 X (ix2 r j) = (((sel16 I b l j).val : ℝ) : EReal) := by
  have h := (sel_inv H).2 r j j.isLt
  have hp := pick16 H b l j r hr
  rw [hp.1, hp.2] at h
  exact h
/-- The coarser level's selected scores and anchors. -/
theorem got32 (b : Fin 16) (l : Fin 2) (j : Fin 100) (r : Fin 64) (hr : r.val = l.val * 16 + b.val + 32) :
    v94_1 X (ix2 r j) = s32 I b l (sel32 I b l j) ∧ v94_2 X (ix2 r j) = (((sel32 I b l j).val : ℝ) : EReal) := by
  have h := (sel_inv H).2 r j j.isLt
  have hp := pick32 H b l j r hr
  rw [hp.1, hp.2] at h
  exact h

/-- The scores suppression starts from. -/
theorem w0_read (b : Fin 16) (l : Fin 2) (q : Fin 200) (r : Fin 32) (hr : r.val = l.val * 16 + b.val) :
    k0_pay161 (v97 X) (ix2 r q) = w0 I b l q := by
  have e : v97 X (ix2 r q) = cs I b l q := by
    pointwise [v97, k0_pay46]
    unfold cs
    split
    · exact (got16 H b l _ _ (by simp [hr])).1
    · exact (got32 H b l _ _ (by simp [hr]; omega)).1
  pointwise [k0_pay161]
  rw [e]
  rfl

omit H in
/-- A one-hot row's word, read as a number. -/
theorem hot_eq {n : ℕ} (hn : n < 2 ^ 31) (x p : Fin n) (y : EReal) (hy : y = (((p.val : ℕ) : ℝ) : EReal)) :
    (FloatOps.sitofp (F := Ideal) .f32 (BitVec.setWidth 32 (BitVec.ofBool (decide
      ((FloatOps.sitofp (F := Ideal) .f32 (BitVec.ofNat 32 x.val) : EReal) = y)))) : EReal) = if x = p then 1 else 0 := by
  rw [hot_val, word_val _ (by omega), hy]
  simp only [nat_inj, Fin.ext_iff]

/-- The first class's candidates. -/
theorem blk0_read (b : Fin 16) (k : Fin 4) (q : Fin 200) : blk0 X b (ix2 k q) = cb I b 0 q k := by
  fin_cases k
  all_goals
    pointwise [blk0, at16, at32, two]
    unfold cb
    split
    · simp only [v35_read H, v42_read H, v49_read H, v56_read H]
      exact sum_onehot _ (sel16 I b 0 ⟨q, by assumption⟩) _ fun a => hot_eq (by norm_num) a _ _ (got16 H b 0 _ _ (by simp)).2
    · simp only [v63_read H, v70_read H, v77_read H, v84_read H]
      exact sum_onehot _ (sel32 I b 0 ⟨q - 100, by omega⟩) _ fun a => hot_eq (by norm_num) a _ _
        ((dif_pos (by omega)).trans (got32 H b 0 _ _ (by simp)).2)

/-- The second class's candidates. -/
theorem blk1_read (b : Fin 16) (k : Fin 4) (q : Fin 200) : blk1 X b (ix2 k q) = cb I b 1 q k := by
  fin_cases k
  all_goals
    pointwise [blk1, at16, at32, two]
    unfold cb
    split
    · simp only [v35_read H, v42_read H, v49_read H, v56_read H]
      exact sum_onehot _ (sel16 I b 1 ⟨q, by assumption⟩) _ fun a => hot_eq (by norm_num) a _ _ (got16 H b 1 _ _ (by simp [add_comm])).2
    · simp only [v63_read H, v70_read H, v77_read H, v84_read H]
      exact sum_onehot _ (sel32 I b 1 ⟨q - 100, by omega⟩) _ fun a => hot_eq (by norm_num) a _ _ (got32 H b 1 _ _ (by simp; omega)).2

/-- The stack of the first class's candidates. -/
theorem stack0_read (b : Fin 16) (k : Fin 4) (q : Fin 200) : v695 X (ix3 b k q) = cb I b 0 q k := by
  rw [← blk0_read H]
  fin_cases b <;> pointwise [v695, k0_pay140]
  all_goals first | rfl | (pointwise [blk0]; rfl)

/-- The stack of the second class's candidates. -/
theorem stack1_read (b : Fin 16) (k : Fin 4) (q : Fin 200) :
    k0_pay156 (v678 X) (v696 X) (v697 X) (v698 X) (v699 X) (v700 X) (v701 X) (v702 X) (v703 X) (v704 X) (v705 X) (v706 X) (v707 X) (v708 X)
      (v709 X) (v710 X) (ix3 b k q) = cb I b 1 q k := by
  rw [← blk1_read H]
  fin_cases b <;> pointwise [k0_pay156, v696, k0_pay141, v697, k0_pay142, v698, k0_pay143, v699, k0_pay144, v700, k0_pay145, v701, k0_pay146, v702, k0_pay147, v703, k0_pay148, v704, k0_pay149, v705, k0_pay150, v706, k0_pay151, v707, k0_pay152, v708, k0_pay153, v709, k0_pay154, v710, k0_pay155]
  all_goals rfl

end Cert.Proof.KV

end
-- ==== Proof.KVSup.lean ====
module

public import proofs.«01_k».proof.Proof.KVCand

@[expose] public section

set_option maxRecDepth 16384

noncomputable section

namespace Cert.Proof.KV

open Idealize.ShloMosaic Cert.KernelIdeal Cert.KernelIdeal.Gen Cert.Proof.KI Cert.Proof.Rank Cert.Proof.Spec

/-! One trip of the suppression loop. -/

section
variable (w x : FVec Ideal S32x200 .f32) (r : Fin 32)

theorem smax_read : k0_pay3 w (ix2 r 0) = w (ix2 r (pick (fun x => w (ix2 r x)) 0)) := by
  pointwise [k0_pay3]
  rw [bits_ninf]
  exact fold_max _ 0 rfl

theorem scol_val (a : Fin 200) : (k0_pay162 (F := Ideal) (ix2 r a) : EReal) = ((a.val : ℝ) : EReal) := by
  pointwise [k0_pay162]
  exact word_val _ (by omega)

/-- The one-hot row of the best entry. -/
theorem hot_read (a : Fin 200) :
    k0_pay4 (k0_pay162 (F := Ideal)) w (ix2 r a) = if a = pick (fun x => w (ix2 r x)) 0 then 1 else 0 := by
  have h := smax_read w r
  pointwise [k0_pay4]
  rw [h, bits_pinf]
  simp only [scol_val]
  have e := fold_min (fun x => w (ix2 r x)) 0 rfl (Ideal.ofBits .f32 0x45000000#32) (by rw [bits_2048]; exact EReal.coe_le_coe_iff.mpr (by norm_num))
  rw [e, hot_val]
  simp only [nat_inj, Fin.ext_iff]

/-- The best entry's value of an array. -/
theorem at_read : k0_pay5 x (k0_pay162 (F := Ideal)) w (ix2 r 0) = x (ix2 r (pick (fun x => w (ix2 r x)) 0)) := by
  pointwise [k0_pay5]
  exact sum_onehot' (fun a => x (ix2 r a)) (pick (fun x => w (ix2 r x)) 0) _ (hot_read w r)

theorem at6 : k0_pay6 x (k0_pay162 (F := Ideal)) w = k0_pay5 x (k0_pay162 (F := Ideal)) w := rfl
theorem at7 : k0_pay7 x (k0_pay162 (F := Ideal)) w = k0_pay5 x (k0_pay162 (F := Ideal)) w := rfl
theorem at8 : k0_pay8 x (k0_pay162 (F := Ideal)) w = k0_pay5 x (k0_pay162 (F := Ideal)) w := rfl

theorem trips2 : k0_t2_loop.trips = 100 := by rfl

theorem put2 (k : Fin k0_t2_loop.trips) (v : FVec Ideal S32x100 .f32) (y : FVec Ideal S32x1 .f32) (j : Fin 100) :
    k0_pay165 v (Scf.iv 0#32 1#32 k) y (ix2 r j) = if j.val = k.val then y (ix2 r 0) else v (ix2 r j) := by
  pointwise [k0_pay165, k0_pay164]
  rw [word_val _ (by omega), iv_val _ (by rw [trips2]; norm_num)]
  simp only [nat_inj]

end

variable (X : Ins Ideal)

/-- The candidates' coordinates, one array for each. -/
def cx (k : Fin 4) : FVec Ideal S32x200 .f32 :=
  ![k0_pay157 (v678 X) (v695 X) (v696 X) (v697 X) (v698 X) (v699 X) (v700 X) (v701 X) (v702 X) (v703 X) (v704 X) (v705 X) (v706 X) (v707 X) (v708 X) (v709 X) (v710 X), k0_pay158 (v678 X) (v695 X) (v696 X) (v697 X) (v698 X) (v699 X) (v700 X) (v701 X) (v702 X) (v703 X) (v704 X) (v705 X) (v706 X) (v707 X) (v708 X) (v709 X) (v710 X), k0_pay159 (v678 X) (v695 X) (v696 X) (v697 X) (v698 X) (v699 X) (v700 X) (v701 X) (v702 X) (v703 X) (v704 X) (v705 X) (v706 X) (v707 X) (v708 X) (v709 X) (v710 X), k0_pay160 (v678 X) (v695 X) (v696 X) (v697 X) (v698 X) (v699 X) (v700 X) (v701 X) (v702 X) (v703 X) (v704 X) (v705 X) (v706 X) (v707 X) (v708 X) (v709 X) (v710 X)] k

/-- The scores left by one trip. -/
def next (w : FVec Ideal S32x200 .f32) : FVec Ideal S32x200 .f32 :=
  k0_pay171 (v678 X) (v695 X) (v696 X) (v697 X) (v698 X) (v699 X) (v700 X) (v701 X) (v702 X) (v703 X) (v704 X) (v705 X) (v706 X) (v707 X) (v708 X) (v709 X) (v710 X) w (k0_pay10 (cx X 0) (cx X 1) (cx X 2) (cx X 3) (k0_pay162 (F := Ideal)) w) (k0_pay11 (cx X 0) (cx X 2) (k0_pay162 (F := Ideal)) w)
    (k0_pay12 (cx X 1) (cx X 3) (k0_pay162 (F := Ideal)) w) (k0_pay13 (F := Ideal))

/-- One trip's scores are one step of suppression. -/
theorem next_read (w : FVec Ideal S32x200 .f32) (r : Fin 32) (q : Fin 200) :
    next X w (ix2 r q) = step (fun q k => cx X k (ix2 r q)) (fun q => w (ix2 r q)) q := by
  have h := fun x => at_read w x r
  rw [show next X w = k0_pay171 (v678 X) (v695 X) (v696 X) (v697 X) (v698 X) (v699 X) (v700 X) (v701 X) (v702 X) (v703 X) (v704 X) (v705 X) (v706 X) (v707 X) (v708 X) (v709 X) (v710 X) w (k0_pay10 (cx X 0) (cx X 1) (cx X 2) (cx X 3) (k0_pay162 (F := Ideal)) w)
    (k0_pay11 (cx X 0) (cx X 2) (k0_pay162 (F := Ideal)) w) (k0_pay12 (cx X 1) (cx X 3) (k0_pay162 (F := Ideal)) w) (k0_pay13 (F := Ideal)) from rfl]
  unfold k0_pay171
  rw [show k0_pay157 (v678 X) (v695 X) (v696 X) (v697 X) (v698 X) (v699 X) (v700 X) (v701 X) (v702 X) (v703 X) (v704 X) (v705 X) (v706 X) (v707 X) (v708 X) (v709 X) (v710 X) = cx X 0 from rfl, show k0_pay158 (v678 X) (v695 X) (v696 X) (v697 X) (v698 X) (v699 X) (v700 X) (v701 X) (v702 X) (v703 X) (v704 X) (v705 X) (v706 X) (v707 X) (v708 X) (v709 X) (v710 X) = cx X 1 from rfl, show k0_pay159 (v678 X) (v695 X) (v696 X) (v697 X) (v698 X) (v699 X) (v700 X) (v701 X) (v702 X) (v703 X) (v704 X) (v705 X) (v706 X) (v707 X) (v708 X) (v709 X) (v710 X) = cx X 2 from rfl, show k0_pay160 (v678 X) (v695 X) (v696 X) (v697 X) (v698 X) (v699 X) (v700 X) (v701 X) (v702 X) (v703 X) (v704 X) (v705 X) (v706 X) (v707 X) (v708 X) (v709 X) (v710 X) = cx X 3 from rfl]
  pointwise [k0_pay10, k0_pay11, k0_pay12, k0_pay13, at6, at7, at8]
  simp only [h]
  rfl

/-- The loop's trip. -/
def T (X : Ins Ideal) := trip2 (v102 X) (v678 X) (v695 X) (v696 X) (v697 X) (v698 X) (v699 X) (v700 X) (v701 X) (v702 X) (v703 X) (v704 X) (v705 X) (v706 X) (v707 X) (v708 X) (v709 X) (v710 X)

/-- After `t` trips each row's scores are suppressed `t` times and the selected scores and boxes are recorded. -/
def Inv2 (t : ℕ) (s : FVec Ideal S32x200 .f32 × FVec Ideal S32x100 .f32 × FVec Ideal S32x100 .f32 × FVec Ideal S32x100 .f32 × FVec Ideal S32x100 .f32
    × FVec Ideal S32x100 .f32 × FVec Ideal S32x100 .f32) : Prop :=
  ∀ r, (∀ q, s.1 (ix2 r q) = work (fun q k => cx X k (ix2 r q)) (fun q => k0_pay161 (v97 X) (ix2 r q)) t q)
  ∧ ∀ j : Fin 100, j.val < t →
      s.2.1 (ix2 r j) = bestS (fun q k => cx X k (ix2 r q)) (fun q => k0_pay161 (v97 X) (ix2 r q)) j
      ∧ s.2.2.1 (ix2 r j) = bestB (fun q k => cx X k (ix2 r q)) (fun q => k0_pay161 (v97 X) (ix2 r q)) j 0
      ∧ s.2.2.2.1 (ix2 r j) = bestB (fun q k => cx X k (ix2 r q)) (fun q => k0_pay161 (v97 X) (ix2 r q)) j 1
      ∧ s.2.2.2.2.1 (ix2 r j) = bestB (fun q k => cx X k (ix2 r q)) (fun q => k0_pay161 (v97 X) (ix2 r q)) j 2
      ∧ s.2.2.2.2.2.1 (ix2 r j) = bestB (fun q k => cx X k (ix2 r q)) (fun q => k0_pay161 (v97 X) (ix2 r q)) j 3

theorem inv2 : Inv2 X 100 (loop_t2 X) := by
  refine Eq.mp (congrArg (fun n => Inv2 X n (loop_t2 X)) trips2)
    (fold_inv (T X) (Inv2 X) _ (fun r => ⟨fun q => rfl, fun j h => absurd h (by omega)⟩) ?_)
  intro k s hs r
  have hrow : (fun q => s.1 (ix2 r q)) = work (fun q k => cx X k (ix2 r q)) (fun q => k0_pay161 (v97 X) (ix2 r q)) k := funext (hs r).1
  refine ⟨fun q => ?_, fun j hj => ?_⟩
  · rw [work_succ, ← hrow]
    exact next_read X s.1 r q
  · have e0 : (T X k s).2.1 (ix2 r j) = _ := put2 r k s.2.1 (k0_pay3 s.1) j
    have e1 : (T X k s).2.2.1 (ix2 r j) = _ := put2 r k s.2.2.1 (k0_pay5 (cx X 0) (k0_pay162 (F := Ideal)) s.1) j
    have e2 : (T X k s).2.2.2.1 (ix2 r j) = _ := put2 r k s.2.2.2.1 (k0_pay5 (cx X 1) (k0_pay162 (F := Ideal)) s.1) j
    have e3 : (T X k s).2.2.2.2.1 (ix2 r j) = _ := put2 r k s.2.2.2.2.1 (k0_pay5 (cx X 2) (k0_pay162 (F := Ideal)) s.1) j
    have e4 : (T X k s).2.2.2.2.2.1 (ix2 r j) = _ := put2 r k s.2.2.2.2.2.1 (k0_pay5 (cx X 3) (k0_pay162 (F := Ideal)) s.1) j
    rw [e0, e1, e2, e3, e4]
    by_cases e : j.val = k.val
    · simp only [if_pos e, smax_read, at_read]
      rw [hrow, ← e]
      refine ⟨?_, rfl, rfl, rfl, rfl⟩
      rw [(hs r).1, ← e]
      rfl
    · simp only [if_neg e]
      exact (hs r).2 j (by omega)

variable {X} {I : In} (H : Reads X I)
include H

/-- The candidates' coordinates, by row. -/
theorem cx_read (b : Fin 16) (l : Fin 2) (k : Fin 4) (q : Fin 200) (r : Fin 32) (hr : r.val = l.val * 16 + b.val) :
    cx X k (ix2 r q) = cb I b l q k := by
  have h0 := stack0_read H
  have h1 := stack1_read H
  fin_cases l
  · fin_cases k
    all_goals
      pointwise [cx, k0_pay157, k0_pay158, k0_pay159, k0_pay160]
      rw [dif_pos (by simp at hr; omega), h0]
      exact congrArg (fun b => cb I b 0 q _) (Fin.ext (by simp [hr]))
  · fin_cases k
    all_goals
      pointwise [cx, k0_pay157, k0_pay158, k0_pay159, k0_pay160]
      rw [dif_neg (by simp at hr; omega), h1]
      exact congrArg (fun b => cb I b 1 q _) (Fin.ext (by simp [hr]))

theorem sup_read (b : Fin 16) (l : Fin 2) (j : Fin 100) (r : Fin 32) (hr : r.val = l.val * 16 + b.val) :
    v743_1 X (ix2 r j) = bestS (cb I b l) (w0 I b l) j ∧ v743_2 X (ix2 r j) = bestB (cb I b l) (w0 I b l) j 0
      ∧ v743_3 X (ix2 r j) = bestB (cb I b l) (w0 I b l) j 1 ∧ v743_4 X (ix2 r j) = bestB (cb I b l) (w0 I b l) j 2
      ∧ v743_5 X (ix2 r j) = bestB (cb I b l) (w0 I b l) j 3 := by
  have h := (inv2 X r).2 j j.isLt
  rw [show (fun q k => cx X k (ix2 r q)) = cb I b l from funext fun q => funext fun k => cx_read H b l k q r hr,
    show (fun q => k0_pay161 (v97 X) (ix2 r q)) = w0 I b l from funext fun q => w0_read H b l q r hr] at h
  exact h

/-- The selected scores and boxes of an image, class by class. -/
theorem flat_read (b : Fin 16) (i : Fin 200) :
    v746 X (ix2 b i) = fs I b i ∧ v749 X (ix2 b i) = fb I b i 0 ∧ v752 X (ix2 b i) = fb I b i 1 ∧ v755 X (ix2 b i) = fb I b i 2
      ∧ v758 X (ix2 b i) = fb I b i 3 := by
  by_cases h : i.val < 100
  · have hs := sup_read H b 0 ⟨i, h⟩ ⟨b, by omega⟩ (by simp)
    have hc : cls i = 0 := Fin.ext (by simp [cls]; omega)
    have hm : i.val % 100 = i.val := by omega
    unfold fs fb
    rw [hc, hm, ← hs.1, ← hs.2.1, ← hs.2.2.1, ← hs.2.2.2.1, ← hs.2.2.2.2]
    refine ⟨?_, ?_, ?_, ?_, ?_⟩ <;> pointwise [v746, v749, v752, v755, v758, k0_pay172, k0_pay173, k0_pay174, k0_pay175, k0_pay176]
    all_goals rw [dif_pos h]
  · have hs := sup_read H b 1 ⟨i - 100, by omega⟩ ⟨b + 16, by omega⟩ (by simp [add_comm])
    have hc : cls i = 1 := Fin.ext (by simp [cls]; omega)
    have hm : i.val % 100 = i.val - 100 := by omega
    unfold fs fb
    rw [hc, hm, ← hs.1, ← hs.2.1, ← hs.2.2.1, ← hs.2.2.2.1, ← hs.2.2.2.2]
    refine ⟨?_, ?_, ?_, ?_, ?_⟩ <;> pointwise [v746, v749, v752, v755, v758, k0_pay172, k0_pay173, k0_pay174, k0_pay175, k0_pay176]
    all_goals rw [dif_neg h]
    all_goals simp only [add_comm]

end Cert.Proof.KV

end
-- ==== Proof.KVRank.lean ====
module

public import proofs.«01_k».proof.Proof.KVSup
public import Idealize.ShloMosaic.Lib.Pipeline.ValueKit.Tiles

@[expose] public section

set_option maxRecDepth 16384

noncomputable section

namespace Cert.Proof.KV

open Idealize.ShloMosaic Cert.KernelIdeal Cert.KernelIdeal.Gen Cert.Proof.KI Cert.Proof.Rank Cert.Proof.Spec

/-! The final ranking: each image's 200 entries, the 100 first by score picked by a product with a one-hot matrix. -/

theorem col16 (b : Fin 16) : S200x16.Slices ![0, b.val] S200x1 :=
  ⟨rfl, fun d => by fin_cases d <;> simp [Shape.size] <;> omega⟩

variable (X : Ins Ideal)

/-- Whether one entry of image `b` comes before another. -/
def before (b : Fin 16) : IVec S200x200 1 :=
  ori (cmpf (F := Ideal) (φ := .f32) .ogt (broadcastTo S200x200 (extractStridedSlice S1x200 ![b.val, 0] (v746 X) (row200 b)) broadcasts_S1x200_S200x200)
      (broadcastTo S200x200 (extractStridedSlice S200x1 ![0, b.val] (v762 X) (col16 b)) broadcasts_S200x1_S200x200))
    (andi (cmpf (F := Ideal) (φ := .f32) .oeq (broadcastTo S200x200 (extractStridedSlice S1x200 ![b.val, 0] (v746 X) (row200 b)) broadcasts_S1x200_S200x200)
      (broadcastTo S200x200 (extractStridedSlice S200x1 ![0, b.val] (v762 X) (col16 b)) broadcasts_S200x1_S200x200))
      (cmpf (F := Ideal) (φ := .f32) .olt (v766 X) (v764 X)))

/-- The one-hot matrix of image `b`'s ranks. -/
def hots (b : Fin 16) : FVec Ideal S200x100 .f32 :=
  sitofp .f32 (extui 32 (cmpf (F := Ideal) (φ := .f32) .oeq (v768 X) (broadcastTo S200x100 (shapeCast S200x1
    (multiReduction (F := Ideal) (φ := .f32) .add [1] S200 (sitofp .f32 (extui 32 (before X b) natLt_1_32)) 0x00000000#32
      reduces_S200x200_S200 (.inl rfl) rfl) shapeCasts_S200_S200x1) broadcasts_S200x1_S200x100)) natLt_1_32)

/-- Image `b`'s boxes, scores, anchor numbers and entry numbers in order of rank. -/
def rk (b : Fin 16) : FVec Ideal S7x100 .f32 :=
  matmul dot_S7x200_S200x100_S7x100_1_0_0_1_n_n (some .fp32)
    (concatenate S7x200 0 [⟨S1x200, extractStridedSlice S1x200 ![b.val, 0] (v749 X) (row200 b)⟩,
      ⟨S1x200, extractStridedSlice S1x200 ![b.val, 0] (v752 X) (row200 b)⟩,
      ⟨S1x200, extractStridedSlice S1x200 ![b.val, 0] (v755 X) (row200 b)⟩,
      ⟨S1x200, extractStridedSlice S1x200 ![b.val, 0] (v758 X) (row200 b)⟩,
      ⟨S1x200, extractStridedSlice S1x200 ![b.val, 0] (v746 X) (row200 b)⟩,
      ⟨S1x200, extractStridedSlice S1x200 ![b.val, 0] (v761 X) (row200 b)⟩, ⟨S1x200, v770 X⟩]
      concatenates_S1x200_S1x200_S1x200_S1x200_S1x200_S1x200_S1x200_S7x200_d0)
    (hots X b) (constant S7x100 .f32 0x00000000#32)

theorem r_0 : v797 X = rk X 0 := rfl
theorem r_1 : v824 X = rk X 1 := rfl
theorem r_2 : v851 X = rk X 2 := rfl
theorem r_3 : v878 X = rk X 3 := rfl
theorem r_4 : v905 X = rk X 4 := rfl
theorem r_5 : v932 X = rk X 5 := rfl
theorem r_6 : v959 X = rk X 6 := rfl
theorem r_7 : v986 X = rk X 7 := rfl
theorem r_8 : v1013 X = rk X 8 := rfl
theorem r_9 : v1040 X = rk X 9 := rfl
theorem r_10 : v1067 X = rk X 10 := rfl
theorem r_11 : v1094 X = rk X 11 := rfl
theorem r_12 : v1121 X = rk X 12 := rfl
theorem r_13 : v1148 X = rk X 13 := rfl
theorem r_14 : v1175 X = rk X 14 := rfl
theorem r_15 : v1202 X = rk X 15 := rfl

/-- A comparison's bit as a number. -/
theorem bit_val (p : BitVec 1) : (FloatOps.sitofp (F := Ideal) .f32 (BitVec.setWidth 32 p) : EReal) = if p = 1#1 then 1 else 0 := by
  have h : p = BitVec.ofBool (decide (p = 1#1)) := by revert p; decide
  conv_lhs => rw [h]
  exact hot_val _

theorem or_bits : ∀ p q r : Bool, IntOp.ori (BitVec.ofBool p) (IntOp.andi (BitVec.ofBool q) (BitVec.ofBool r)) = 1#1 ↔ (p = true ∨ (q = true ∧ r = true)) := by
  decide

theorem before_read (b : Fin 16) (a x : Fin 200) :
    before X b (ix2 a x) = 1#1 ↔ Bef (fun x => v746 X (ix2 b x)) x a := by
  have ht : v762 X (ix2 a b) = v746 X (ix2 b a) := by pointwise [v762, v746, k0_pay178]
  pointwise [before, v764, v766, v763, k0_pay179, k0_pay180]
  rw [ht, word_val _ (by omega), word_val _ (by omega), or_bits]
  simp only [decide_eq_true_eq, EReal.coe_lt_coe_iff, Nat.cast_lt]
  rfl

theorem hots_read (b : Fin 16) (a : Fin 200) (j : Fin 100) :
    hots X b (ix2 a j) = if a = pick (fun x => v746 X (ix2 b x)) (j.castLE (by decide)) then 1 else 0 := by
  have hr := rank_eq_sum (fun x => v746 X (ix2 b x)) a (fun x => FloatOps.sitofp (F := Ideal) .f32 (BitVec.setWidth 32 (before X b (ix2 a x))))
    (fun x => by
      rw [bit_val]
      by_cases h : before X b (ix2 a x) = 1#1
      · rw [if_pos h, if_pos ((before_read X b a x).mp h)]
      · rw [if_neg h, if_neg (mt (before_read X b a x).mpr h)])
  pointwise [hots, v768, k0_pay181]
  rw [hr, word_val _ (by omega), hot_val]
  refine if_congr (nat_inj.trans ⟨fun h => ?_, fun h => ?_⟩) rfl rfl
  · exact (pick_eq h.symm).symm
  · rw [h, rank_pick]; rfl

/-- The seven rows ranked together. -/
def rows (k : Fin 7) (b : Fin 16) (x : Fin 200) : EReal :=
  (![v749 X (ix2 b x), v752 X (ix2 b x), v755 X (ix2 b x), v758 X (ix2 b x), v746 X (ix2 b x), v761 X (ix2 b x), ((x.val : ℝ) : EReal)] : Fin 7 → EReal) k

theorem entry_read (x : Fin 200) : v770 X (ix2 0 x) = ((x.val : ℝ) : EReal) := by
  pointwise [v770, k0_pay182]
  exact word_val _ (by omega)

theorem rk_read (b : Fin 16) (k : Fin 7) (j : Fin 100) :
    rk X b (ix2 k j) = rows X k b (pick (fun x => v746 X (ix2 b x)) (j.castLE (by decide))) := by
  refine Eq.trans ?_ (sum_onehot (fun x => rows X k b x) _ _ (fun a => hots_read X b a j))
  fin_cases k <;> pointwise [rk]
  all_goals first | rfl | (simp only [entry_read]; rfl)

/-- The ranked rows of all images. -/
theorem ranked_read (b : Fin 16) (k : Fin 7) (j : Fin 100) :
    k0_pay234 (v1040 X) (v1067 X) (v1094 X) (v1121 X) (v1148 X) (v1175 X) (v1202 X) (v1203 X) (v1204 X) (v1205 X) (v1206 X) (v1207 X) (v1208 X) (v1209 X) (v1210 X) (v1211 X) (ix3 b k j) = rk X b (ix2 k j) := by
  fin_cases b
  all_goals
    pointwise [k0_pay234, v1203, v1204, v1205, v1206, v1207, v1208, v1209, v1210, v1211, k0_pay225, k0_pay226, k0_pay227, k0_pay228, k0_pay229, k0_pay230, k0_pay231, k0_pay232, k0_pay233]
    simp only [r_0, r_1, r_2, r_3, r_4, r_5, r_6, r_7, r_8, r_9, r_10, r_11, r_12, r_13, r_14, r_15]
    try rfl

/-- The six layers of the result. -/
def lay (k : Fin 6) : FVec Ideal S16x100x1 .f32 :=
  (![k0_pay239 (v1040 X) (v1067 X) (v1094 X) (v1121 X) (v1148 X) (v1175 X) (v1202 X) (v1203 X) (v1204 X) (v1205 X) (v1206 X) (v1207 X) (v1208 X) (v1209 X) (v1210 X) (v1211 X), k0_pay240 (v1040 X) (v1067 X) (v1094 X) (v1121 X) (v1148 X) (v1175 X) (v1202 X) (v1203 X) (v1204 X) (v1205 X) (v1206 X) (v1207 X) (v1208 X) (v1209 X) (v1210 X) (v1211 X), k0_pay241 (v1040 X) (v1067 X) (v1094 X) (v1121 X) (v1148 X) (v1175 X) (v1202 X) (v1203 X) (v1204 X) (v1205 X) (v1206 X) (v1207 X) (v1208 X) (v1209 X) (v1210 X) (v1211 X), k0_pay242 (v1227 X), k0_pay243 (v1229 X), k0_pay244 (v1242 X)] : Fin 6 → FVec Ideal S16x100x1 .f32) k

theorem layer_fits (n : Fin 6) (a : Fin 3) : (![0, 0, 5 - n.val] : Fin 3 → ℕ) a + S16x100x1.size a ≤ S16x100x6.size a := by
  fin_cases a <;> simp [Shape.size] <;> omega

/-- Six one-column pieces written side by side: each column is its piece. -/
theorem layers (w : Fin 6 → FVec Ideal S16x100x1 .f32) (b : Fin 16) (j : Fin 100) (k : Fin 6) :
    View.canon (Val := Elt Ideal) (s := S16x100x6) (e := .f32) (List.ofFn fun n : Fin 6 =>
      ⟨Rect.unit (s := S16x100x6) ![0, 0, 5 - n.val] S16x100x1.size (layer_fits n), w ⟨5 - n.val, by omega⟩⟩) (ix3 b j k) = w k (ix3 b j 0) := by
  refine View.canon_ofFn_unit_eq_of_forall (Val := Elt Ideal) (S := S16x100x6) (e := .f32) (N := 6) (fun n => ![0, 0, 5 - n.val]) S16x100x1.size
    layer_fits (fun n => w ⟨5 - n.val, by omega⟩) _ _ ⟨⟨5 - k.val, by omega⟩, fun a => ?_⟩ (fun n x hx => ?_)
  · fin_cases a <;> simp [Shape.size]
    omega
  · have h2 : k.val = 5 - n.val + (x 2).val := hx 2
    have h1 : j.val = 0 + (x 1).val := hx 1
    have h0 : b.val = 0 + (x 0).val := hx 0
    have hz : (x 2).val < 1 := (x 2).isLt
    have hk : (⟨5 - n.val, by omega⟩ : Fin 6) = k := Fin.ext (by show 5 - n.val = k.val; omega)
    show w ⟨5 - n.val, _⟩ x = _
    rw [hk]
    refine congrArg (w k) (funext fun a => Fin.ext ?_)
    fin_cases a
    · exact (by omega : (x 0).val = b.val)
    · exact (by omega : (x 1).val = j.val)
    · exact (by omega : (x 2).val = 0)

theorem out16_lay (b : Fin 16) (j : Fin 100) (k : Fin 6) : out16 X (ix3 b j k) = lay X k (ix3 b j 0) := by
  rw [← layers (lay X) b j k]
  simp only [List.ofFn_succ, List.ofFn_zero]
  rfl

/-- An entry's number, rounded, over 100 and rounded down, is its class. -/
theorem class_val (n : ℕ) :
    Ideal.liftRound Int.floor (Ideal.div (Ideal.liftRound Int.floor (((n : ℝ) : EReal) + Ideal.ofBits .f32 1056964608#32)) (Ideal.ofBits .f32 1120403456#32))
      = (((n / 100 : ℕ) : ℝ) : EReal) := by
  have h : Ideal.ofBits .f32 1056964608#32 = (((1 / 2 : ℝ)) : EReal) := by
    simp [Ideal.ofBits, Ideal.ieee]
    rw [← EReal.coe_mul]
    norm_num
  have h' : Ideal.ofBits .f32 1120403456#32 = (((100 : ℝ)) : EReal) := by
    simp [Ideal.ofBits, Ideal.ieee]
    rw [← EReal.coe_mul]
    norm_num
  rw [h, h', ← EReal.coe_add]
  show Ideal.liftRound Int.floor (Ideal.div (((⌊(n : ℝ) + 1 / 2⌋ : ℝ)) : EReal) _) = _
  have e : ⌊(n : ℝ) + 1 / 2⌋ = (n : ℤ) := by
    rw [Int.floor_eq_iff]; constructor <;> push_cast <;> linarith
  rw [e, Ideal.div_coe (by norm_num), ← EReal.coe_mul]
  show (((⌊((n : ℤ) : ℝ) * (1 / 100)⌋ : ℝ)) : EReal) = _
  have e' : ⌊((n : ℤ) : ℝ) * (1 / 100)⌋ = ((n / 100 : ℕ) : ℤ) := by
    have h1 : (100 * (n / 100) + n % 100 : ℕ) = n := Nat.div_add_mod n 100
    have h2 : n % 100 < 100 := Nat.mod_lt _ (by norm_num)
    generalize n / 100 = q at *
    generalize n % 100 = p at *
    have h1' : (100 * (q : ℝ) + (p : ℝ)) = (n : ℝ) := by exact_mod_cast h1
    have h2' : (p : ℝ) < 100 := by exact_mod_cast h2
    have h3' : (0 : ℝ) ≤ (p : ℝ) := Nat.cast_nonneg _
    rw [Int.floor_eq_iff]
    constructor <;> push_cast <;> linarith
  rw [e']
  rfl

variable {X} {I : In} (H : Reads X I)
include H

theorem out_read (b : Fin 16) (j : Fin 100) (k : Fin 6) : out16 X (ix3 b j k) = out I b j k := by
  have hf : (fun x => v746 X (ix2 b x)) = fs I b := funext fun x => (flat_read H b x).1
  have hr : ∀ k : Fin 7, k0_pay234 (v1040 X) (v1067 X) (v1094 X) (v1121 X) (v1148 X) (v1175 X) (v1202 X) (v1203 X) (v1204 X) (v1205 X) (v1206 X) (v1207 X) (v1208 X) (v1209 X) (v1210 X) (v1211 X) (ix3 b k j) = rows X k b (top I b j) := fun k => by
    rw [ranked_read, rk_read, hf]; rfl
  have ht := flat_read H b (top I b j)
  rw [out16_lay]
  fin_cases k
  · pointwise [lay, k0_pay239]
    rw [hr]
    exact ht.2.1
  · pointwise [lay, k0_pay240]
    rw [hr]
    exact ht.2.2.1
  · pointwise [lay, k0_pay241]
    rw [hr]
    exact ht.2.2.2.1
  · pointwise [lay, k0_pay242, v1227, k0_pay235]
    rw [hr]
    exact ht.2.2.2.2
  · pointwise [lay, k0_pay243, v1229, k0_pay236]
    rw [hr]
    exact ht.1
  · pointwise [lay, k0_pay244, v1242, k0_pay238]
    rw [hr]
    exact class_val (top I b j).val

end Cert.Proof.KV
end
-- ==== Proof.KVHost.lean ====
module

public import proofs.«01_k».proof.Proof.KIBody
public import proofs.«01_k».proof.Proof.KVRank
public import Idealize.ShloMosaic.Lib.StableHlo.ReadAt
public import Idealize.ShloMosaic.Lib.Pipeline.Value
public import Idealize.ShloMosaic.Lib.Affine

@[expose] public section

set_option maxRecDepth 16384

noncomputable section

namespace Cert.Proof.KV

open Idealize.ShloMosaic Cert.KernelIdeal Cert.KernelIdeal.Gen Cert.Proof.KI Cert.Proof.Rank Cert.Proof.Spec
open Idealize.ShloMosaic.TcCoe Idealize.ShloMosaic.StableHlo
open Idealize.ShloMosaic.Pipeline (Dat Cfg Window)

variable (m : (ℓ : Loc nD τ sig) → Buf (Elt Ideal) ℓ) (c : Dev nD)

/-- The kernel's inputs. -/
def inK : In where
  os b e := (m (c, Proc.devRef .tc main_arg1) : S16x2.Idx → EReal) (ix2 b e)
  c16 b a l := (m (c, Proc.devRef .tc main_arg2) : S16x800x2.Idx → EReal) (ix3 b a l)
  c32 b a l := (m (c, Proc.devRef .tc main_arg5) : S16x200x2.Idx → EReal) (ix3 b a l)
  b16 b a k := (m (c, Proc.devRef .tc main_arg3) : S16x800x4.Idx → EReal) (ix3 b a k)
  b32 b a k := (m (c, Proc.devRef .tc main_arg6) : S16x200x4.Idx → EReal) (ix3 b a k)
  a16 := anc16
  a32 := anc32

/-- The one grid point. -/
def t₀ : Fin cfg0.N := ⟨0, by decide⟩

/-! The arrays the host program prepares for the kernel. -/

theorem host54_read (l : Fin 2) (b : Fin 16) (a : Fin 800) (r : Fin 32) (hr : r.val = l.val * 16 + b.val) :
    (V m c main_v54 : S32x800.Idx → EReal) (ix2 r a) = (inK m c).c16 b a l := by
  suffices H : ∀ X, V m c main_v54 = X → (X : S32x800.Idx → EReal) (ix2 r a) = (inK m c).c16 b a l from H _ rfl
  intro X
  unfold V
  after_reads_simp
  rintro rfl
  pointwise [id_eq]
  exact congrArg₂ (fun b l => (inK m c).c16 b a l) (Fin.ext (by show r.val % 16 = b.val; omega)) (Fin.ext (by show r.val / 16 = l.val; omega))

theorem host56_read (l : Fin 2) (b : Fin 16) (a : Fin 200) (r : Fin 32) (hr : r.val = l.val * 16 + b.val) :
    (V m c main_v56 : S32x200.Idx → EReal) (ix2 r a) = (inK m c).c32 b a l := by
  suffices H : ∀ X, V m c main_v56 = X → (X : S32x200.Idx → EReal) (ix2 r a) = (inK m c).c32 b a l from H _ rfl
  intro X
  unfold V
  after_reads_simp
  rintro rfl
  pointwise [id_eq]
  exact congrArg₂ (fun b l => (inK m c).c32 b a l) (Fin.ext (by show r.val % 16 = b.val; omega)) (Fin.ext (by show r.val / 16 = l.val; omega))

theorem host58_read (l : Fin 4) (b : Fin 16) (a : Fin 800) (r : Fin 64) (hr : r.val = l.val * 16 + b.val) :
    (V m c main_v58 : S64x800.Idx → EReal) (ix2 r a) = (inK m c).b16 b a l := by
  suffices H : ∀ X, V m c main_v58 = X → (X : S64x800.Idx → EReal) (ix2 r a) = (inK m c).b16 b a l from H _ rfl
  intro X
  unfold V
  after_reads_simp
  rintro rfl
  pointwise [id_eq]
  exact congrArg₂ (fun b l => (inK m c).b16 b a l) (Fin.ext (by show r.val % 16 = b.val; omega)) (Fin.ext (by show r.val / 16 = l.val; omega))

theorem host60_read (l : Fin 4) (b : Fin 16) (a : Fin 200) (r : Fin 64) (hr : r.val = l.val * 16 + b.val) :
    (V m c main_v60 : S64x200.Idx → EReal) (ix2 r a) = (inK m c).b32 b a l := by
  suffices H : ∀ X, V m c main_v60 = X → (X : S64x200.Idx → EReal) (ix2 r a) = (inK m c).b32 b a l from H _ rfl
  intro X
  unfold V
  after_reads_simp
  rintro rfl
  pointwise [id_eq]
  exact congrArg₂ (fun b l => (inK m c).b32 b a l) (Fin.ext (by show r.val % 16 = b.val; omega)) (Fin.ext (by show r.val / 16 = l.val; omega))

theorem host17_read (a : Fin 800) : (V m c main_v17 : S1x800.Idx → EReal) (ix2 0 a) = (inK m c).a16 a 0 := by
  suffices H : ∀ X, V m c main_v17 = X → (X : S1x800.Idx → EReal) (ix2 0 a) = (inK m c).a16 a 0 from H _ rfl
  intro X
  unfold V
  after_reads_simp
  rintro rfl
  pointwise [id_eq]
  after_reads_simp
  pointwise
  after_reads_simp
  pointwise
  split <;> rfl

theorem host20_read (a : Fin 800) : (V m c main_v20 : S1x800.Idx → EReal) (ix2 0 a) = (inK m c).a16 a 1 := by
  suffices H : ∀ X, V m c main_v20 = X → (X : S1x800.Idx → EReal) (ix2 0 a) = (inK m c).a16 a 1 from H _ rfl
  intro X
  unfold V
  after_reads_simp
  rintro rfl
  pointwise [id_eq]
  after_reads_simp
  pointwise
  after_reads_simp
  pointwise
  split <;> rfl

theorem host38_read (a : Fin 200) : (V m c main_v38 : S1x200.Idx → EReal) (ix2 0 a) = (inK m c).a32 a 0 := by
  suffices H : ∀ X, V m c main_v38 = X → (X : S1x200.Idx → EReal) (ix2 0 a) = (inK m c).a32 a 0 from H _ rfl
  intro X
  unfold V
  after_reads_simp
  rintro rfl
  pointwise [id_eq]
  after_reads_simp
  pointwise
  after_reads_simp
  pointwise
  split <;> rfl

theorem host41_read (a : Fin 200) : (V m c main_v41 : S1x200.Idx → EReal) (ix2 0 a) = (inK m c).a32 a 1 := by
  suffices H : ∀ X, V m c main_v41 = X → (X : S1x200.Idx → EReal) (ix2 0 a) = (inK m c).a32 a 1 from H _ rfl
  intro X
  unfold V
  after_reads_simp
  rintro rfl
  pointwise [id_eq]
  after_reads_simp
  pointwise
  after_reads_simp
  pointwise
  split <;> rfl

theorem iblk0 : (iblk m c 0 t₀ : S16x2.Idx → EReal) = V m c main_arg1 := by
  have hz : (fun a => (win0_0.index t₀) a * main_arg1.ty.shape.size a) = fun _ => 0 := funext fun a => by fin_cases a <;> decide
  exact Memref.read_access_unit_zero (Elt Ideal) main_arg1 hz (fun a => by fin_cases a <;> decide) _

theorem ins0 : (ins m c t₀).x0 = (V m c main_arg1 : S16x2.Idx → EReal) := by
  have h := iblk0 m c
  unfold ins
  exact h

theorem iblk2 : (iblk m c 2 t₀ : S32x800.Idx → EReal) = V m c main_v54 := by
  have hz : (fun a => (win0_2.index t₀) a * main_v54.ty.shape.size a) = fun _ => 0 := funext fun a => by fin_cases a <;> decide
  exact Memref.read_access_unit_zero (Elt Ideal) main_v54 hz (fun a => by fin_cases a <;> decide) _

theorem ins2 : (ins m c t₀).x2 = (V m c main_v54 : S32x800.Idx → EReal) := by
  have h := iblk2 m c
  unfold ins
  exact h

theorem iblk3 : (iblk m c 3 t₀ : S64x800.Idx → EReal) = V m c main_v58 := by
  have hz : (fun a => (win0_3.index t₀) a * main_v58.ty.shape.size a) = fun _ => 0 := funext fun a => by fin_cases a <;> decide
  exact Memref.read_access_unit_zero (Elt Ideal) main_v58 hz (fun a => by fin_cases a <;> decide) _

theorem ins3 : (ins m c t₀).x3 = (V m c main_v58 : S64x800.Idx → EReal) := by
  have h := iblk3 m c
  unfold ins
  exact h

theorem iblk5 : (iblk m c 5 t₀ : S32x200.Idx → EReal) = V m c main_v56 := by
  have hz : (fun a => (win0_5.index t₀) a * main_v56.ty.shape.size a) = fun _ => 0 := funext fun a => by fin_cases a <;> decide
  exact Memref.read_access_unit_zero (Elt Ideal) main_v56 hz (fun a => by fin_cases a <;> decide) _

theorem ins5 : (ins m c t₀).x5 = (V m c main_v56 : S32x200.Idx → EReal) := by
  have h := iblk5 m c
  unfold ins
  exact h

theorem iblk6 : (iblk m c 6 t₀ : S64x200.Idx → EReal) = V m c main_v60 := by
  have hz : (fun a => (win0_6.index t₀) a * main_v60.ty.shape.size a) = fun _ => 0 := funext fun a => by fin_cases a <;> decide
  exact Memref.read_access_unit_zero (Elt Ideal) main_v60 hz (fun a => by fin_cases a <;> decide) _

theorem ins6 : (ins m c t₀).x6 = (V m c main_v60 : S64x200.Idx → EReal) := by
  have h := iblk6 m c
  unfold ins
  exact h

theorem iblk12 : (iblk m c 12 t₀ : S1x800.Idx → EReal) = V m c main_v17 := by
  have hz : (fun a => (win0_12.index t₀) a * main_v17.ty.shape.size a) = fun _ => 0 := funext fun a => by fin_cases a <;> decide
  exact Memref.read_access_unit_zero (Elt Ideal) main_v17 hz (fun a => by fin_cases a <;> decide) _

theorem ins12 : (ins m c t₀).x12 = (V m c main_v17 : S1x800.Idx → EReal) := by
  have h := iblk12 m c
  unfold ins
  exact h

theorem iblk13 : (iblk m c 13 t₀ : S1x800.Idx → EReal) = V m c main_v20 := by
  have hz : (fun a => (win0_13.index t₀) a * main_v20.ty.shape.size a) = fun _ => 0 := funext fun a => by fin_cases a <;> decide
  exact Memref.read_access_unit_zero (Elt Ideal) main_v20 hz (fun a => by fin_cases a <;> decide) _

theorem ins13 : (ins m c t₀).x13 = (V m c main_v20 : S1x800.Idx → EReal) := by
  have h := iblk13 m c
  unfold ins
  exact h

theorem iblk14 : (iblk m c 14 t₀ : S1x200.Idx → EReal) = V m c main_v38 := by
  have hz : (fun a => (win0_14.index t₀) a * main_v38.ty.shape.size a) = fun _ => 0 := funext fun a => by fin_cases a <;> decide
  exact Memref.read_access_unit_zero (Elt Ideal) main_v38 hz (fun a => by fin_cases a <;> decide) _

theorem ins14 : (ins m c t₀).x14 = (V m c main_v38 : S1x200.Idx → EReal) := by
  have h := iblk14 m c
  unfold ins
  exact h

theorem iblk15 : (iblk m c 15 t₀ : S1x200.Idx → EReal) = V m c main_v41 := by
  have hz : (fun a => (win0_15.index t₀) a * main_v41.ty.shape.size a) = fun _ => 0 := funext fun a => by fin_cases a <;> decide
  exact Memref.read_access_unit_zero (Elt Ideal) main_v41 hz (fun a => by fin_cases a <;> decide) _

theorem ins15 : (ins m c t₀).x15 = (V m c main_v41 : S1x200.Idx → EReal) := by
  have h := iblk15 m c
  unfold ins
  exact h

theorem arg1_read : (V m c main_arg1 : S16x2.Idx → EReal) = m (c, Proc.devRef .tc main_arg1) := by
  unfold V
  after_reads_simp

/-- What the kernel's windows hold, as values of its inputs. -/
theorem reads : Reads (ins m c t₀) (inK m c) where
  h0 b e := by rw [ins0]; rw [arg1_read]; rfl
  h2 l b a r hr := by rw [ins2]; exact host54_read m c l b a r hr
  h3 l b a r hr := by rw [ins3]; exact host58_read m c l b a r hr
  h5 l b a r hr := by rw [ins5]; exact host56_read m c l b a r hr
  h6 l b a r hr := by rw [ins6]; exact host60_read m c l b a r hr
  h12 a := by rw [ins12]; exact host17_read m c a
  h13 a := by rw [ins13]; exact host20_read m c a
  h14 a := by rw [ins14]; exact host38_read m c a
  h15 a := by rw [ins15]; exact host41_read m c a

/-- The first result after the run is what the body left of it. -/
theorem final_out : (dats m 0 c).arrAt 16 cfg0.N = out16 (ins m c t₀) := by
  have ho : ((cfg0.win 16).blk t₀).view.read (Elt Ideal) ((dats m 0 c).arrAt 16 cfg0.N) = (dats m 0 c).flushed 16 t₀ := by
    rw [show cfg0.N = t₀.val + 1 from rfl, (dats m 0 c).arrAt_succ 16 t₀]
    rw [show (cfg0.win 16).flush t₀ = true from by decide, if_pos rfl]
    exact View.read_write_univ _ _
  have hz : (fun a => (win0_16.index t₀) a * main_v61_0.ty.shape.size a) = fun _ => 0 := funext fun a => by fin_cases a <;> decide
  have hr := fun f => Memref.read_access_unit_zero (Elt Ideal) main_v61_0 hz (fun a => by fin_cases a <;> decide) f
  rw [hr] at ho
  rw [ho]
  show (cfg0.win 16).cut _ ((dats m 0 c).after 16 t₀) = _
  rw [after0_16]
  rfl

/-- The first result after the run, as a function of the kernel's inputs. -/
theorem final_read (b : Fin 16) (j : Fin 100) (k : Fin 6) :
    ((dats m 0 c).arrAt 16 cfg0.N : S16x100x6.Idx → EReal) (ix3 b j k) = out (inK m c) b j k := by
  rw [final_out]
  exact out_read (reads m c) b j k

end Cert.Proof.KV
end
-- ==== Proof.SpecL.lean ====
module

public import proofs.«01_k».proof.Proof.Spec

@[expose] public section

noncomputable section

namespace Cert.Proof.Spec

open Idealize.ShloMosaic Cert.Proof.Rank

/-- What the landmarks are made of: each level's parameters by image and anchor, their mean and deviation, the mean shape, and the
    shape and expression bases. -/
structure Face where
  p16 : Fin 16 → Fin 800 → Fin 237 → EReal
  p32 : Fin 16 → Fin 200 → Fin 237 → EReal
  pm : Fin 2 → Fin 237 → EReal
  u : Fin 204 → EReal
  sb : Fin 204 → Fin 199 → EReal
  eb : Fin 204 → Fin 29 → EReal

/-- A candidate's parameters: those of its anchor. -/
def row (I : In) (L : Face) (b : Fin 16) (c : Fin 2) (q : Fin 200) : Fin 237 → EReal :=
  if h : q.val < 100 then L.p16 b (sel16 I b c ⟨q, h⟩) else L.p32 b (sel32 I b c ⟨q - 100, by omega⟩)

/-- A parameter rescaled. -/
def par (L : Face) (r : Fin 237 → EReal) (k : Fin 237) : EReal := r k * L.pm 1 k + L.pm 0 k

/-- A coordinate of a face's points before rotation: the mean shape plus the weighted bases. -/
def vert (L : Face) (r : Fin 237 → EReal) (n : Fin 204) : EReal :=
  L.u n + ∑ s : Fin 199, par L r ⟨9 + s.val, by omega⟩ * L.sb n s + ∑ s : Fin 29, par L r ⟨208 + s.val, by omega⟩ * L.eb n s

/-- Coordinate `e` of point `p`, rotated. -/
def lm (L : Face) (r : Fin 237 → EReal) (p : Fin 68) (e : Fin 2) : EReal :=
  ∑ d : Fin 3, vert L r ⟨p.val * 3 + d.val, by omega⟩ * par L r ⟨e.val * 3 + d.val, by omega⟩

/-- A candidate's points in the image's own pixels. -/
def cl (I : In) (L : Face) (b : Fin 16) (c : Fin 2) (q : Fin 200) (p : Fin 68) (e : Fin 2) : EReal :=
  lm L (row I L b c q) p e * ratio I b (![1, 0] e)

/-- The candidate an entry of an image's 200 was selected from. -/
def from_ (I : In) (b : Fin 16) (i : Fin 200) : Fin 200 := best (cb I b (cls i)) (w0 I b (cls i)) (i % 100)

/-- The landmarks' result: the points of the 100 best entries of each image. -/
def outL (I : In) (L : Face) (b : Fin 16) (j : Fin 100) (p : Fin 68) (e : Fin 2) : EReal :=
  cl I L b (cls (top I b j)) (from_ I b (top I b j)) p e

end Cert.Proof.Spec

end
-- ==== Proof.KVGi.lean ====
module

public import proofs.«01_k».proof.Proof.KVRank
public import proofs.«01_k».proof.Proof.SpecL

@[expose] public section

set_option maxRecDepth 16384

noncomputable section

namespace Cert.Proof.KV

open Idealize.ShloMosaic Cert.KernelIdeal Cert.KernelIdeal.Gen Cert.Proof.KI Cert.Proof.Rank Cert.Proof.Spec

/-! The anchor number carried with each selected box: the anchor's at the finer level, 800 more at the coarser. -/

theorem bits_800 : Ideal.ofBits .f32 0x44480000#32 = ((800 : ℝ) : EReal) := by
  simp [Ideal.ofBits, Ideal.ieee]
  rw [← EReal.coe_mul]
  norm_num

/-- A candidate's anchor number over both levels. -/
def anchor (I : In) (b : Fin 16) (c : Fin 2) (q : Fin 200) : ℕ :=
  if h : q.val < 100 then (sel16 I b c ⟨q, h⟩).val else (sel32 I b c ⟨q - 100, by omega⟩).val + 800

/-- After `t` trips the anchor numbers of the `t` selected candidates are recorded. -/
def Inv3 (X : Ins Ideal) (t : ℕ) (s : FVec Ideal S32x200 .f32 × FVec Ideal S32x100 .f32 × FVec Ideal S32x100 .f32 × FVec Ideal S32x100 .f32 × FVec Ideal S32x100 .f32
    × FVec Ideal S32x100 .f32 × FVec Ideal S32x100 .f32) : Prop :=
  ∀ r, (∀ q, s.1 (ix2 r q) = work (fun q k => cx X k (ix2 r q)) (fun q => k0_pay161 (v97 X) (ix2 r q)) t q)
  ∧ ∀ j : Fin 100, j.val < t →
      s.2.2.2.2.2.2 (ix2 r j) = v102 X (ix2 r (best (fun q k => cx X k (ix2 r q)) (fun q => k0_pay161 (v97 X) (ix2 r q)) j))

theorem inv3 (X : Ins Ideal) : Inv3 X 100 (loop_t2 X) := by
  refine Eq.mp (congrArg (fun n => Inv3 X n (loop_t2 X)) trips2)
    (fold_inv (T X) (Inv3 X) _ (fun r => ⟨fun q => rfl, fun j h => absurd h (by omega)⟩) ?_)
  intro k s hs r
  have hrow : (fun q => s.1 (ix2 r q)) = work (fun q k => cx X k (ix2 r q)) (fun q => k0_pay161 (v97 X) (ix2 r q)) k := funext (hs r).1
  refine ⟨fun q => ?_, fun j hj => ?_⟩
  · rw [work_succ, ← hrow]
    exact next_read X s.1 r q
  · have e0 : (T X k s).2.2.2.2.2.2 (ix2 r j) = _ := put2 r k s.2.2.2.2.2.2 (k0_pay5 (v102 X) (k0_pay162 (F := Ideal)) s.1) j
    rw [e0]
    by_cases e : j.val = k.val
    · rw [if_pos e, at_read, hrow, ← e]
      rfl
    · rw [if_neg e]
      exact (hs r).2 j (by omega)

variable {X : Ins Ideal} {I : In} (H : Reads X I)
include H

/-- The candidates' anchor numbers, by row. -/
theorem v102_read (b : Fin 16) (l : Fin 2) (q : Fin 200) (r : Fin 32) (hr : r.val = l.val * 16 + b.val) :
    v102 X (ix2 r q) = (((anchor I b l q : ℕ) : ℝ) : EReal) := by
  pointwise [v102, k0_pay47]
  unfold anchor
  split
  · exact (got16 H b l _ _ (by simp [hr])).2
  · rw [bits_800, (got32 H b l ⟨q - 100, by omega⟩ _ (by simp [hr]; omega)).2, ← EReal.coe_add]
    push_cast
    rfl

theorem gi_read (b : Fin 16) (l : Fin 2) (j : Fin 100) (r : Fin 32) (hr : r.val = l.val * 16 + b.val) :
    v743_6 X (ix2 r j) = (((anchor I b l (best (cb I b l) (w0 I b l) j) : ℕ) : ℝ) : EReal) := by
  have h := (inv3 X r).2 j j.isLt
  rw [show (fun q k => cx X k (ix2 r q)) = cb I b l from funext fun q => funext fun k => cx_read H b l k q r hr,
    show (fun q => k0_pay161 (v97 X) (ix2 r q)) = w0 I b l from funext fun q => w0_read H b l q r hr, v102_read H b l _ r hr] at h
  exact h

/-- The anchor numbers of an image's 200 entries. -/
theorem v761_read (b : Fin 16) (i : Fin 200) : v761 X (ix2 b i) = (((anchor I b (cls i) (from_ I b i) : ℕ) : ℝ) : EReal) := by
  unfold from_
  by_cases h : i.val < 100
  · have hs := gi_read H b 0 ⟨i, h⟩ ⟨b, by omega⟩ (by simp)
    have hc : cls i = 0 := Fin.ext (by simp [cls]; omega)
    have hm : i.val % 100 = i.val := by omega
    rw [hc, hm, ← hs]
    pointwise [v761, k0_pay177]
    rw [dif_pos h]
  · have hs := gi_read H b 1 ⟨i - 100, by omega⟩ ⟨b + 16, by omega⟩ (by simp [add_comm])
    have hc : cls i = 1 := Fin.ext (by simp [cls]; omega)
    have hm : i.val % 100 = i.val - 100 := by omega
    rw [hc, hm, ← hs]
    pointwise [v761, k0_pay177]
    rw [dif_neg h]
    simp only [add_comm]

omit H in
/-- A whole number, rounded, is itself. -/
theorem round_val (n : ℕ) : Ideal.liftRound Int.floor (((n : ℝ) : EReal) + Ideal.ofBits .f32 1056964608#32) = (((n : ℕ) : ℝ) : EReal) := by
  have h : Ideal.ofBits .f32 1056964608#32 = (((1 / 2 : ℝ)) : EReal) := by
    simp [Ideal.ofBits, Ideal.ieee]
    rw [← EReal.coe_mul]
    norm_num
  rw [h, ← EReal.coe_add]
  show (((⌊(n : ℝ) + 1 / 2⌋ : ℝ)) : EReal) = _
  have e : ⌊(n : ℝ) + 1 / 2⌋ = (n : ℤ) := by
    rw [Int.floor_eq_iff]; constructor <;> push_cast <;> linarith
  rw [e]
  norm_cast

/-- The ranked entries' anchor numbers. -/
theorem v1234_read (b : Fin 16) (j : Fin 100) :
    v1234 X (ix2 b j) = (((anchor I b (cls (top I b j)) (from_ I b (top I b j)) : ℕ) : ℝ) : EReal) := by
  have hf : (fun x => v746 X (ix2 b x)) = fs I b := funext fun x => (flat_read H b x).1
  have hr : k0_pay234 (v1040 X) (v1067 X) (v1094 X) (v1121 X) (v1148 X) (v1175 X) (v1202 X) (v1203 X) (v1204 X) (v1205 X) (v1206 X) (v1207 X) (v1208 X) (v1209 X) (v1210 X) (v1211 X) (ix3 b 5 j) = v761 X (ix2 b (top I b j)) := by
    rw [ranked_read, rk_read, hf]; rfl
  pointwise [v1234, k0_pay237]
  rw [hr, v761_read H]
  exact round_val _

end Cert.Proof.KV

end
-- ==== Proof.KVLm.lean ====
module

public import proofs.«01_k».proof.Proof.KVGi

@[expose] public section

set_option maxRecDepth 16384

noncomputable section

namespace Cert.Proof.KV

open Idealize.ShloMosaic Cert.KernelIdeal Cert.KernelIdeal.Gen Cert.Proof.KI Cert.Proof.Rank Cert.Proof.Spec

/-- The windows hold the landmarks' inputs. -/
structure ReadsL (X : Ins Ideal) (I : In) (L : Face) : Prop where
  h1 : ∀ e b, X.x1 (ix2 e b) = I.os b e
  h4 : ∀ b a k, X.x4 (ix3 b a k) = L.p16 b a k
  h7 : ∀ b a k, X.x7 (ix3 b a k) = L.p32 b a k
  h8 : ∀ i k, X.x8 (ix2 i k) = L.pm i k
  h9 : ∀ (d : Fin 3) (p : Fin 68), X.x9 (ix2 d p) = L.u ⟨p.val * 3 + d.val, by omega⟩
  h10 : ∀ (d : Fin 3) (p : Fin 68) s (r : Fin 204), r.val = d.val * 68 + p.val → X.x10 (ix2 r s) = L.sb ⟨p.val * 3 + d.val, by omega⟩ s
  h11 : ∀ (d : Fin 3) (p : Fin 68) s (r : Fin 204), r.val = d.val * 68 + p.val → X.x11 (ix2 r s) = L.eb ⟨p.val * 3 + d.val, by omega⟩ s

theorem row100 (b : Fin 16) : S16x100.Slices ![b.val, 0] S1x100 :=
  ⟨rfl, fun d => by fin_cases d <;> simp [Shape.size] <;> omega⟩
theorem rect800 (b : Fin 16) (a : Fin 3) : (![b.val, 0, 0] : Fin 3 → Nat) a + S1x800x237.size a ≤ S16x800x237.size a := by
  fin_cases a <;> simp [Shape.size] <;> omega
theorem rect200 (b : Fin 16) (a : Fin 3) : (![b.val, 0, 0] : Fin 3 → Nat) a + S1x200x237.size a ≤ S16x200x237.size a := by
  fin_cases a <;> simp [Shape.size] <;> omega

/-- Image `b`'s rows of the parameters at each level. -/
def w16 (X : Ins Ideal) (b : Fin 16) : Vec Ideal S1x800x237 .f32 := View.ld X.x4 (Rect.unit (s := S16x800x237) ![b.val, 0, 0] S1x800x237.size (rect800 b))
def w32 (X : Ins Ideal) (b : Fin 16) : Vec Ideal S1x200x237 .f32 := View.ld X.x7 (Rect.unit (s := S16x200x237) ![b.val, 0, 0] S1x200x237.size (rect200 b))

/-- Image `b`'s parameters, picked by products with one-hot matrices of the anchor numbers. -/
def pb (X : Ins Ideal) (b : Fin 16) : FVec Ideal S100x237 .f32 :=
  addf
    (matmul (φ₁ := .f32) (φ₂ := .f32) dot_S800x100_S800x237_S100x237_0_0_1_1_n_n (some .fp32)
      (sitofp .f32 (extui 32 (cmpf (F := Ideal) (φ := .f32) .oeq (sitofp .f32 (iota .tc S800x100 32 [0] iota_S800x100_d0_w32))
        (broadcastTo S800x100 (extractStridedSlice S1x100 ![b.val, 0] (v1234 X) (row100 b)) broadcasts_S1x100_S800x100)) natLt_1_32))
      (shapeCast S800x237 (w16 X b) shapeCasts_S1x800x237_S800x237)
      (constant S100x237 .f32 0x00000000#32))
    (matmul (φ₁ := .f32) (φ₂ := .f32) dot_S200x100_S200x237_S100x237_0_0_1_1_n_n (some .fp32)
      (sitofp .f32 (extui 32 (cmpf (F := Ideal) (φ := .f32) .oeq (sitofp .f32 (iota .tc S200x100 32 [0] iota_S200x100_d0_w32))
        (broadcastTo S200x100 (subf (F := Ideal) (φ := .f32) (extractStridedSlice S1x100 ![b.val, 0] (v1234 X) (row100 b)) (broadcast S1x100 (Scalar.ofBits .f32 0x44480000#32))) broadcasts_S1x100_S200x100)) natLt_1_32))
      (shapeCast S200x237 (w32 X b) shapeCasts_S1x200x237_S200x237)
      (constant S100x237 .f32 0x00000000#32))

section
variable (X : Ins Ideal)
theorem p_0 : v1282 X = pb X 0 := rfl
theorem p_1 : v1304 X = pb X 1 := rfl
theorem p_2 : v1326 X = pb X 2 := rfl
theorem p_3 : v1348 X = pb X 3 := rfl
theorem p_4 : v1370 X = pb X 4 := rfl
theorem p_5 : v1392 X = pb X 5 := rfl
theorem p_6 : v1414 X = pb X 6 := rfl
theorem p_7 : v1436 X = pb X 7 := rfl
theorem p_8 : v1458 X = pb X 8 := rfl
theorem p_9 : v1480 X = pb X 9 := rfl
theorem p_10 : v1502 X = pb X 10 := rfl
theorem p_11 : v1524 X = pb X 11 := rfl
theorem p_12 : v1546 X = pb X 12 := rfl
theorem p_13 : v1568 X = pb X 13 := rfl
theorem p_14 : addf (v1586 X) (v1589 X) = pb X 14 := rfl

/-- All images' parameters, rescaled. -/
def P : FVec Ideal S1600x237 .f32 :=
  k0_pay280 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X)

/-- The images' parameters one after another. -/
theorem stack_eq : P X = addf (mulf (concatenate S1600x237 0 [⟨S100x237, pb X 0⟩, ⟨S100x237, pb X 1⟩, ⟨S100x237, pb X 2⟩, ⟨S100x237, pb X 3⟩, ⟨S100x237, pb X 4⟩, ⟨S100x237, pb X 5⟩, ⟨S100x237, pb X 6⟩, ⟨S100x237, pb X 7⟩, ⟨S100x237, pb X 8⟩, ⟨S100x237, pb X 9⟩, ⟨S100x237, pb X 10⟩, ⟨S100x237, pb X 11⟩, ⟨S100x237, pb X 12⟩, ⟨S100x237, pb X 13⟩, ⟨S100x237, pb X 14⟩, ⟨S100x237, pb X 15⟩]
      concatenates_S100x237_S100x237_S100x237_S100x237_S100x237_S100x237_S100x237_S100x237_S100x237_S100x237_S100x237_S100x237_S100x237_S100x237_S100x237_S100x237_S1600x237_d0)
      (broadcastTo S1600x237 (extractStridedSlice S1x237 ![1, 0] (v1614 X) slices_S2x237_o1_0_S1x237) broadcasts_S1x237_S1600x237))
    (broadcastTo S1600x237 (extractStridedSlice S1x237 ![0, 0] (v1614 X) slices_S2x237_o0_0_S1x237) broadcasts_S1x237_S1600x237) := rfl

/-- Sixteen pieces of 100 rows one after another: each row is a piece's. -/
theorem pieces (g : Fin 16 → FVec Ideal S100x237 .f32) (b : Fin 16) (j : Fin 100) (k : Fin 237) :
    concatenate S1600x237 0 [⟨S100x237, g 0⟩, ⟨S100x237, g 1⟩, ⟨S100x237, g 2⟩, ⟨S100x237, g 3⟩, ⟨S100x237, g 4⟩, ⟨S100x237, g 5⟩, ⟨S100x237, g 6⟩, ⟨S100x237, g 7⟩, ⟨S100x237, g 8⟩, ⟨S100x237, g 9⟩, ⟨S100x237, g 10⟩, ⟨S100x237, g 11⟩, ⟨S100x237, g 12⟩, ⟨S100x237, g 13⟩, ⟨S100x237, g 14⟩, ⟨S100x237, g 15⟩]
      concatenates_S100x237_S100x237_S100x237_S100x237_S100x237_S100x237_S100x237_S100x237_S100x237_S100x237_S100x237_S100x237_S100x237_S100x237_S100x237_S100x237_S1600x237_d0
      (ix2 ⟨b.val * 100 + j.val, by omega⟩ k) = g b (ix2 j k) := by
  refine (concatenate_ofFn_apply (t := S1600x237) (s₁ := S100x237) 0 g _ rfl 100 rfl (ix2 ⟨b.val * 100 + j.val, by omega⟩ k) b ?_ (ix2 j k) ?_ ?_)
  · show (b.val * 100 + j.val) / 100 = b.val
    omega
  · show j.val = (b.val * 100 + j.val) % 100
    omega
  · intro a ha
    fin_cases a
    · exact absurd rfl ha
    · rfl

/-- One image's piece of the parameters, scaled and shifted. -/
theorem P_split (b : Fin 16) (j : Fin 100) (k : Fin 237) :
    P X (ix2 ⟨b.val * 100 + j.val, by omega⟩ k) = pb X b (ix2 j k) * X.x8 (ix2 1 k) + X.x8 (ix2 0 k) := by
  have h := pieces (pb X) b j k
  rw [stack_eq]
  generalize concatenate S1600x237 0 _ _ = f at *
  pointwise [v1614]
  rw [h]
end

variable {X : Ins Ideal} {I : In} {L : Face} (H : Reads X I) (HL : ReadsL X I L)
include H HL

theorem pb_read (b : Fin 16) (j : Fin 100) (k : Fin 237) :
    pb X b (ix2 j k) = row I L b (cls (top I b j)) (from_ I b (top I b j)) k := by
  have hg := v1234_read H b j
  generalize cls (top I b j) = c at *
  generalize from_ I b (top I b j) = q at *
  pointwise [pb, w16, w32]
  rw [hg]
  unfold row anchor
  by_cases h : q.val < 100
  · rw [dif_pos h, dif_pos h]
    have e1 := sum_onehot' (fun a => X.x4 (ix3 b a k)) (sel16 I b c ⟨q, h⟩) _ fun a => hot_eq (by norm_num) a (sel16 I b c ⟨q, h⟩) _ rfl
    rw [e1, HL.h4, Finset.sum_eq_zero, add_zero]
    intro x _
    rw [word_val _ (by omega), hot_val, bits_800, if_neg, zero_mul]
    rw [← EReal.coe_sub]
    intro g
    have g' := EReal.coe_injective g
    have g1 : (x.val : ℝ) + 800 = ((sel16 I b c ⟨q, h⟩).val : ℝ) := by linarith
    have g2 : x.val + 800 = (sel16 I b c ⟨q, h⟩).val := by exact_mod_cast g1
    omega
  · rw [dif_neg h, dif_neg h]
    have hy : ((((sel32 I b c ⟨q - 100, by omega⟩).val + 800 : ℕ) : ℝ) : EReal) - Ideal.ofBits .f32 1145569280#32 = (((sel32 I b c ⟨q - 100, by omega⟩).val : ℝ) : EReal) := by
      rw [bits_800, ← EReal.coe_sub]
      exact congrArg _ (by push_cast; ring)
    have e1 := sum_onehot' (fun a => X.x7 (ix3 b a k)) (sel32 I b c ⟨q - 100, by omega⟩) _ fun a => hot_eq (by norm_num) a (sel32 I b c ⟨q - 100, by omega⟩) _ hy
    rw [e1, HL.h7, Finset.sum_eq_zero, zero_add]
    intro x _
    rw [word_val _ (by omega), hot_val, if_neg, zero_mul]
    intro g
    have g2 := nat_inj.mp g
    omega

end Cert.Proof.KV

end
-- ==== Proof.KVTail.lean ====
module

public import proofs.«01_k».proof.Proof.KVLm

@[expose] public section

set_option maxRecDepth 16384

noncomputable section

namespace Cert.Proof.KV

open Idealize.ShloMosaic Cert.KernelIdeal Cert.KernelIdeal.Gen Cert.Proof.KI Cert.Proof.Rank Cert.Proof.Spec

variable {X : Ins Ideal} {I : In} {L : Face} (H : Reads X I) (HL : ReadsL X I L)

section
variable (X)

theorem e1621 (r : Fin 1600) (k : Fin 9) : v1621 X (ix2 r k) = P X (ix2 r ⟨k.val, by omega⟩) := by
  unfold v1621 k0_pay281
  rw [show k0_pay280 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X) = P X from rfl]
  generalize P X = f
  pointwise
theorem e1622 (r : Fin 1600) (k : Fin 199) : v1622 X (ix2 r k) = P X (ix2 r ⟨9 + k.val, by omega⟩) := by
  unfold v1622 k0_pay282
  rw [show k0_pay280 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X) = P X from rfl]
  generalize P X = f
  pointwise
theorem e1623 (r : Fin 1600) (k : Fin 29) : v1623 X (ix2 r k) = P X (ix2 r ⟨208 + k.val, by omega⟩) := by
  unfold v1623 k0_pay283
  rw [show k0_pay280 (v1234 X) (v1282 X) (v1304 X) (v1326 X) (v1348 X) (v1370 X) (v1392 X) (v1414 X) (v1436 X) (v1458 X) (v1480 X) (v1502 X) (v1524 X) (v1546 X) (v1568 X) (v1586 X) (v1589 X) (v1606 X) (v1609 X) (v1614 X) = P X from rfl]
  generalize P X = f
  pointwise

/-- One coordinate of the shape before rotation, in three bands of 68 rows. -/
theorem e289 (r : Fin 1600) (p : Fin 68) : k0_pay289 (v1622 X) (v1623 X) (v1627 X) (v1630 X) (v1631 X) (cst_261 X) (ix2 r p)
    = X.x9 (ix2 0 p) + ∑ s : Fin 199, v1622 X (ix2 r s) * X.x10 (ix2 ⟨p.val, by omega⟩ s) + ∑ s : Fin 29, v1623 X (ix2 r s) * X.x11 (ix2 ⟨p.val, by omega⟩ s) := by
  generalize v1622 X = f
  generalize v1623 X = g
  pointwise [k0_pay289, v1627, v1630, v1631, cst_261, k0_pay285, k0_pay287, k0_pay288, k0_pay286, k0_pay284, v1624, v1626, v1628]
theorem e290 (r : Fin 1600) (p : Fin 68) : k0_pay290 (v1622 X) (v1623 X) (v1625 X) (v1627 X) (v1629 X) (ix2 r p)
    = X.x9 (ix2 1 p) + ∑ s : Fin 199, v1622 X (ix2 r s) * X.x10 (ix2 ⟨68 + p.val, by omega⟩ s) + ∑ s : Fin 29, v1623 X (ix2 r s) * X.x11 (ix2 ⟨68 + p.val, by omega⟩ s) := by
  generalize v1622 X = f
  generalize v1623 X = g
  pointwise [k0_pay290, v1625, v1627, v1629, k0_pay285, k0_pay286, k0_pay284, v1624, v1626, v1628]
theorem e291 (r : Fin 1600) (p : Fin 68) : k0_pay291 (v1622 X) (v1623 X) (v1625 X) (v1627 X) (v1629 X) (ix2 r p)
    = X.x9 (ix2 2 p) + ∑ s : Fin 199, v1622 X (ix2 r s) * X.x10 (ix2 ⟨136 + p.val, by omega⟩ s) + ∑ s : Fin 29, v1623 X (ix2 r s) * X.x11 (ix2 ⟨136 + p.val, by omega⟩ s) := by
  generalize v1622 X = f
  generalize v1623 X = g
  pointwise [k0_pay291, v1625, v1627, v1629, k0_pay285, k0_pay286, k0_pay284, v1624, v1626, v1628]
end

include H HL

/-- The scaled parameters are the selected candidate's. -/
theorem P_read (b : Fin 16) (j : Fin 100) (k : Fin 237) :
    P X (ix2 ⟨b.val * 100 + j.val, by omega⟩ k) = par L (row I L b (cls (top I b j)) (from_ I b (top I b j))) k := by
  rw [P_split, pb_read H HL, HL.h8, HL.h8]
  rfl

omit H HL

/-- Row `r`'s quotient by 100, as the program computes it: truncated, then lowered by one where signs differ and a remainder is left. -/
theorem quot100 : ∀ r : Fin 1600,
    Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 100#32 0#32))
              (Scalar.extui (Scalar.cmpi CmpIPredicate.slt 100#32 0#32))))
          (IntOp.cmpi CmpIPredicate.ne (IntOp.remsi ArithUnit.vector (BitVec.ofNat 32 r.val) 100#32) 0#32))
        (IntOp.subi (IntOp.divsi ArithUnit.vector (BitVec.ofNat 32 r.val) 100#32) 1#32)
        (IntOp.divsi ArithUnit.vector (BitVec.ofNat 32 r.val) 100#32) = BitVec.ofNat 32 (r.val / 100) := by
  decide +kernel

theorem same16 : ∀ a i : Fin 16, IntOp.cmpi CmpIPredicate.eq (BitVec.ofNat 32 a.val) (BitVec.ofNat 32 i.val) = BitVec.ofBool (decide (i = a)) := by
  decide +kernel

/-- The one-hot of the image each of the 1600 rows is of. -/
theorem v1704_read (b : Fin 16) (j : Fin 100) (i : Fin 16) : v1704 X (ix2 ⟨b.val * 100 + j.val, by omega⟩ i) = if i = b then (1 : EReal) else 0 := by
  pointwise [v1704, k0_pay297, v1676, c100_i32_267, v1678, v1681, v1683, k0_pay294, k0_pay295, k0_pay296]
  have h := quot100 ⟨b.val * 100 + j.val, by omega⟩
  dsimp only at h
  rw [h, show (b.val * 100 + j.val) / 100 = b.val by omega, same16, hot_val]

theorem v1706_read (r : Fin 1600) (i : Fin 16) : v1706 X (ix2 r i) = v1704 X (ix2 r i) * v10 X (ix2 0 i) := by
  unfold v1706 k0_pay298 v1704
  generalize k0_pay297 (F := Ideal) _ _ _ _ _ = f
  pointwise

theorem out17_split (r : Fin 1600) (p : Fin 68) : out17 X (ix2 r p) = v1664 X (ix2 r p) * ∑ i : Fin 16, v1706 X (ix2 r i) := by
  unfold out17
  rw [View.canon_unit_zero]
  · generalize v1664 X = f
    generalize v1706 X = g
    pointwise [k0_pay1]
  · exact funext fun a => by fin_cases a <;> rfl

theorem out18_split (r : Fin 1600) (p : Fin 68) : out18 X (ix2 r p) = v1675 X (ix2 r p) * ∑ i : Fin 16, v1704 X (ix2 r i) * v9 X (ix2 0 i) := by
  unfold out18
  rw [View.canon_unit_zero]
  · generalize v1675 X = f
    generalize v1704 X = g
    generalize v9 X = h
    pointwise [k0_pay2]
  · exact funext fun a => by fin_cases a <;> rfl

theorem v1664_split (r : Fin 1600) (p : Fin 68) : v1664 X (ix2 r p) =
    k0_pay289 (v1622 X) (v1623 X) (v1627 X) (v1630 X) (v1631 X) (cst_261 X) (ix2 r p) * v1621 X (ix2 r 0)
      + k0_pay290 (v1622 X) (v1623 X) (v1625 X) (v1627 X) (v1629 X) (ix2 r p) * v1621 X (ix2 r 1)
      + k0_pay291 (v1622 X) (v1623 X) (v1625 X) (v1627 X) (v1629 X) (ix2 r p) * v1621 X (ix2 r 2) := by
  unfold v1664 k0_pay292
  generalize k0_pay289 (F := Ideal) _ _ _ _ _ _ = f
  generalize k0_pay290 (F := Ideal) _ _ _ _ _ = g
  generalize k0_pay291 (F := Ideal) _ _ _ _ _ = h
  generalize v1621 X = w
  pointwise

theorem v1675_split (r : Fin 1600) (p : Fin 68) : v1675 X (ix2 r p) =
    k0_pay289 (v1622 X) (v1623 X) (v1627 X) (v1630 X) (v1631 X) (cst_261 X) (ix2 r p) * v1621 X (ix2 r 3)
      + k0_pay290 (v1622 X) (v1623 X) (v1625 X) (v1627 X) (v1629 X) (ix2 r p) * v1621 X (ix2 r 4)
      + k0_pay291 (v1622 X) (v1623 X) (v1625 X) (v1627 X) (v1629 X) (ix2 r p) * v1621 X (ix2 r 5) := by
  unfold v1675 k0_pay293
  generalize k0_pay289 (F := Ideal) _ _ _ _ _ _ = f
  generalize k0_pay290 (F := Ideal) _ _ _ _ _ = g
  generalize k0_pay291 (F := Ideal) _ _ _ _ _ = h
  generalize v1621 X = w
  pointwise

include HL

theorem v9_read (b : Fin 16) : v9 X (ix2 0 b) = ratio I b 0 := by
  pointwise [v9, k0_pay18, k0_pay17, v5]
  rw [HL.h1]
  rfl

theorem v10_read (b : Fin 16) : v10 X (ix2 0 b) = ratio I b 1 := by
  pointwise [v10, k0_pay19, k0_pay17, v5]
  rw [HL.h1]
  rfl

include H

/-- One coordinate of the selected candidate's shape before rotation. -/
theorem band (b : Fin 16) (j : Fin 100) (p : Fin 68) (d : Fin 3) (n : Fin 204) (hn : n.val = d.val * 68 + p.val) :
    X.x9 (ix2 d p) + ∑ s : Fin 199, v1622 X (ix2 ⟨b.val * 100 + j.val, by omega⟩ s) * X.x10 (ix2 n s)
        + ∑ s : Fin 29, v1623 X (ix2 ⟨b.val * 100 + j.val, by omega⟩ s) * X.x11 (ix2 n s)
      = vert L (row I L b (cls (top I b j)) (from_ I b (top I b j))) ⟨p.val * 3 + d.val, by omega⟩ := by
  simp only [e1622, e1623, P_read H HL, HL.h9, HL.h10 d p _ n hn, HL.h11 d p _ n hn]
  rfl

/-- The two coordinates' windows hold the landmarks' result. -/
theorem out17_read (b : Fin 16) (j : Fin 100) (p : Fin 68) : out17 X (ix2 ⟨b.val * 100 + j.val, by omega⟩ p) = outL I L b j p 0 := by
  rw [out17_split, v1664_split, e289, e290, e291, band H HL b j p 0 _ (by simp), band H HL b j p 1 _ (by simp), band H HL b j p 2 _ (by simp)]
  simp only [v1706_read, v1704_read, e1621, P_read H HL]
  rw [sum_onehot' (fun i => v10 X (ix2 0 i)) b _ fun i => rfl, v10_read HL]
  unfold outL cl lm
  rw [Fin.sum_univ_three]
  rfl

theorem out18_read (b : Fin 16) (j : Fin 100) (p : Fin 68) : out18 X (ix2 ⟨b.val * 100 + j.val, by omega⟩ p) = outL I L b j p 1 := by
  rw [out18_split, v1675_split, e289, e290, e291, band H HL b j p 0 _ (by simp), band H HL b j p 1 _ (by simp), band H HL b j p 2 _ (by simp)]
  simp only [v1704_read, e1621, P_read H HL]
  rw [sum_onehot' (fun i => v9 X (ix2 0 i)) b _ fun i => rfl, v9_read HL]
  unfold outL cl lm
  rw [Fin.sum_univ_three]
  rfl

end Cert.Proof.KV

end
-- ==== Proof.KVHostL.lean ====
module

public import proofs.«01_k».proof.Proof.KVHost
public import proofs.«01_k».proof.Proof.KVTail

@[expose] public section

set_option maxRecDepth 16384

noncomputable section

namespace Cert.Proof.KV

open Idealize.ShloMosaic Cert.KernelIdeal Cert.KernelIdeal.Gen Cert.Proof.KI Cert.Proof.Rank Cert.Proof.Spec
open Idealize.ShloMosaic.TcCoe Idealize.ShloMosaic.StableHlo
open Idealize.ShloMosaic.Pipeline (Dat Cfg Window)

variable (m : (ℓ : Loc nD τ sig) → Buf (Elt Ideal) ℓ) (c : Dev nD)

/-- The kernel's inputs to the landmarks. -/
def faceK : Face where
  p16 b a k := (m (c, Proc.devRef .tc main_arg4) : S16x800x237.Idx → EReal) (ix3 b a k)
  p32 b a k := (m (c, Proc.devRef .tc main_arg7) : S16x200x237.Idx → EReal) (ix3 b a k)
  pm i k := (m (c, Proc.devRef .tc main_arg8) : S2x237.Idx → EReal) (ix2 i k)
  u n := (m (c, Proc.devRef .tc main_arg9) : S204x1.Idx → EReal) (ix2 n 0)
  sb n s := (m (c, Proc.devRef .tc main_arg10) : S204x199.Idx → EReal) (ix2 n s)
  eb n s := (m (c, Proc.devRef .tc main_arg11) : S204x29.Idx → EReal) (ix2 n s)

theorem arg4_read : (V m c main_arg4 : S16x800x237.Idx → EReal) = m (c, Proc.devRef .tc main_arg4) := by unfold V; after_reads_simp
theorem arg7_read : (V m c main_arg7 : S16x200x237.Idx → EReal) = m (c, Proc.devRef .tc main_arg7) := by unfold V; after_reads_simp
theorem arg8_read : (V m c main_arg8 : S2x237.Idx → EReal) = m (c, Proc.devRef .tc main_arg8) := by unfold V; after_reads_simp

theorem host52_read (e : Fin 2) (b : Fin 16) : (V m c main_v52 : S2x16.Idx → EReal) (ix2 e b) = (inK m c).os b e := by
  suffices H : ∀ X, V m c main_v52 = X → (X : S2x16.Idx → EReal) (ix2 e b) = (inK m c).os b e from H _ rfl
  intro X
  unfold V
  after_reads_simp
  rintro rfl
  pointwise [id_eq]
  rfl

theorem host43_read (d : Fin 3) (p : Fin 68) : (V m c main_v43 : S3x68.Idx → EReal) (ix2 d p) = (faceK m c).u ⟨p.val * 3 + d.val, by omega⟩ := by
  suffices H : ∀ X, V m c main_v43 = X → (X : S3x68.Idx → EReal) (ix2 d p) = (faceK m c).u ⟨p.val * 3 + d.val, by omega⟩ from H _ rfl
  intro X
  unfold V
  after_reads_simp
  rintro rfl
  pointwise [id_eq]
  rfl

theorem host47_read (d : Fin 3) (p : Fin 68) (s : Fin 199) (r : Fin 204) (hr : r.val = d.val * 68 + p.val) :
    (V m c main_v47 : S204x199.Idx → EReal) (ix2 r s) = (faceK m c).sb ⟨p.val * 3 + d.val, by omega⟩ s := by
  suffices H : ∀ X, V m c main_v47 = X → (X : S204x199.Idx → EReal) (ix2 r s) = (faceK m c).sb ⟨p.val * 3 + d.val, by omega⟩ s from H _ rfl
  intro X
  unfold V
  after_reads_simp
  rintro rfl
  pointwise [id_eq]
  have hd := d.isLt
  by_cases h1 : r.val < 68
  · rw [dif_pos h1]
    after_reads_simp
    pointwise
    refine congrArg (fun n => (faceK m c).sb n s) (Fin.ext ?_)
    dsimp only
    omega
  by_cases h2 : r.val - 68 < 68
  · rw [dif_neg h1, dif_pos h2]
    after_reads_simp
    pointwise
    refine congrArg (fun n => (faceK m c).sb n s) (Fin.ext ?_)
    dsimp only
    omega
  · rw [dif_neg h1, dif_neg h2]
    after_reads_simp
    pointwise
    refine congrArg (fun n => (faceK m c).sb n s) (Fin.ext ?_)
    dsimp only
    omega

theorem host51_read (d : Fin 3) (p : Fin 68) (s : Fin 29) (r : Fin 204) (hr : r.val = d.val * 68 + p.val) :
    (V m c main_v51 : S204x29.Idx → EReal) (ix2 r s) = (faceK m c).eb ⟨p.val * 3 + d.val, by omega⟩ s := by
  suffices H : ∀ X, V m c main_v51 = X → (X : S204x29.Idx → EReal) (ix2 r s) = (faceK m c).eb ⟨p.val * 3 + d.val, by omega⟩ s from H _ rfl
  intro X
  unfold V
  after_reads_simp
  rintro rfl
  pointwise [id_eq]
  have hd := d.isLt
  by_cases h1 : r.val < 68
  · rw [dif_pos h1]
    after_reads_simp
    pointwise
    refine congrArg (fun n => (faceK m c).eb n s) (Fin.ext ?_)
    dsimp only
    omega
  by_cases h2 : r.val - 68 < 68
  · rw [dif_neg h1, dif_pos h2]
    after_reads_simp
    pointwise
    refine congrArg (fun n => (faceK m c).eb n s) (Fin.ext ?_)
    dsimp only
    omega
  · rw [dif_neg h1, dif_neg h2]
    after_reads_simp
    pointwise
    refine congrArg (fun n => (faceK m c).eb n s) (Fin.ext ?_)
    dsimp only
    omega

theorem iblk1 : (iblk m c 1 t₀ : S2x16.Idx → EReal) = V m c main_v52 := by
  have hz : (fun a => (win0_1.index t₀) a * main_v52.ty.shape.size a) = fun _ => 0 := funext fun a => by fin_cases a <;> decide
  exact Memref.read_access_unit_zero (Elt Ideal) main_v52 hz (fun a => by fin_cases a <;> decide) _

theorem ins1 : (ins m c t₀).x1 = (V m c main_v52 : S2x16.Idx → EReal) := by
  have h := iblk1 m c
  unfold ins
  exact h

theorem iblk4 : (iblk m c 4 t₀ : S16x800x237.Idx → EReal) = V m c main_arg4 := by
  have hz : (fun a => (win0_4.index t₀) a * main_arg4.ty.shape.size a) = fun _ => 0 := funext fun a => by fin_cases a <;> decide
  exact Memref.read_access_unit_zero (Elt Ideal) main_arg4 hz (fun a => by fin_cases a <;> decide) _

theorem ins4 : (ins m c t₀).x4 = (V m c main_arg4 : S16x800x237.Idx → EReal) := by
  have h := iblk4 m c
  unfold ins
  exact h

theorem iblk7 : (iblk m c 7 t₀ : S16x200x237.Idx → EReal) = V m c main_arg7 := by
  have hz : (fun a => (win0_7.index t₀) a * main_arg7.ty.shape.size a) = fun _ => 0 := funext fun a => by fin_cases a <;> decide
  exact Memref.read_access_unit_zero (Elt Ideal) main_arg7 hz (fun a => by fin_cases a <;> decide) _

theorem ins7 : (ins m c t₀).x7 = (V m c main_arg7 : S16x200x237.Idx → EReal) := by
  have h := iblk7 m c
  unfold ins
  exact h

theorem iblk8 : (iblk m c 8 t₀ : S2x237.Idx → EReal) = V m c main_arg8 := by
  have hz : (fun a => (win0_8.index t₀) a * main_arg8.ty.shape.size a) = fun _ => 0 := funext fun a => by fin_cases a <;> decide
  exact Memref.read_access_unit_zero (Elt Ideal) main_arg8 hz (fun a => by fin_cases a <;> decide) _

theorem ins8 : (ins m c t₀).x8 = (V m c main_arg8 : S2x237.Idx → EReal) := by
  have h := iblk8 m c
  unfold ins
  exact h

theorem iblk9 : (iblk m c 9 t₀ : S3x68.Idx → EReal) = V m c main_v43 := by
  have hz : (fun a => (win0_9.index t₀) a * main_v43.ty.shape.size a) = fun _ => 0 := funext fun a => by fin_cases a <;> decide
  exact Memref.read_access_unit_zero (Elt Ideal) main_v43 hz (fun a => by fin_cases a <;> decide) _

theorem ins9 : (ins m c t₀).x9 = (V m c main_v43 : S3x68.Idx → EReal) := by
  have h := iblk9 m c
  unfold ins
  exact h

theorem iblk10 : (iblk m c 10 t₀ : S204x199.Idx → EReal) = V m c main_v47 := by
  have hz : (fun a => (win0_10.index t₀) a * main_v47.ty.shape.size a) = fun _ => 0 := funext fun a => by fin_cases a <;> decide
  exact Memref.read_access_unit_zero (Elt Ideal) main_v47 hz (fun a => by fin_cases a <;> decide) _

theorem ins10 : (ins m c t₀).x10 = (V m c main_v47 : S204x199.Idx → EReal) := by
  have h := iblk10 m c
  unfold ins
  exact h

theorem iblk11 : (iblk m c 11 t₀ : S204x29.Idx → EReal) = V m c main_v51 := by
  have hz : (fun a => (win0_11.index t₀) a * main_v51.ty.shape.size a) = fun _ => 0 := funext fun a => by fin_cases a <;> decide
  exact Memref.read_access_unit_zero (Elt Ideal) main_v51 hz (fun a => by fin_cases a <;> decide) _

theorem ins11 : (ins m c t₀).x11 = (V m c main_v51 : S204x29.Idx → EReal) := by
  have h := iblk11 m c
  unfold ins
  exact h

/-- The windows hold the landmarks' inputs. -/
theorem readsL : ReadsL (ins m c t₀) (inK m c) (faceK m c) where
  h1 e b := by rw [ins1]; exact host52_read m c e b
  h4 b a k := by rw [ins4, arg4_read]; rfl
  h7 b a k := by rw [ins7, arg7_read]; rfl
  h8 i k := by rw [ins8, arg8_read]; rfl
  h9 d p := by rw [ins9]; exact host43_read m c d p
  h10 d p s r hr := by rw [ins10]; exact host47_read m c d p s r hr
  h11 d p s r hr := by rw [ins11]; exact host51_read m c d p s r hr

theorem final_out17 : (dats m 0 c).arrAt 17 cfg0.N = out17 (ins m c t₀) := by
  have ho : ((cfg0.win 17).blk t₀).view.read (Elt Ideal) ((dats m 0 c).arrAt 17 cfg0.N) = (dats m 0 c).flushed 17 t₀ := by
    rw [show cfg0.N = t₀.val + 1 from rfl, (dats m 0 c).arrAt_succ 17 t₀]
    rw [show (cfg0.win 17).flush t₀ = true from by decide, if_pos rfl]
    exact View.read_write_univ _ _
  have hz : (fun a => (win0_17.index t₀) a * main_v61_1.ty.shape.size a) = fun _ => 0 := funext fun a => by fin_cases a <;> decide
  have hr := fun f => Memref.read_access_unit_zero (Elt Ideal) main_v61_1 hz (fun a => by fin_cases a <;> decide) f
  rw [hr] at ho
  rw [ho]
  show (cfg0.win 17).cut _ ((dats m 0 c).after 17 t₀) = _
  rw [after0_17]
  rfl

theorem final_out18 : (dats m 0 c).arrAt 18 cfg0.N = out18 (ins m c t₀) := by
  have ho : ((cfg0.win 18).blk t₀).view.read (Elt Ideal) ((dats m 0 c).arrAt 18 cfg0.N) = (dats m 0 c).flushed 18 t₀ := by
    rw [show cfg0.N = t₀.val + 1 from rfl, (dats m 0 c).arrAt_succ 18 t₀]
    rw [show (cfg0.win 18).flush t₀ = true from by decide, if_pos rfl]
    exact View.read_write_univ _ _
  have hz : (fun a => (win0_18.index t₀) a * main_v61_2.ty.shape.size a) = fun _ => 0 := funext fun a => by fin_cases a <;> decide
  have hr := fun f => Memref.read_access_unit_zero (Elt Ideal) main_v61_2 hz (fun a => by fin_cases a <;> decide) f
  rw [hr] at ho
  rw [ho]
  show (cfg0.win 18).cut _ ((dats m 0 c).after 18 t₀) = _
  rw [after0_18]
  rfl

/-- The second and third results after the run, as functions of the kernel's inputs. -/
theorem final_read17 (b : Fin 16) (j : Fin 100) (p : Fin 68) :
    ((dats m 0 c).arrAt 17 cfg0.N : S1600x68.Idx → EReal) (ix2 ⟨b.val * 100 + j.val, by omega⟩ p) = outL (inK m c) (faceK m c) b j p 0 := by
  rw [final_out17]
  exact out17_read (reads m c) (readsL m c) b j p

theorem final_read18 (b : Fin 16) (j : Fin 100) (p : Fin 68) :
    ((dats m 0 c).arrAt 18 cfg0.N : S1600x68.Idx → EReal) (ix2 ⟨b.val * 100 + j.val, by omega⟩ p) = outL (inK m c) (faceK m c) b j p 1 := by
  rw [final_out18]
  exact out18_read (reads m c) (readsL m c) b j p

end Cert.Proof.KV
end
-- ==== Proof.GatherRead.lean ====
module

public import proofs.«01_k».proof.Proof.Gen.ReferenceIdeal.Run
public import Idealize.ShloMosaic.Lib.Pointwise

@[expose] public section

set_option maxRecDepth 16384

noncomputable section

namespace Cert.Proof.RV

open Idealize.ShloMosaic Cert.ReferenceIdeal Cert.ReferenceIdeal.Gen

variable {α : Type}

/-- A gather reads the operand at the index whose coordinates are start plus batch plus offset. -/
theorem gather_at {s si t : Shape} (D : GatherDims s si t) (x : s.Idx → α) (idx : IVec si 32) (j : t.Idx) (p : s.Idx)
    (h : ∀ a, D.start j idx a + D.batchCoord j a + D.offCoord j a = (p a).val) : Host.gather D x idx j = x p :=
  congrArg x (funext fun a => Fin.ext (h a))

/-- The word of a number below the axis's length, clamped to the axis, is the number. -/
theorem clamp_word (w : BitVec 32) (n N : ℕ) (hw : w = BitVec.ofNat 32 n) (hn : n < N) (hN : N ≤ 2 ^ 31) :
    min w.toInt.toNat (N - 1) = n := by
  have e : w.toInt = n := by
    rw [hw, BitVec.toInt_eq_toNat_of_lt] <;> rw [BitVec.toNat_ofNat, Nat.mod_eq_of_lt (by omega)]; omega
  rw [e, Int.toNat_natCast]; omega

/-- The same read at an index given coordinate by coordinate. -/
theorem clamp_at {si : Shape} (idx : IVec si 32) (i i' : si.Idx) (hi : ∀ a, i a = i' a) (n N : ℕ) (hw : idx i' = BitVec.ofNat 32 n)
    (hn : n < N) (hN : N ≤ 2 ^ 31) : min (idx i).toInt.toNat (N - 1) + 0 + 0 = n :=
  (congrArg (fun i => min (idx i).toInt.toNat (N - 1)) (funext hi)).trans (clamp_word _ n N hw hn hN)

/-- Taking boxes of a level's 800 by the words of numbers. -/
theorem take800 (x : S16x2x800x4.Idx → α) (idx : IVec S16x2x100x1 32) (b : Fin 16) (c : Fin 2) (t : Fin 100) (k : Fin 4) (n : Fin 800)
    (h : idx (ix4 b c t 0) = BitVec.ofNat 32 n.val) :
    Host.gather gather_S16x2x800x4_S16x2x100x1_S16x2x100x4_3_2_01_01_2_3_1114 x idx (ix4 b c t k) = x (ix4 b c n k) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c t 0) (fun | ⟨0, _⟩ => rfl | ⟨1, _⟩ => rfl | ⟨2, _⟩ => rfl | ⟨3, _⟩ => rfl) n 800 h n.2 (by decide)
    | ⟨3, _⟩ => Nat.zero_add _

/-- Taking boxes of a level's 200 by the words of numbers. -/
theorem take200 (x : S16x2x200x4.Idx → α) (idx : IVec S16x2x100x1 32) (b : Fin 16) (c : Fin 2) (t : Fin 100) (k : Fin 4) (n : Fin 200)
    (h : idx (ix4 b c t 0) = BitVec.ofNat 32 n.val) :
    Host.gather gather_S16x2x200x4_S16x2x100x1_S16x2x100x4_3_2_01_01_2_3_1114 x idx (ix4 b c t k) = x (ix4 b c n k) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c t 0) (fun | ⟨0, _⟩ => rfl | ⟨1, _⟩ => rfl | ⟨2, _⟩ => rfl | ⟨3, _⟩ => rfl) n 200 h n.2 (by decide)
    | ⟨3, _⟩ => Nat.zero_add _

/-- Taking one of the 200 candidate boxes by the word of a number. -/
theorem take1 (x : S16x2x200x4.Idx → α) (idx : IVec S16x2x1x1 32) (b : Fin 16) (c : Fin 2) (k : Fin 4) (n : Fin 200)
    (h : idx (ix4 b c 0 0) = BitVec.ofNat 32 n.val) :
    Host.gather gather_S16x2x200x4_S16x2x1x1_S16x2x1x4_3_2_01_01_2_3_1114 x idx (ix4 b c 0 k) = x (ix4 b c n k) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c 0 0) (fun | ⟨0, _⟩ => rfl | ⟨1, _⟩ => rfl | ⟨2, _⟩ => rfl | ⟨3, _⟩ => rfl) n 200 h n.2 (by decide)
    | ⟨3, _⟩ => Nat.zero_add _

/-- Taking the ranked boxes. -/
theorem takeB (x : S16x200x4.Idx → α) (idx : IVec S16x100x1 32) (b : Fin 16) (j : Fin 100) (k : Fin 4) (n : Fin 200)
    (h : idx (ix3 b j 0) = BitVec.ofNat 32 n.val) :
    Host.gather gather_S16x200x4_S16x100x1_S16x100x4_2_1_0_0_1_2_114 x idx (ix3 b j k) = x (ix3 b n k) :=
  gather_at _ _ _ _ _ fun
    | ⟨0, _⟩ => (Nat.add_zero _).trans (Nat.zero_add _)
    | ⟨1, _⟩ => clamp_at idx (GatherDims.siIdx _ _ ⟨0, by decide⟩) (ix3 b j 0) (fun | ⟨0, _⟩ => rfl | ⟨1, _⟩ => rfl | ⟨2, _⟩ => rfl) n 200 h n.2 (by decide)
    | ⟨2, _⟩ => Nat.zero_add _

/-- Taking the ranked classes. -/
theorem takeC (x : S16x200.Idx → α) (idx : IVec S16x100x1 32) (b : Fin 16) (j : Fin 100) (n : Fin 200)
    (h : idx (ix3 b j 0) = BitVec.ofNat 32 n.val) :
    Host.gather gather_S16x200_S16x100x1_S16x100_n_1_0_0_1_2_11 x idx (ix2 b j) = x (ix2 b n) :=
  gather_at _ _ _ _ _ fun
    | ⟨0, _⟩ => (Nat.add_zero _).trans (Nat.zero_add _)
    | ⟨1, _⟩ => clamp_at idx (GatherDims.siIdx _ _ ⟨0, by decide⟩) (ix3 b j 0) (fun | ⟨0, _⟩ => rfl | ⟨1, _⟩ => rfl | ⟨2, _⟩ => rfl) n 200 h n.2 (by decide)

end Cert.Proof.RV

end
-- ==== Proof.TopK.lean ====
module

public import proofs.«01_k».proof.Proof.Rank
public import Idealize.ShloMosaic.Lib.Pointwise
public import Idealize.ShloMosaic.Lib.SortFacts
public import Mathlib.Order.WellFounded

/-! The host's stable descending sort puts the entry of rank `k` at place `k`; the host's top-k read at an index. -/

@[expose] public section

noncomputable section

namespace Cert.Proof.Rank

open Idealize.ShloMosaic
open scoped Classical

variable {n : ℕ}

/-- Inserting an index that is below all of a list in rank order keeps the rank order. -/
theorem pairwise_insert (f : Fin n → EReal) (a : Fin n) : ∀ l : List (Fin n), (∀ b ∈ l, a < b) →
    l.Pairwise (Bef f) → (insertBefore (fun x y => decide (f y < f x)) a l).Pairwise (Bef f)
  | [], _, _ => by simp [insertBefore]
  | b :: l, ha, hl => by
    have h0 := List.pairwise_cons.mp hl
    by_cases h : f a < f b
    · have e : insertBefore (fun x y => decide (f y < f x)) a (b :: l)
          = b :: insertBefore (fun x y => decide (f y < f x)) a l := by simp [insertBefore, h]
      rw [e]
      refine List.pairwise_cons.mpr ⟨fun x hx => ?_,
        pairwise_insert f a l (fun x hx => ha x (List.mem_cons_of_mem _ hx)) h0.2⟩
      rcases List.mem_cons.mp ((perm_insertBefore _ a l).mem_iff.mp hx) with e | hx
      · exact e ▸ .inl h
      · exact h0.1 x hx
    · have e : insertBefore (fun x y => decide (f y < f x)) a (b :: l) = a :: b :: l := by simp [insertBefore, h]
      rw [e]
      have hab : Bef f a b := by
        rcases lt_or_eq_of_le (not_lt.mp h) with g | g
        · exact .inl g
        · exact .inr ⟨g.symm, ha b (List.mem_cons_self ..)⟩
      refine List.pairwise_cons.mpr ⟨fun x hx => ?_, hl⟩
      rcases List.mem_cons.mp hx with e | hx
      · exact e ▸ hab
      · exact hab.trans (h0.1 x hx)

theorem pairwise_sort (f : Fin n → EReal) : ∀ l : List (Fin n), l.Pairwise (· < ·) →
    (stableSort (fun x y => decide (f y < f x)) l).Pairwise (Bef f)
  | [], _ => by simp [stableSort]
  | a :: l, hl => by
    have h0 := List.pairwise_cons.mp hl
    exact pairwise_insert f a _ (fun b hb => h0.1 b ((perm_stableSort _ l).mem_iff.mp hb)) (pairwise_sort f l h0.2)

/-- Place `k` of the stable descending sort holds the entry of rank `k`. -/
theorem sortedFrom_eq_pick (f : Fin n → EReal) (k : Fin n) :
    sortedFrom (fun x y => decide (f y < f x)) k = pick f k := by
  have hp := List.pairwise_iff_get.mp (pairwise_sort f (List.finRange n) (List.pairwise_lt_finRange n))
  have hm : StrictMono fun k : Fin n => (⟨rank f (sortedFrom (fun x y => decide (f y < f x)) k), rank_lt f _⟩ : Fin n) :=
    fun i j hij => rank_lt_of_bef (hp (i.cast (length_sortPositions n _).symm) (j.cast (length_sortPositions n _).symm) hij)
  have hi : (fun k : Fin n => (⟨rank f (sortedFrom (fun x y => decide (f y < f x)) k), rank_lt f _⟩ : Fin n)) = id := by
    refine (hm.range_inj strictMono_id).mp ?_
    rw [(Finite.injective_iff_surjective.mp hm.injective).range_eq, Set.range_id]
  exact (pick_eq (congrArg Fin.val (congrFun hi k))).symm

theorem gt_beq (x y : EReal) :
    ((FloatOps.cmpfTotal (F := Ideal) (φ := .f32) .gt x y) == 1#1) = decide (y < x) := by
  show (BitVec.ofBool (decide (y < x)) == 1#1) = _
  cases decide (y < x) <;> rfl

/-- The host's top-k along the last of three axes: place `q` holds the entry of rank `q`, and its position. -/
theorem topK3 {A B N K : ℕ} (x : (⟨3, ![A, B, N]⟩ : Shape).Idx → EReal)
    (h : (⟨3, ![A, B, N]⟩ : Shape).Slices (fun _ => 0) ⟨3, ![A, B, K]⟩) (hK : K ≤ N) (a : Fin A) (b : Fin B) (q : Fin K) :
    (Host.topK ⟨3, ![A, B, K]⟩ 2 (FloatOps.cmpfTotal (F := Ideal) (φ := .f32) .gt) x h).1 (ix3 a b q)
        = x (ix3 a b (pick (fun l => x (ix3 a b l)) (q.castLE hK)))
      ∧ (Host.topK ⟨3, ![A, B, K]⟩ 2 (FloatOps.cmpfTotal (F := Ideal) (φ := .f32) .gt) x h).2 (ix3 a b q)
        = BitVec.ofNat 32 (pick (fun l => x (ix3 a b l)) (q.castLE hK)).val := by
  let I : (⟨3, ![A, B, N]⟩ : Shape).Idx := fun d => ⟨0 + ((ix3 a b q) (d.cast h.1.symm)).val,
      Nat.lt_of_lt_of_le (Nat.add_lt_add_left ((ix3 a b q) _).isLt _) (h.2 d)⟩
  have e : I = ix3 a b (q.castLE hK) := by
    funext d; apply Fin.ext
    match d with
    | ⟨0, _⟩ => exact Nat.zero_add _
    | ⟨1, _⟩ => exact Nat.zero_add _
    | ⟨2, _⟩ => exact Nat.zero_add _
  have al : ∀ k : Fin N, Shape.Idx.along (s := ⟨3, ![A, B, N]⟩) (ix3 a b (q.castLE hK)) (2 : Fin 3) k = ix3 a b k := by
    intro k; funext d
    match d with
    | ⟨0, _⟩ => rfl
    | ⟨1, _⟩ => rfl
    | ⟨2, _⟩ => rfl
  have r1 : (Host.topK ⟨3, ![A, B, K]⟩ 2 (FloatOps.cmpfTotal (F := Ideal) (φ := .f32) .gt) x h).1 (ix3 a b q) = x (I.along (2 : Fin 3) (sortedFrom (n := N) (fun k k' => FloatOps.cmpfTotal (F := Ideal) (φ := .f32) .gt (x (I.along (2 : Fin 3) k)) (x (I.along (2 : Fin 3) k')) == 1#1) (I (2 : Fin 3)))) := rfl
  have r2 : (Host.topK ⟨3, ![A, B, K]⟩ 2 (FloatOps.cmpfTotal (F := Ideal) (φ := .f32) .gt) x h).2 (ix3 a b q) = BitVec.ofNat 32 (I.along (2 : Fin 3) (sortedFrom (n := N) (fun k k' => FloatOps.cmpfTotal (F := Ideal) (φ := .f32) .gt (x (I.along (2 : Fin 3) k)) (x (I.along (2 : Fin 3) k')) == 1#1) (I (2 : Fin 3))) (2 : Fin 3)).val := rfl
  have sp := sortedFrom_eq_pick (fun l => x (ix3 a b l)) (q.castLE hK)
  rw [r1, r2, e]
  simp only [gt_beq, al]
  constructor
  · exact congrArg (fun p => x (ix3 a b p)) sp
  · exact congrArg (fun p : Fin N => BitVec.ofNat 32 p.val) sp

/-- The host's top-k along the last of two axes: place `q` holds the entry of rank `q`, and its position. -/
theorem topK2 {A N K : ℕ} (x : (⟨2, ![A, N]⟩ : Shape).Idx → EReal)
    (h : (⟨2, ![A, N]⟩ : Shape).Slices (fun _ => 0) ⟨2, ![A, K]⟩) (hK : K ≤ N) (a : Fin A) (q : Fin K) :
    (Host.topK ⟨2, ![A, K]⟩ 1 (FloatOps.cmpfTotal (F := Ideal) (φ := .f32) .gt) x h).1 (ix2 a q)
        = x (ix2 a (pick (fun l => x (ix2 a l)) (q.castLE hK)))
      ∧ (Host.topK ⟨2, ![A, K]⟩ 1 (FloatOps.cmpfTotal (F := Ideal) (φ := .f32) .gt) x h).2 (ix2 a q)
        = BitVec.ofNat 32 (pick (fun l => x (ix2 a l)) (q.castLE hK)).val := by
  let I : (⟨2, ![A, N]⟩ : Shape).Idx := fun d => ⟨0 + ((ix2 a q) (d.cast h.1.symm)).val,
      Nat.lt_of_lt_of_le (Nat.add_lt_add_left ((ix2 a q) _).isLt _) (h.2 d)⟩
  have e : I = ix2 a (q.castLE hK) := by
    funext d; apply Fin.ext
    match d with
    | ⟨0, _⟩ => exact Nat.zero_add _
    | ⟨1, _⟩ => exact Nat.zero_add _
  have al : ∀ k : Fin N, Shape.Idx.along (s := ⟨2, ![A, N]⟩) (ix2 a (q.castLE hK)) (1 : Fin 2) k = ix2 a k := by
    intro k; funext d
    match d with
    | ⟨0, _⟩ => rfl
    | ⟨1, _⟩ => rfl
  have r1 : (Host.topK ⟨2, ![A, K]⟩ 1 (FloatOps.cmpfTotal (F := Ideal) (φ := .f32) .gt) x h).1 (ix2 a q) = x (I.along (1 : Fin 2) (sortedFrom (n := N) (fun k k' => FloatOps.cmpfTotal (F := Ideal) (φ := .f32) .gt (x (I.along (1 : Fin 2) k)) (x (I.along (1 : Fin 2) k')) == 1#1) (I (1 : Fin 2)))) := rfl
  have r2 : (Host.topK ⟨2, ![A, K]⟩ 1 (FloatOps.cmpfTotal (F := Ideal) (φ := .f32) .gt) x h).2 (ix2 a q) = BitVec.ofNat 32 (I.along (1 : Fin 2) (sortedFrom (n := N) (fun k k' => FloatOps.cmpfTotal (F := Ideal) (φ := .f32) .gt (x (I.along (1 : Fin 2) k)) (x (I.along (1 : Fin 2) k')) == 1#1) (I (1 : Fin 2))) (1 : Fin 2)).val := rfl
  have sp := sortedFrom_eq_pick (fun l => x (ix2 a l)) (q.castLE hK)
  rw [r1, r2, e]
  simp only [gt_beq, al]
  constructor
  · exact congrArg (fun p => x (ix2 a p)) sp
  · exact congrArg (fun p : Fin N => BitVec.ofNat 32 p.val) sp

end Cert.Proof.Rank

end
-- ==== Proof.RefVal.lean ====
module

public import proofs.«01_k».proof.Proof.GatherRead
public import proofs.«01_k».proof.Proof.TopK
public import proofs.«01_k».proof.Proof.Spec
public import Idealize.ShloMosaic.Lib.Pointwise

@[expose] public section

set_option maxRecDepth 16384

noncomputable section

namespace Cert.Proof.RV

open Idealize.ShloMosaic Cert.ReferenceIdeal Cert.ReferenceIdeal.Gen Cert.ReferenceIdeal.Value Cert.Proof.Rank Cert.Proof.Spec
open Idealize.ShloMosaic.TcCoe Idealize.ShloMosaic.StableHlo

/-- The candidate boxes in a state of the loop. -/
def boxes (V : Valuation τ sig (Elt Ideal)) : S16x2x200x4.Idx → EReal := V (Proc.devRef .tc main_v211_0)
/-- The working scores in a state of the loop. -/
def scores (V : Valuation τ sig (Elt Ideal)) : S16x2x200.Idx → EReal := V (Proc.devRef .tc main_v211_3)
/-- The selected scores in a state of the loop. -/
def selS (V : Valuation τ sig (Elt Ideal)) : S100x16x2.Idx → EReal := V (Proc.devRef .tc main_v211_4)
/-- The selected boxes in a state of the loop. -/
def selB (V : Valuation τ sig (Elt Ideal)) : S100x16x2x4.Idx → EReal := V (Proc.devRef .tc main_v211_5)

/-- The best candidate's box. -/
theorem best_read (V : Valuation τ sig (Elt Ideal)) (b : Fin 16) (c : Fin 2) (k : Fin 4) :
    (res_main_while0b_v241 V : S16x2x4.Idx → EReal) (ix3 b c k)
      = boxes V (ix4 b c (pick (fun q => scores V (ix3 b c q)) 0) k) := by
  pointwise [res_main_while0b_v241, res_main_while0b_indices_24]
  refine take1 (boxes V) _ b c k _ ?_
  pointwise
  exact (topK3 (scores V) _ (by decide) b c 0).2

/-- One trip's working scores. -/
theorem scores_step (V : Valuation τ sig (Elt Ideal)) (b : Fin 16) (c : Fin 2) :
    (fun q => scores (STEP V) (ix3 b c q))
      = step (fun q k => boxes V (ix4 b c q k)) (fun q => scores V (ix3 b c q)) := by
  funext q
  have e : scores (STEP V) = step_main_v211_3 V := STEP_main_v211_3 V
  have hb : ∀ k, res_main_while0b_v241 V (ix3 b c k) = boxes V (ix4 b c (pick (fun q => scores V (ix3 b c q)) 0) k) := best_read V b c
  have hm : ∀ x : EReal, max 0 x = max x 0 := fun x => max_comm 0 x
  rw [e, step_main_v211_3, res_main_while0b_v274]
  simp only [id_eq]
  pointwise [res_main_while0b_v245, step, iou, inter, area]
  simp only [hb, hm]
  rfl

/-- The counter after `t` trips. -/
theorem counter (V : Valuation τ sig (Elt Ideal)) (h : (V (Proc.devRef .tc main_v211_2) : S_.Idx → BitVec 32) = fun _ => 0#32) (t : ℕ) :
    (STEP^[t] V (Proc.devRef .tc main_v211_2) : S_.Idx → BitVec 32) = fun _ => BitVec.ofNat 32 t := by
  induction t with
  | zero => exact h
  | succ t ih =>
    rw [Function.iterate_succ_apply', STEP_main_v211_2, step_main_v211_2]
    funext i
    have ih' := congrFun ih i
    refine (congrArg (· + 1#32) ih').trans ?_
    exact (BitVec.ofNat_add ..).symm

/-- The candidate boxes stay. -/
theorem boxes_iter (V : Valuation τ sig (Elt Ideal)) (t : ℕ) : boxes (STEP^[t] V) = boxes V := by
  induction t with
  | zero => rfl
  | succ t ih => rw [Function.iterate_succ_apply']; exact (STEP_main_v211_0 _).trans ih

/-- The working scores after `t` trips. -/
theorem scores_iter (V : Valuation τ sig (Elt Ideal)) (b : Fin 16) (c : Fin 2) (t : ℕ) :
    (fun q => scores (STEP^[t] V) (ix3 b c q)) = work (fun q k => boxes V (ix4 b c q k)) (fun q => scores V (ix3 b c q)) t := by
  induction t with
  | zero => rfl
  | succ t ih => rw [Function.iterate_succ_apply', scores_step, ih, boxes_iter, work_succ]

/-- A word's number, read signed. -/
theorem toInt_word (n : ℕ) (h : n < 2 ^ 31) : (BitVec.ofNat 32 n).toInt = n := by
  rw [BitVec.toInt_eq_toNat_of_lt] <;> rw [BitVec.toNat_ofNat, Nat.mod_eq_of_lt (by omega)]; omega

section
variable {α : Type} {s u : Shape} (x : s.Idx → α) (upd : u.Idx → α) (start : Fin s.rank → Int) (h : s.Slices (fun _ => 0) u) (i : s.Idx)

/-- Inside the window an update's element is read. -/
theorem put_in (p : u.Idx) (hin : ∀ a : Fin s.rank, Host.clampedStart s u h.1 start a + (p (a.cast h.1.symm)).val = (i a).val) :
    Host.dynamicUpdateSlice x upd start h i = upd p := by
  rw [Host.dynamicUpdateSlice_apply, dif_pos fun a => ⟨by have := hin a; omega, by have := hin a; have := (p (a.cast h.1.symm)).isLt; omega⟩]
  refine congrArg upd (funext fun b => Fin.ext ?_)
  have := hin (b.cast h.1)
  have e : (b.cast h.1).cast h.1.symm = b := rfl
  rw [e] at this
  show (i (b.cast h.1)).val - Host.clampedStart s u h.1 start (b.cast h.1) = _
  omega

/-- Off the window the operand is read. -/
theorem put_out (a : Fin s.rank) (hout : ¬ (Host.clampedStart s u h.1 start a ≤ (i a).val
    ∧ (i a).val < Host.clampedStart s u h.1 start a + u.size (a.cast h.1.symm))) :
    Host.dynamicUpdateSlice x upd start h i = x i := by
  rw [Host.dynamicUpdateSlice_apply, dif_neg fun g => hout (g a)]

end

/-- The start of a one-row window at row `t` of 100. -/
theorem clamp_row (z : Int) (t : Fin 100) (hz : z = t.val) : (min (max z 0) ((100 - 1 : ℕ) : Int)).toNat = t.val := by
  subst hz; have := t.2; omega

/-- A row of scores put at row `t`. -/
theorem putS {α : Type} (x : S100x16x2.Idx → α) (upd : S1x16x2.Idx → α) (start : Fin 3 → Int) (h : S100x16x2.Slices (fun _ => 0) S1x16x2) (t : Fin 100)
    (h0 : start 0 = t.val) (h1 : start 1 = 0) (h2 : start 2 = 0) (s : Fin 100) (b : Fin 16) (c : Fin 2) :
    Host.dynamicUpdateSlice x upd start h (ix3 s b c) = if s = t then upd (ix3 0 b c) else x (ix3 s b c) := by
  have c0 : Host.clampedStart S100x16x2 S1x16x2 h.1 start 0 = t.val := clamp_row (start 0) t h0
  split_ifs with e
  · subst e
    refine put_in x upd start h (ix3 s b c) (ix3 0 b c) fun
      | ⟨0, _⟩ => (Nat.add_zero _).trans c0
      | ⟨1, _⟩ => (congrArg (fun z : Int => (min (max z 0) ((16 - 16 : ℕ) : Int)).toNat + b.val) h1).trans (Nat.zero_add _)
      | ⟨2, _⟩ => (congrArg (fun z : Int => (min (max z 0) ((2 - 2 : ℕ) : Int)).toNat + c.val) h2).trans (Nat.zero_add _)
  · refine put_out x upd start h (ix3 s b c) (0 : Fin 3) fun g => e (Fin.ext ?_)
    have g1 : _ ≤ s.val ∧ s.val < _ + 1 := g
    rw [c0] at g1
    omega

/-- A row of boxes put at row `t`. -/
theorem putB {α : Type} (x : S100x16x2x4.Idx → α) (upd : S1x16x2x4.Idx → α) (start : Fin 4 → Int) (h : S100x16x2x4.Slices (fun _ => 0) S1x16x2x4) (t : Fin 100)
    (h0 : start 0 = t.val) (h1 : start 1 = 0) (h2 : start 2 = 0) (h3 : start 3 = 0) (s : Fin 100) (b : Fin 16) (c : Fin 2) (k : Fin 4) :
    Host.dynamicUpdateSlice x upd start h (ix4 s b c k) = if s = t then upd (ix4 0 b c k) else x (ix4 s b c k) := by
  have c0 : Host.clampedStart S100x16x2x4 S1x16x2x4 h.1 start 0 = t.val := clamp_row (start 0) t h0
  split_ifs with e
  · subst e
    refine put_in x upd start h (ix4 s b c k) (ix4 0 b c k) fun
      | ⟨0, _⟩ => (Nat.add_zero _).trans c0
      | ⟨1, _⟩ => (congrArg (fun z : Int => (min (max z 0) ((16 - 16 : ℕ) : Int)).toNat + b.val) h1).trans (Nat.zero_add _)
      | ⟨2, _⟩ => (congrArg (fun z : Int => (min (max z 0) ((2 - 2 : ℕ) : Int)).toNat + c.val) h2).trans (Nat.zero_add _)
      | ⟨3, _⟩ => (congrArg (fun z : Int => (min (max z 0) ((4 - 4 : ℕ) : Int)).toNat + k.val) h3).trans (Nat.zero_add _)
  · refine put_out x upd start h (ix4 s b c k) (0 : Fin 4) fun g => e (Fin.ext ?_)
    have g1 : _ ≤ s.val ∧ s.val < _ + 1 := g
    rw [c0] at g1
    omega

/-- One trip's selected scores. -/
theorem selS_step (V : Valuation τ sig (Elt Ideal)) (t : Fin 100) (h : (V (Proc.devRef .tc main_v211_2) : S_.Idx → BitVec 32) = fun _ => BitVec.ofNat 32 t.val)
    (s : Fin 100) (b : Fin 16) (c : Fin 2) :
    selS (STEP V) (ix3 s b c) = if s = t then scores V (ix3 b c (pick (fun q => scores V (ix3 b c q)) 0)) else selS V (ix3 s b c) := by
  have e : selS (STEP V) = step_main_v211_4 V := STEP_main_v211_4 V
  rw [e, step_main_v211_4]
  simp only [id_eq]
  refine (putS (selS V) _ _ _ t ((congrArg BitVec.toInt (congrFun h _)).trans (toInt_word _ (by omega))) rfl rfl s b c).trans ?_
  pointwise
  have e3 := (topK3 (scores V) sliceFits_S16x2x200_S16x2x1 (by decide) b c 0).1
  split_ifs
  · exact e3
  · rfl

/-- One trip's selected boxes. -/
theorem selB_step (V : Valuation τ sig (Elt Ideal)) (t : Fin 100) (h : (V (Proc.devRef .tc main_v211_2) : S_.Idx → BitVec 32) = fun _ => BitVec.ofNat 32 t.val)
    (s : Fin 100) (b : Fin 16) (c : Fin 2) (k : Fin 4) :
    selB (STEP V) (ix4 s b c k) = if s = t then boxes V (ix4 b c (pick (fun q => scores V (ix3 b c q)) 0) k) else selB V (ix4 s b c k) := by
  have e : selB (STEP V) = step_main_v211_5 V := STEP_main_v211_5 V
  rw [e, step_main_v211_5]
  simp only [id_eq]
  refine (putB (selB V) _ _ _ t ((congrArg BitVec.toInt (congrFun h _)).trans (toInt_word _ (by omega))) rfl rfl rfl s b c k).trans ?_
  pointwise
  have e3 := best_read V b c k
  split_ifs
  · exact e3
  · rfl

/-- The selected scores and boxes after `n` trips: a row for each step taken. -/
theorem sel_iter (V : Valuation τ sig (Elt Ideal)) (h : (V (Proc.devRef .tc main_v211_2) : S_.Idx → BitVec 32) = fun _ => 0#32)
    (b : Fin 16) (c : Fin 2) (n : ℕ) (hn : n ≤ 100) (s : Fin 100) (hs : s.val < n) :
    selS (STEP^[n] V) (ix3 s b c) = bestS (fun q k => boxes V (ix4 b c q k)) (fun q => scores V (ix3 b c q)) s
      ∧ ∀ k, selB (STEP^[n] V) (ix4 s b c k) = bestB (fun q k => boxes V (ix4 b c q k)) (fun q => scores V (ix3 b c q)) s k := by
  induction n with
  | zero => omega
  | succ n ih =>
    have hc := counter V h n
    rw [Function.iterate_succ_apply']
    have e := selS_step _ ⟨n, by omega⟩ hc s b c
    have e' := selB_step _ ⟨n, by omega⟩ hc s b c
    rw [scores_iter, boxes_iter] at e'
    rw [scores_iter] at e
    have g := congrFun (scores_iter V b c n)
    by_cases hsn : s = ⟨n, by omega⟩
    · simp only [if_pos hsn] at e e'
      have hv : s.val = n := congrArg Fin.val hsn
      subst hv
      exact ⟨e.trans (g _), e'⟩
    · simp only [if_neg hsn] at e e'
      have hv : s.val ≠ n := fun hv => hsn (Fin.ext hv)
      have := ih (by omega) (by omega)
      exact ⟨e.trans this.1, fun k => (e' k).trans (this.2 k)⟩

/-- The position of an entry of an image's 200 within its class. -/
abbrev pos (i : Fin 200) : Fin 100 := ⟨i % 100, by omega⟩

/-- The selected scores of an image, class by class. -/
def flatS (V : Valuation τ sig (Elt Ideal)) : S16x200.Idx → EReal :=
  shapeCast S16x200 (transpose S16x2x100 [1, 2, 0] (selS V) transposes_S100x16x2_S16x2x100_1_2_0) shapeCasts_S16x2x100_S16x200

/-- Entry `i` of an image's 200 scores. -/
theorem flatS_read (V : Valuation τ sig (Elt Ideal)) (b : Fin 16) (i : Fin 200) : flatS V (ix2 b i) = selS V (ix3 (pos i) b (cls i)) := by
  pointwise [flatS]
  rfl

/-- Entry `i` of an image's 200 boxes. -/
theorem flatB_read (V : Valuation τ sig (Elt Ideal)) (b : Fin 16) (i : Fin 200) (k : Fin 4) :
    shapeCast S16x200x4 (transpose S16x2x100x4 [1, 2, 0, 3] (selB V) transposes_S100x16x2x4_S16x2x100x4_1_2_0_3) shapeCasts_S16x2x100x4_S16x200x4 (ix3 b i k)
      = selB V (ix4 (pos i) b (cls i) k) := by
  pointwise
  rfl

/-- Entry `i`'s class. -/
theorem cls_read (b : Fin 16) (i : Fin 200) :
    shapeCast S16x200 (broadcastInDim S16x2x100 ![0, 1, 2] bcast_S1x2x1_S16x2x100_0_1_2 (broadcastInDim S1x2x1 ![1] bcast_S2_S1x2x1_1 (iotaInDim S2 32 0))) shapeCasts_S16x2x100_S16x200 (ix2 b i)
      = BitVec.ofNat 32 (i / 100) := by
  pointwise

/-- The result after the loop, of the selected scores and boxes. -/
theorem out_read (V : Valuation τ sig (Elt Ideal)) (b : Fin 16) (fs : Fin 200 → EReal) (fb : Fin 200 → Fin 4 → EReal)
    (hS : ∀ i, selS V (ix3 (pos i) b (cls i)) = fs i) (hB : ∀ i k, selB V (ix4 (pos i) b (cls i) k) = fb i k) (j : Fin 100) (k : Fin 6) :
    (out_main_v232 V : S16x100x6.Idx → EReal) (ix3 b j k)
      = if h : k.val < 4 then fb (pick fs (j.castLE (by decide))) ⟨k, h⟩
        else if k.val < 5 then fs (pick fs (j.castLE (by decide)))
        else ((((pick fs (j.castLE (by decide))).val / 100 : ℕ) : ℝ) : EReal) := by
  have hF : (fun i => flatS V (ix2 b i)) = fs := funext fun i => (flatS_read V b i).trans (hS i)
  have ht := topK2 (flatS V) sliceFits_S16x200_S16x100 (by decide) b j
  rw [hF] at ht
  obtain ⟨t1, t2⟩ := ht
  pointwise [out_main_v232]
  by_cases h5 : k.val < 5
  · rw [dif_pos h5]
    by_cases h4 : k.val < 4
    · rw [dif_pos h4, dif_pos h4]
      refine (takeB _ _ b j ⟨k, h4⟩ (pick fs (j.castLE (by decide))) ?_).trans ((flatB_read V b _ _).trans (hB _ _))
      pointwise
      exact t2
    · rw [dif_neg h4, dif_neg h4, if_pos h5]
      exact t1.trans (congrFun hF _)
  · rw [dif_neg h5, dif_neg (by omega), if_neg h5]
    refine (congrArg (FloatOps.sitofp (F := Ideal) .f32) ((takeC _ _ b j (pick fs (j.castLE (by decide))) ?_).trans (cls_read b _))).trans ?_
    · pointwise
      exact t2
    · show (((BitVec.ofNat 32 _).toInt : ℝ) : EReal) = _
      rw [toInt_word _ (by omega)]
      rfl

end Cert.Proof.RV

end
-- ==== Proof.RefLm.lean ====
module

public import proofs.«01_k».proof.Proof.RefVal
public import proofs.«01_k».proof.Proof.SpecL

@[expose] public section

set_option maxRecDepth 16384

noncomputable section

namespace Cert.Proof.RV

open Idealize.ShloMosaic Cert.ReferenceIdeal Cert.ReferenceIdeal.Gen Cert.ReferenceIdeal.Value Cert.Proof.Rank Cert.Proof.Spec
open Idealize.ShloMosaic.TcCoe Idealize.ShloMosaic.StableHlo

/-! The landmarks carried through the loop. -/

/-- The candidates' points in a state of the loop. -/
def lms (V : Valuation τ sig (Elt Ideal)) : S16x2x200x68x2.Idx → EReal := V (Proc.devRef .tc main_v211_1)
/-- The selected points in a state of the loop. -/
def selL (V : Valuation τ sig (Elt Ideal)) : S100x16x2x68x2.Idx → EReal := V (Proc.devRef .tc main_v211_6)

variable {α : Type}

/-- Taking points of a level's 800 by the words of numbers. -/
theorem take800L (x : S16x2x800x68x2.Idx → α) (idx : IVec S16x2x100x1 32) (b : Fin 16) (c : Fin 2) (t : Fin 100) (p : Fin 68) (e : Fin 2) (n : Fin 800)
    (h : idx (ix4 b c t 0) = BitVec.ofNat 32 n.val) :
    Host.gather gather_S16x2x800x68x2_S16x2x100x1_S16x2x100x68x2_34_2_01_01_2_3_111682 x idx (ix5 b c t p e) = x (ix5 b c n p e) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c t 0) (fun | ⟨0, _⟩ => rfl | ⟨1, _⟩ => rfl | ⟨2, _⟩ => rfl | ⟨3, _⟩ => rfl) n 800 h n.2 (by decide)
    | ⟨3, _⟩ => Nat.zero_add _
    | ⟨4, _⟩ => Nat.zero_add _

/-- Taking points of a level's 200 by the words of numbers. -/
theorem take200L (x : S16x2x200x68x2.Idx → α) (idx : IVec S16x2x100x1 32) (b : Fin 16) (c : Fin 2) (t : Fin 100) (p : Fin 68) (e : Fin 2) (n : Fin 200)
    (h : idx (ix4 b c t 0) = BitVec.ofNat 32 n.val) :
    Host.gather gather_S16x2x200x68x2_S16x2x100x1_S16x2x100x68x2_34_2_01_01_2_3_111682 x idx (ix5 b c t p e) = x (ix5 b c n p e) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c t 0) (fun | ⟨0, _⟩ => rfl | ⟨1, _⟩ => rfl | ⟨2, _⟩ => rfl | ⟨3, _⟩ => rfl) n 200 h n.2 (by decide)
    | ⟨3, _⟩ => Nat.zero_add _
    | ⟨4, _⟩ => Nat.zero_add _

/-- Taking one of the 200 candidates' points by the word of a number. -/
theorem take1L (x : S16x2x200x68x2.Idx → α) (idx : IVec S16x2x1x1 32) (b : Fin 16) (c : Fin 2) (p : Fin 68) (e : Fin 2) (n : Fin 200)
    (h : idx (ix4 b c 0 0) = BitVec.ofNat 32 n.val) :
    Host.gather gather_S16x2x200x68x2_S16x2x1x1_S16x2x1x68x2_34_2_01_01_2_3_111682 x idx (ix5 b c 0 p e) = x (ix5 b c n p e) :=
  gather_at _ _ _ _ _ fun
    | ⟨0, _⟩ => (Nat.add_zero _).trans (Nat.zero_add _)
    | ⟨1, _⟩ => (Nat.add_zero _).trans (Nat.zero_add _)
    | ⟨2, _⟩ => clamp_at idx (GatherDims.siIdx _ _ ⟨0, by decide⟩) (ix4 b c 0 0) (fun | ⟨0, _⟩ => rfl | ⟨1, _⟩ => rfl | ⟨2, _⟩ => rfl | ⟨3, _⟩ => rfl) n 200 h n.2 (by decide)
    | ⟨3, _⟩ => Nat.zero_add _
    | ⟨4, _⟩ => Nat.zero_add _

/-- Taking the ranked points. -/
theorem takeL (x : S16x200x68x2.Idx → α) (idx : IVec S16x100x1 32) (b : Fin 16) (j : Fin 100) (p : Fin 68) (e : Fin 2) (n : Fin 200)
    (h : idx (ix3 b j 0) = BitVec.ofNat 32 n.val) :
    Host.gather gather_S16x200x68x2_S16x100x1_S16x100x68x2_23_1_0_0_1_2_11682 x idx (ix4 b j p e) = x (ix4 b n p e) :=
  gather_at _ _ _ _ _ fun
    | ⟨0, _⟩ => (Nat.add_zero _).trans (Nat.zero_add _)
    | ⟨1, _⟩ => clamp_at idx (GatherDims.siIdx _ _ ⟨0, by decide⟩) (ix3 b j 0) (fun | ⟨0, _⟩ => rfl | ⟨1, _⟩ => rfl | ⟨2, _⟩ => rfl) n 200 h n.2 (by decide)
    | ⟨2, _⟩ => Nat.zero_add _
    | ⟨3, _⟩ => Nat.zero_add _

/-- A row of points put at row `t`. -/
theorem putL (x : S100x16x2x68x2.Idx → α) (upd : S1x16x2x68x2.Idx → α) (start : Fin 5 → Int) (h : S100x16x2x68x2.Slices (fun _ => 0) S1x16x2x68x2) (t : Fin 100)
    (h0 : start 0 = t.val) (h1 : start 1 = 0) (h2 : start 2 = 0) (h3 : start 3 = 0) (h4 : start 4 = 0) (s : Fin 100) (b : Fin 16) (c : Fin 2) (p : Fin 68) (e : Fin 2) :
    Host.dynamicUpdateSlice x upd start h (ix5 s b c p e) = if s = t then upd (ix5 0 b c p e) else x (ix5 s b c p e) := by
  have c0 : Host.clampedStart S100x16x2x68x2 S1x16x2x68x2 h.1 start 0 = t.val := clamp_row (start 0) t h0
  split_ifs with g
  · subst g
    refine put_in x upd start h (ix5 s b c p e) (ix5 0 b c p e) fun
      | ⟨0, _⟩ => (Nat.add_zero _).trans c0
      | ⟨1, _⟩ => (congrArg (fun z : Int => (min (max z 0) ((16 - 16 : ℕ) : Int)).toNat + b.val) h1).trans (Nat.zero_add _)
      | ⟨2, _⟩ => (congrArg (fun z : Int => (min (max z 0) ((2 - 2 : ℕ) : Int)).toNat + c.val) h2).trans (Nat.zero_add _)
      | ⟨3, _⟩ => (congrArg (fun z : Int => (min (max z 0) ((68 - 68 : ℕ) : Int)).toNat + p.val) h3).trans (Nat.zero_add _)
      | ⟨4, _⟩ => (congrArg (fun z : Int => (min (max z 0) ((2 - 2 : ℕ) : Int)).toNat + e.val) h4).trans (Nat.zero_add _)
  · refine put_out x upd start h (ix5 s b c p e) (0 : Fin 5) fun g' => g (Fin.ext ?_)
    have g1 : _ ≤ s.val ∧ s.val < _ + 1 := g'
    rw [c0] at g1
    omega

/-- One trip's selected points. -/
theorem selL_step (V : Valuation τ sig (Elt Ideal)) (t : Fin 100) (h : (V (Proc.devRef .tc main_v211_2) : S_.Idx → BitVec 32) = fun _ => BitVec.ofNat 32 t.val)
    (s : Fin 100) (b : Fin 16) (c : Fin 2) (p : Fin 68) (e : Fin 2) :
    selL (STEP V) (ix5 s b c p e) = if s = t then lms V (ix5 b c (pick (fun q => scores V (ix3 b c q)) 0) p e) else selL V (ix5 s b c p e) := by
  have hs : selL (STEP V) = step_main_v211_6 V := STEP_main_v211_6 V
  rw [hs, step_main_v211_6]
  simp only [id_eq]
  refine (putL (selL V) _ _ _ t ((congrArg BitVec.toInt (congrFun h _)).trans (toInt_word _ (by omega))) rfl rfl rfl rfl s b c p e).trans ?_
  split_ifs
  · pointwise [res_main_while0b_indices_24]
    refine take1L (lms V) _ b c p e _ ?_
    pointwise
    exact (topK3 (scores V) _ (by decide) b c 0).2
  · rfl

/-- The candidates' points stay. -/
theorem lms_iter (V : Valuation τ sig (Elt Ideal)) (t : ℕ) : lms (STEP^[t] V) = lms V := by
  induction t with
  | zero => rfl
  | succ t ih => rw [Function.iterate_succ_apply']; exact (STEP_main_v211_1 _).trans ih

/-- The selected points after `n` trips. -/
theorem selL_iter (V : Valuation τ sig (Elt Ideal)) (h : (V (Proc.devRef .tc main_v211_2) : S_.Idx → BitVec 32) = fun _ => 0#32)
    (b : Fin 16) (c : Fin 2) (p : Fin 68) (e : Fin 2) (n : ℕ) (hn : n ≤ 100) (s : Fin 100) (hs : s.val < n) :
    selL (STEP^[n] V) (ix5 s b c p e) = lms V (ix5 b c (best (fun q k => boxes V (ix4 b c q k)) (fun q => scores V (ix3 b c q)) s) p e) := by
  induction n with
  | zero => omega
  | succ n ih =>
    have hc := counter V h n
    rw [Function.iterate_succ_apply']
    have g := selL_step _ ⟨n, by omega⟩ hc s b c p e
    rw [scores_iter, lms_iter] at g
    by_cases hsn : s = ⟨n, by omega⟩
    · rw [if_pos hsn] at g
      have hv : s.val = n := congrArg Fin.val hsn
      subst hv
      exact g
    · rw [if_neg hsn] at g
      have hv : s.val ≠ n := fun hv => hsn (Fin.ext hv)
      exact g.trans (ih (by omega) (by omega))

/-- Entry `i` of an image's 200 selected points. -/
theorem flatL_read (V : Valuation τ sig (Elt Ideal)) (b : Fin 16) (i : Fin 200) (p : Fin 68) (e : Fin 2) :
    shapeCast S16x200x68x2 (transpose S16x2x100x68x2 [1, 2, 0, 3, 4] (selL V) transposes_S100x16x2x68x2_S16x2x100x68x2_1_2_0_3_4) shapeCasts_S16x2x100x68x2_S16x200x68x2 (ix4 b i p e)
      = selL V (ix5 (pos i) b (cls i) p e) := by
  pointwise
  rfl

/-- The points' results after the loop, of the selected scores and points. -/
theorem lm_read (V : Valuation τ sig (Elt Ideal)) (r : Fin 1600) (b : Fin 16) (j : Fin 100) (hr : r.val = b.val * 100 + j.val)
    (fs : Fin 200 → EReal) (fl : Fin 200 → Fin 2 → EReal) (p : Fin 68)
    (hS : ∀ i, selS V (ix3 (pos i) b (cls i)) = fs i) (hL : ∀ i e, selL V (ix5 (pos i) b (cls i) p e) = fl i e) :
    (out_main_v235 V : S1600x68.Idx → EReal) (ix2 r p) = fl (pick fs (j.castLE (by decide))) 0
      ∧ (out_main_v238 V : S1600x68.Idx → EReal) (ix2 r p) = fl (pick fs (j.castLE (by decide))) 1 := by
  have hF : (fun i => flatS V (ix2 b i)) = fs := funext fun i => (flatS_read V b i).trans (hS i)
  have t2 := (topK2 (flatS V) sliceFits_S16x200_S16x100 (by decide) b j).2
  rw [hF] at t2
  have hb : r.val / 100 = b.val := by omega
  have hj : r.val % 100 = j.val := by omega
  constructor
  · pointwise [out_main_v235]
    simp only [hb, hj]
    refine (takeL _ _ b j p 0 (pick fs (j.castLE (by decide))) ?_).trans ((flatL_read V b _ _ _).trans (hL _ _))
    pointwise
    exact t2
  · pointwise [out_main_v238]
    simp only [hb, hj]
    refine (takeL _ _ b j p 1 (pick fs (j.castLE (by decide))) ?_).trans ((flatL_read V b _ _ _).trans (hL _ _))
    pointwise
    exact t2

end Cert.Proof.RV

end
-- ==== Proof.RefEntry.lean ====
module

public import proofs.«01_k».proof.Proof.RefVal
public import Idealize.ShloMosaic.Lib.StableHlo.ReadAt

@[expose] public section

set_option maxRecDepth 16384

noncomputable section

namespace Cert.Proof.RV

open Idealize.ShloMosaic Cert.ReferenceIdeal Cert.ReferenceIdeal.Gen Cert.ReferenceIdeal.Value Cert.Proof.Rank Cert.Proof.Spec
open Idealize.ShloMosaic.TcCoe Idealize.ShloMosaic.StableHlo

variable (m : (ℓ : Loc nD τ sig) → Buf (Elt Ideal) ℓ) (c : Dev nD)

/-- The reference's inputs. -/
def inR : In where
  os b e := (launchContents m c (Proc.devRef .tc main_arg1) : S16x2.Idx → EReal) (ix2 b e)
  c16 b a l := (launchContents m c (Proc.devRef .tc main_arg2) : S16x800x2.Idx → EReal) (ix3 b a l)
  c32 b a l := (launchContents m c (Proc.devRef .tc main_arg5) : S16x200x2.Idx → EReal) (ix3 b a l)
  b16 b a k := (launchContents m c (Proc.devRef .tc main_arg3) : S16x800x4.Idx → EReal) (ix3 b a k)
  b32 b a k := (launchContents m c (Proc.devRef .tc main_arg6) : S16x200x4.Idx → EReal) (ix3 b a k)
  a16 := anc16
  a32 := anc32

/-- The finer level's scores, class before anchor. -/
def sc16 : S16x2x800.Idx → EReal := transpose S16x2x800 [0, 2, 1]
  (Host.divf (F := Ideal) (φ := .f32) (broadcastInDim S16x800x2 ![] bcast_S_S16x800x2 (constant S_ FTy.f32 1065353216#32))
    (addf (broadcastInDim S16x800x2 ![] bcast_S_S16x800x2 (constant S_ FTy.f32 1065353216#32))
      (Host.exp (Host.negf (launchContents m c (Proc.tc.devRef main_arg2)))))) transposes_S16x800x2_S16x2x800_0_2_1
/-- The coarser level's scores, class before anchor. -/
def sc32 : S16x2x200.Idx → EReal := transpose S16x2x200 [0, 2, 1]
  (Host.divf (F := Ideal) (φ := .f32) (broadcastInDim S16x200x2 ![] bcast_S_S16x200x2 (constant S_ FTy.f32 1065353216#32))
    (addf (broadcastInDim S16x200x2 ![] bcast_S_S16x200x2 (constant S_ FTy.f32 1065353216#32))
      (Host.exp (Host.negf (launchContents m c (Proc.tc.devRef main_arg5)))))) transposes_S16x200x2_S16x2x200_0_2_1

/-- Each score is the logistic function of its class value. -/
theorem sc16_read (b : Fin 16) (l : Fin 2) : (fun a => sc16 m c (ix3 b l a)) = s16 (inR m c) b l := by
  funext a
  pointwise [sc16, s16, inR]
  rfl
theorem sc32_read (b : Fin 16) (l : Fin 2) : (fun a => sc32 m c (ix3 b l a)) = s32 (inR m c) b l := by
  funext a
  pointwise [sc32, s32, inR]
  rfl

set_option maxHeartbeats 2000000 in
/-- The loop's boxes on entry are the candidates' boxes. -/
theorem boxes_entry (b : Fin 16) (l : Fin 2) (q : Fin 200) (k : Fin 4) :
    boxes (entryContents preI m c) (ix4 b l q k) = cb (inR m c) b l q k := by
  suffices H : ∀ X, entryContents preI m c (Proc.devRef .tc main_v211_0) = X → X (ix4 b l q k) = cb (inR m c) b l q k from H _ rfl
  intro X
  simp only [entryContents, afterL_cons, afterL_nil]
  after_reads_simp
  rintro rfl
  pointwise [id_eq]
  after_reads_simp
  pointwise [id_eq]
  unfold cb
  by_cases h : q.val < 100
  · rw [dif_pos h, dif_pos h]
    refine (congrArg (· * _) (take800 _ _ b l ⟨q, h⟩ k (sel16 (inR m c) b l ⟨q, h⟩) ?_)).trans ?_
    · pointwise
      rw [sel16, ← sc16_read]
      exact (topK3 (sc16 m c) _ (by decide) b l ⟨q, h⟩).2
    · pointwise
      generalize sel16 (inR m c) b l ⟨q, h⟩ = n
      fin_cases k <;> pointwise
      all_goals
        after_reads_simp
        pointwise
        after_reads_simp
        pointwise
        after_reads_simp
        pointwise [ite_self]
      all_goals split <;> rfl
  · rw [dif_neg h, dif_neg h]
    refine (congrArg (· * _) (take200 _ _ b l ⟨q - 100, by omega⟩ k (sel32 (inR m c) b l ⟨q - 100, by omega⟩) ?_)).trans ?_
    · pointwise
      rw [sel32, ← sc32_read]
      exact (topK3 (sc32 m c) _ (by decide) b l ⟨q - 100, by omega⟩).2
    · pointwise
      generalize sel32 (inR m c) b l ⟨q - 100, by omega⟩ = n
      fin_cases k <;> pointwise
      all_goals
        after_reads_simp
        pointwise
        after_reads_simp
        pointwise
        after_reads_simp
        pointwise [ite_self]
      all_goals split <;> rfl

set_option maxHeartbeats 2000000 in
/-- The loop's scores on entry are the candidates' scores. -/
theorem scores_entry (b : Fin 16) (l : Fin 2) (q : Fin 200) :
    scores (entryContents preI m c) (ix3 b l q) = w0 (inR m c) b l q := by
  suffices H : ∀ X, entryContents preI m c (Proc.devRef .tc main_v211_3) = X → X (ix3 b l q) = w0 (inR m c) b l q from H _ rfl
  intro X
  simp only [entryContents, afterL_cons, afterL_nil]
  after_reads_simp
  rintro rfl
  simp -implicitDefEqProofs only [StableHlo.TRef.toBuf, StableHlo.TRef.ofBuf, cast_cast, cast_eq]
  clean_types
  pointwise [id_eq]
  after_reads_simp
  pointwise
  by_cases h : q.val < 100
  · have h1 := (topK3 (sc16 m c) sliceFits_S16x2x800_S16x2x100 (by decide) b l ⟨q, h⟩).1
    rw [sc16_read] at h1
    replace h1 := h1.trans (congrFun (sc16_read m c b l) _)
    simp only [dif_pos h, w0, cs]
    exact congrArg (fun y : EReal => if Ideal.ofBits .f32 1056964608#32 < y then y else neg) h1
  · have h1 := (topK3 (sc32 m c) sliceFits_S16x2x200_S16x2x100 (by decide) b l ⟨q - 100, by omega⟩).1
    rw [sc32_read] at h1
    replace h1 := h1.trans (congrFun (sc32_read m c b l) _)
    simp only [dif_neg h, w0, cs]
    exact congrArg (fun y : EReal => if Ideal.ofBits .f32 1056964608#32 < y then y else neg) h1

/-- The reference's result, entry by entry, is the specification's. -/
theorem result_read (b : Fin 16) (j : Fin 100) (k : Fin 6) :
    (out_main_v232 (STEP^[100] (entryContents preI m c)) : S16x100x6.Idx → EReal) (ix3 b j k) = out (inR m c) b j k := by
  have hb : ∀ l q k, boxes (entryContents preI m c) (ix4 b l q k) = cb (inR m c) b l q k := boxes_entry m c b
  have hs : ∀ l q, scores (entryContents preI m c) (ix3 b l q) = w0 (inR m c) b l q := scores_entry m c b
  have h := fun i : Fin 200 => sel_iter (entryContents preI m c) (ctr_entry m c) b (cls i) 100 le_rfl (pos i) (pos i).isLt
  simp only [hb, hs] at h
  rw [out_read _ b (fs (inR m c) b) (fb (inR m c) b) (fun i => (h i).1) (fun i k => (h i).2 k)]
  rfl

end Cert.Proof.RV

end
-- ==== Proof.RefLmEntry.lean ====
module

public import proofs.«01_k».proof.Proof.RefLm
public import proofs.«01_k».proof.Proof.RefEntry

@[expose] public section

set_option maxRecDepth 16384

noncomputable section

namespace Cert.Proof.RV

open Idealize.ShloMosaic Cert.ReferenceIdeal Cert.ReferenceIdeal.Gen Cert.ReferenceIdeal.Value Cert.Proof.Rank Cert.Proof.Spec
open Idealize.ShloMosaic.TcCoe Idealize.ShloMosaic.StableHlo

variable (m : (ℓ : Loc nD τ sig) → Buf (Elt Ideal) ℓ) (c : Dev nD)

/-- The reference's inputs to the landmarks. -/
def faceR : Face where
  p16 b a k := (launchContents m c (Proc.devRef .tc main_arg4) : S16x800x237.Idx → EReal) (ix3 b a k)
  p32 b a k := (launchContents m c (Proc.devRef .tc main_arg7) : S16x200x237.Idx → EReal) (ix3 b a k)
  pm i k := (launchContents m c (Proc.devRef .tc main_arg8) : S2x237.Idx → EReal) (ix2 i k)
  u n := (launchContents m c (Proc.devRef .tc main_arg9) : S204x1.Idx → EReal) (ix2 n 0)
  sb n s := (launchContents m c (Proc.devRef .tc main_arg10) : S204x199.Idx → EReal) (ix2 n s)
  eb n s := (launchContents m c (Proc.devRef .tc main_arg11) : S204x29.Idx → EReal) (ix2 n s)

set_option maxHeartbeats 40000000 in
/-- The loop's points on entry are the candidates' points. -/
theorem lms_entry (b : Fin 16) (l : Fin 2) (q : Fin 200) (p : Fin 68) (e : Fin 2) :
    lms (entryContents preI m c) (ix5 b l q p e) = cl (inR m c) (faceR m c) b l q p e := by
  suffices H : ∀ X, entryContents preI m c (Proc.devRef .tc main_v211_1) = X → X (ix5 b l q p e) = cl (inR m c) (faceR m c) b l q p e from H _ rfl
  intro X
  simp only [entryContents, afterL_cons, afterL_nil]
  after_reads_simp
  rintro rfl
  pointwise [id_eq]
  after_reads_simp
  pointwise [id_eq]
  unfold cl row
  by_cases h : q.val < 100
  · rw [dif_pos h, dif_pos h]
    refine (congrArg (· * _) (take800L _ _ b l ⟨q, h⟩ p e (sel16 (inR m c) b l ⟨q, h⟩) ?_)).trans ?_
    · pointwise
      rw [sel16, ← sc16_read]
      exact (topK3 (sc16 m c) _ (by decide) b l ⟨q, h⟩).2
    · pointwise
      generalize sel16 (inR m c) b l ⟨q, h⟩ = n
      unfold lm vert par faceR
      dsimp only
      congr 1
      unfold ratio inR
      dsimp only
      fin_cases e <;> rfl
  · rw [dif_neg h, dif_neg h]
    refine (congrArg (· * _) (take200L _ _ b l ⟨q - 100, by omega⟩ p e (sel32 (inR m c) b l ⟨q - 100, by omega⟩) ?_)).trans ?_
    · pointwise
      rw [sel32, ← sc32_read]
      exact (topK3 (sc32 m c) _ (by decide) b l ⟨q - 100, by omega⟩).2
    · pointwise
      unfold lm vert par faceR
      dsimp only
      congr 1
      unfold ratio inR
      dsimp only
      fin_cases e <;> rfl

/-- The reference's points, entry by entry, are the specification's. -/
theorem lm_result (r : Fin 1600) (b : Fin 16) (j : Fin 100) (hr : r.val = b.val * 100 + j.val) (p : Fin 68) :
    (out_main_v235 (STEP^[100] (entryContents preI m c)) : S1600x68.Idx → EReal) (ix2 r p) = outL (inR m c) (faceR m c) b j p 0
      ∧ (out_main_v238 (STEP^[100] (entryContents preI m c)) : S1600x68.Idx → EReal) (ix2 r p) = outL (inR m c) (faceR m c) b j p 1 := by
  have hb : ∀ l q k, boxes (entryContents preI m c) (ix4 b l q k) = cb (inR m c) b l q k := boxes_entry m c b
  have hs : ∀ l q, scores (entryContents preI m c) (ix3 b l q) = w0 (inR m c) b l q := scores_entry m c b
  have hl : ∀ l q e, lms (entryContents preI m c) (ix5 b l q p e) = cl (inR m c) (faceR m c) b l q p e := fun l q e => lms_entry m c b l q p e
  have h := fun i : Fin 200 => (sel_iter (entryContents preI m c) (ctr_entry m c) b (cls i) 100 le_rfl (pos i) (pos i).isLt).1
  have g := fun (i : Fin 200) (e : Fin 2) => selL_iter (entryContents preI m c) (ctr_entry m c) b (cls i) p e 100 le_rfl (pos i) (pos i).isLt
  simp only [hb, hs] at h
  simp only [hb, hs, hl] at g
  exact lm_read _ r b j hr (fs (inR m c) b) (fun i e => cl (inR m c) (faceR m c) b (cls i) (from_ (inR m c) b i) p e) p h g

end Cert.Proof.RV

end
-- ==== Proof.lean ====
module

public import proofs.«01_k».proof.Defs
public import proofs.«01_k».proof.Proof.KBBody
public import proofs.«01_k».proof.Proof.KVHostL
public import proofs.«01_k».proof.Proof.RefLmEntry
public import proofs.«01_k».proof.Proof.Gen.ReferenceIdeal.Run
public import Idealize.ShloMosaic.Lib.Quiescent
public import Idealize.ShloMosaic.Init

@[expose] public section

noncomputable section

namespace Cert.Proof

open Idealize.ShloMosaic Idealize.SL.Sem

/-- The reference runs, its arguments end unchanged, and it declares no counter. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2.2, sem_eq_zero_of_no_sems rfl r.2⟩) (Cert.ReferenceIdeal.Value.run m ρ)

/-- The kernel and the reference end with the same boxes and the same landmarks. -/
theorem same_result : Cert.algebraic_KernelIdeal_ReferenceIdeal (hKernelIdeal := Cert.KernelIdeal.Gen.facts)
    (hReferenceIdeal := Cert.ReferenceIdeal.Gen.facts) := by
  intro m g m' g' _ hargs
  refine ⟨fun c => (KI.dats m 0 c).arrAt 16 Cert.KernelIdeal.cfg0.N, fun c => (KI.dats m 0 c).arrAt 17 Cert.KernelIdeal.cfg0.N,
    fun c => (KI.dats m 0 c).arrAt 18 Cert.KernelIdeal.cfg0.N, ?_, ?_⟩
  · exact (θ_run Cert.KernelIdeal.defs _ _).mono (fun r h c => ⟨(h.1 c).1 16, (h.1 c).1 17, (h.1 c).1 18, h.2 c⟩)
      (θ_run_and (KI.run_main m g) (KI.unchanged m g))
  · have hin : ∀ c, RV.inR m' c = KV.inK m c := by
      intro c
      obtain ⟨_, h1, h2, h3, _, h5, h6, _⟩ := hargs c
      unfold RV.inR KV.inK
      congr 1
      · exact funext fun b => funext fun e => congrFun h1 (ix2 b e)
      · exact funext fun b => funext fun a => funext fun l => congrFun h2 (ix3 b a l)
      · exact funext fun b => funext fun a => funext fun l => congrFun h5 (ix3 b a l)
      · exact funext fun b => funext fun a => funext fun k => congrFun h3 (ix3 b a k)
      · exact funext fun b => funext fun a => funext fun k => congrFun h6 (ix3 b a k)
    have hface : ∀ c, RV.faceR m' c = KV.faceK m c := by
      intro c
      obtain ⟨_, _, _, _, h4, _, _, h7, h8, h9, h10, h11⟩ := hargs c
      unfold RV.faceR KV.faceK
      congr 1
      · exact funext fun b => funext fun a => funext fun k => congrFun h4 (ix3 b a k)
      · exact funext fun b => funext fun a => funext fun k => congrFun h7 (ix3 b a k)
      · exact funext fun i => funext fun k => congrFun h8 (ix2 i k)
      · exact funext fun n => congrFun h9 (ix2 n 0)
      · exact funext fun n => funext fun s => congrFun h10 (ix2 n s)
      · exact funext fun n => funext fun s => congrFun h11 (ix2 n s)
    have hrow : ∀ i : Cert.KernelIdeal.S1600x68.Idx, ∃ (b : Fin 16) (j : Fin 100) (p : Fin 68), i = ix2 ⟨b.val * 100 + j.val, by omega⟩ p := by
      intro i
      have hi : (i 0).val < 1600 := (i 0).isLt
      refine ⟨⟨(i 0).val / 100, by omega⟩, ⟨(i 0).val % 100, by omega⟩, i 1, funext fun a => ?_⟩
      fin_cases a
      · exact Fin.ext (by show (i 0).val = (i 0).val / 100 * 100 + (i 0).val % 100; omega)
      · rfl
    refine (θ_run Cert.ReferenceIdeal.defs _ _).mono (fun r h c => ⟨(h c).1.trans (funext fun i => ?_), (h c).2.1.trans (funext fun i => ?_),
      (h c).2.2.1.trans (funext fun i => ?_), (h c).2.2.2⟩) (Cert.ReferenceIdeal.Value.run m' g')
    · have hi : i = ix3 (i 0) (i 1) (i 2) := funext fun a => by fin_cases a <;> rfl
      rw [hi]
      exact (RV.result_read m' c (i 0) (i 1) (i 2)).trans ((congrArg (fun I => Spec.out I (i 0) (i 1) (i 2)) (hin c)).trans (KV.final_read m c (i 0) (i 1) (i 2)).symm)
    · obtain ⟨b, j, p, rfl⟩ := hrow i
      exact (RV.lm_result m' c _ b j rfl p).1.trans ((congrArg₂ (fun I L => Spec.outL I L b j p 0) (hin c) (hface c)).trans (KV.final_read17 m c b j p).symm)
    · obtain ⟨b, j, p, rfl⟩ := hrow i
      exact (RV.lm_result m' c _ b j rfl p).2.trans ((congrArg₂ (fun I L => Spec.outL I L b j p 1) (hin c) (hface c)).trans (KV.final_read18 m c b j p).symm)

/-- Everything the certificate claims. -/
theorem claim : Cert.Claim :=
  ⟨Cert.Kernel.Gen.facts, Cert.KernelIdeal.Gen.facts, Cert.ReferenceIdeal.Gen.facts,
    fun m ρ _ => KB.frame m ρ, fun m ρ _ => KI.frame m ρ, reference_frame, trivial, same_result⟩

end Cert.Proof

end
